-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_gate [hPre_finite_gate : Cert.Pre_finite_gate.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_gate.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_gate [hPre_finite_gate : Cert.Pre_finite_gate.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_gate.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Kernel3Ideal_pre_finite_gate [hKernel3Ideal : Cert.Kernel3Ideal.Facts] [hPre_finite_gate : Cert.Pre_finite_gate.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_gate m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Reference3Ideal_pre_finite_gate [hReference3Ideal : Cert.Reference3Ideal.Facts] [hPre_finite_gate : Cert.Pre_finite_gate.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_gate m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  IdealRules.shift_out.By16TwiceStatement Cert.Kernel3Ideal.S8x128

def algebraic_Kernel3Ideal_Reference3Ideal_pre_finite_gate [hKernel3Ideal : Cert.Kernel3Ideal.Facts] [hReference3Ideal : Cert.Reference3Ideal.Facts] [hPre_finite_gate : Cert.Pre_finite_gate.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_gate m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v18)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v75) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v58)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v58) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v147) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v44) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite_gate : Cert.Pre_finite_gate.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_gate (hKernel3Ideal := hKernel3Ideal) (hPre_finite_gate := hPre_finite_gate)
    ∧ quiescent_Reference3Ideal (hReference3Ideal := hReference3Ideal)
    ∧ quiescent_Reference3Ideal_pre_finite_gate (hReference3Ideal := hReference3Ideal) (hPre_finite_gate := hPre_finite_gate)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_gate (hKernel3Ideal := hKernel3Ideal) (hReference3Ideal := hReference3Ideal) (hPre_finite_gate := hPre_finite_gate)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S16x2048x1024 : Shape := ⟨3, ![16, 2048, 1024]⟩
abbrev S16x2048x11264 : Shape := ⟨3, ![16, 2048, 11264]⟩
abbrev S16x256x13312 : Shape := ⟨3, ![16, 256, 13312]⟩
abbrev S4x4x64 : Shape := ⟨3, ![4, 4, 64]⟩
abbrev S4x128 : Shape := ⟨2, ![4, 128]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S16x2048x11264 : S_.BroadcastsInDim S16x2048x11264 (![] : Fin 0 → Fin S16x2048x11264.rank)
  reducesTo_S16x2048x11264_S_d0_1_2 : S16x2048x11264.ReducesTo [0, 1, 2] S_
  bcast_S_S16x256x13312 : S_.BroadcastsInDim S16x256x13312 (![] : Fin 0 → Fin S16x256x13312.rank)
  reducesTo_S16x256x13312_S_d0_1_2 : S16x256x13312.ReducesTo [0, 1, 2] S_
  bcast_S_S4x4x64 : S_.BroadcastsInDim S4x4x64 (![] : Fin 0 → Fin S4x4x64.rank)
  reducesTo_S4x4x64_S_d0_1_2 : S4x4x64.ReducesTo [0, 1, 2] S_

variable [Facts]

def fn_part1 {F : FTy → Type} [FloatOps F] (main_arg4 : FVec F S4x4x64 .f32) (main_v13 : IVec S_ 1) (main_v16 : IVec S16x256x13312 1) : IVec S_ 1 :=
  let main_c_5 : IVec S_ 1 := constantI S_ 1 1#1
  let main_v17 : IVec S_ 1 := (fun x v => Host.reduce IntOp.andi x v reducesTo_S16x256x13312_S_d0_1_2 h_S_) main_v16 main_c_5
  let main_v18 : IVec S_ 1 := andi main_v13 main_v17
  let main_v19 : FVec F S4x4x64 .f32 := Host.absf main_arg4
  let main_cst_6 : FVec F S_ .f32 := constant S_ .f32 0x7F800000#32
  let main_v20 : FVec F S4x4x64 .f32 := broadcastInDim S4x4x64 ![] bcast_S_S4x4x64 main_cst_6
  let main_v21 : IVec S4x4x64 1 := cmpf .olt main_v19 main_v20
  let main_c_7 : IVec S_ 1 := constantI S_ 1 1#1
  let main_v22 : IVec S_ 1 := (fun x v => Host.reduce IntOp.andi x v reducesTo_S4x4x64_S_d0_1_2 h_S_) main_v21 main_c_7
  let main_v23 : IVec S_ 1 := andi main_v18 main_v22
  main_v23

def fn {F : FTy → Type} [FloatOps F] (main_arg0 : FVec F S16x2048x1024 .f32) (main_arg1 : FVec F S16x2048x1024 .f32) (main_arg2 : FVec F S16x2048x11264 .f32) (main_arg3 : FVec F S16x256x13312 .f32) (main_arg4 : FVec F S4x4x64 .f32) (main_arg5 : FVec F S4x128 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S16x2048x1024 .f32 := Host.absf main_arg1
  let main_cst_0 : FVec F S_ .f32 := constant S_ .f32 0x7F800000#32
  let main_v5 : FVec F S16x2048x1024 .f32 := broadcastInDim S16x2048x1024 ![] bcast_S_S16x2048x1024 main_cst_0
  let main_v6 : IVec S16x2048x1024 1 := cmpf .olt main_v4 main_v5
  let main_c_1 : IVec S_ 1 := constantI S_ 1 1#1
  let main_v7 : IVec S_ 1 := (fun x v => Host.reduce IntOp.andi x v reducesTo_S16x2048x1024_S_d0_1_2 h_S_) main_v6 main_c_1
  let main_v8 : IVec S_ 1 := andi main_v3 main_v7
  let main_v9 : FVec F S16x2048x11264 .f32 := Host.absf main_arg2
  let main_cst_2 : FVec F S_ .f32 := constant S_ .f32 0x7F800000#32
  let main_v10 : FVec F S16x2048x11264 .f32 := broadcastInDim S16x2048x11264 ![] bcast_S_S16x2048x11264 main_cst_2
  let main_v11 : IVec S16x2048x11264 1 := cmpf .olt main_v9 main_v10
  let main_c_3 : IVec S_ 1 := constantI S_ 1 1#1
  let main_v12 : IVec S_ 1 := (fun x v => Host.reduce IntOp.andi x v reducesTo_S16x2048x11264_S_d0_1_2 h_S_) main_v11 main_c_3
  let main_v13 : IVec S_ 1 := andi main_v8 main_v12
  let main_v14 : FVec F S16x256x13312 .f32 := Host.absf main_arg3
  let main_cst_4 : FVec F S_ .f32 := constant S_ .f32 0x7F800000#32
  let main_v15 : FVec F S16x256x13312 .f32 := broadcastInDim S16x256x13312 ![] bcast_S_S16x256x13312 main_cst_4
  let main_v16 : IVec S16x256x13312 1 := cmpf .olt main_v14 main_v15
  fn_part1 (F := F) main_arg4 main_v13 main_v16
-- ==== Pre_finite_gate.lean ====
abbrev S16x2048x1024 : Shape := ⟨3, ![16, 2048, 1024]⟩
abbrev S16x2048x11264 : Shape := ⟨3, ![16, 2048, 11264]⟩
abbrev S24x3072 : Shape := ⟨2, ![24, 3072]⟩
abbrev S4x3x1024 : Shape := ⟨3, ![4, 3, 1024]⟩
abbrev S4x1024x1024 : Shape := ⟨3, ![4, 1024, 1024]⟩
abbrev S1024 : Shape := ⟨1, ![1024]⟩
abbrev S_ : Shape := ⟨0, ![]⟩

class Facts : Prop where
  slices_S16x2048x11264_S16x2048x1024_0_0_5120 : S16x2048x11264.Slices ![0, 0, 5120] S16x2048x1024
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel

variable [Facts]

def fn {F : FTy → Type} [FloatOps F] (main_arg0 : FVec F S16x2048x1024 .f32) (main_arg1 : FVec F S16x2048x11264 .f32) (main_arg2 : FVec F S16x2048x1024 .f32) (main_arg3 : FVec F S16x2048x1024 .f32) (main_arg4 : FVec F S24x3072 .f32) (main_arg5 : FVec F S4x3x1024 .f32) (main_arg6 : FVec F S4x1024x1024 .f32) (main_arg7 : FVec F S4x1024x1024 .f32) (main_arg8 : FVec F S4x1024x1024 .f32) (main_arg9 : FVec F S4x1024x1024 .f32) (main_arg10 : FVec F S1024 .f32) : IVec S_ 1 :=
  let main_v0 : FVec F S16x2048x1024 .f32 := (extractStridedSlice S16x2048x1024 ![0, 0, 5120] · slices_S16x2048x11264_S16x2048x1024_0_0_5120) main_arg1
  let main_v1 : FVec F S16x2048x1024 .f32 := Host.absf main_v0
  let main_cst : FVec F S_ .f32 := constant S_ .f32 0x7F800000#32
  let main_v2 : FVec F S16x2048x1024 .f32 := broadcastInDim S16x2048x1024 ![] bcast_S_S16x2048x1024 main_cst
  let main_v3 : IVec S16x2048x1024 1 := cmpf .olt main_v1 main_v2
  let main_c : IVec S_ 1 := constantI S_ 1 1#1
  let main_v4 : IVec S_ 1 := (fun x v => Host.reduce IntOp.andi x v reducesTo_S16x2048x1024_S_d0_1_2 h_S_) main_v3 main_c
  main_v4
-- ==== Kernel.lean ====
abbrev S16x2048x1024 : Shape := ⟨3, ![16, 2048, 1024]⟩
abbrev S16x2048x11264 : Shape := ⟨3, ![16, 2048, 11264]⟩
abbrev S16x256x13312 : Shape := ⟨3, ![16, 256, 13312]⟩
abbrev S4x4x64 : Shape := ⟨3, ![4, 4, 64]⟩
abbrev S4x128 : Shape := ⟨2, ![4, 128]⟩
abbrev S4x1x128 : Shape := ⟨3, ![4, 1, 128]⟩
abbrev S_ : Shape := ⟨0, ![]⟩
abbrev S16x2048x8x2x2x2x16 : Shape := ⟨7, ![16, 2048, 8, 2, 2, 2, 16]⟩
abbrev S16x2048x2048 : Shape := ⟨3, ![16, 2048, 2048]⟩
abbrev S16x256x2048 : Shape := ⟨3, ![16, 256, 2048]⟩
abbrev S16x256x16x2x2x2x16 : Shape := ⟨7, ![16, 256, 16, 2, 2, 2, 16]⟩
abbrev S16x256x11264 : Shape := ⟨3, ![16, 256, 11264]⟩
abbrev S1x4x64 : Shape := ⟨3, ![1, 4, 64]⟩
abbrev S1x1x128 : Shape := ⟨3, ![1, 1, 128]⟩
abbrev S1x2048x256 : Shape := ⟨3, ![1, 2048, 256]⟩
abbrev S1x256x256 : Shape := ⟨3, ![1, 256, 256]⟩
abbrev S1x512x128 : Shape := ⟨3, ![1, 512, 128]⟩
abbrev S1x2048x128 : Shape := ⟨3, ![1, 2048, 128]⟩
abbrev S1x256x128 : Shape := ⟨3, ![1, 256, 128]⟩
abbrev S2x2304x128 : Shape := ⟨3, ![2, 2304, 128]⟩
abbrev S2x2304x256 : Shape := ⟨3, ![2, 2304, 256]⟩
abbrev S2304x128 : Shape := ⟨2, ![2304, 128]⟩
abbrev S2x512x2304 : Shape := ⟨3, ![2, 512, 2304]⟩
abbrev S2048x128 : Shape := ⟨2, ![2048, 128]⟩
abbrev S256x128 : Shape := ⟨2, ![256, 128]⟩
abbrev S1x2304x128 : Shape := ⟨3, ![1, 2304, 128]⟩
abbrev S4x64 : Shape := ⟨2, ![4, 64]⟩
abbrev S1x64 : Shape := ⟨2, ![1, 64]⟩
abbrev S1 : Shape := ⟨1, ![1]⟩
abbrev S1x1 : Shape := ⟨2, ![1, 1]⟩
abbrev S512x128 : Shape := ⟨2, ![512, 128]⟩
abbrev S512x2304 : Shape := ⟨2, ![512, 2304]⟩
abbrev S1x512x2304 : Shape := ⟨3, ![1, 512, 2304]⟩
abbrev S512 : Shape := ⟨1, ![512]⟩
abbrev S512x1 : Shape := ⟨2, ![512, 1]⟩
abbrev S1x2304x256 : Shape := ⟨3, ![1, 2304, 256]⟩
abbrev S2304x256 : Shape := ⟨2, ![2304, 256]⟩
abbrev S512x256 : Shape := ⟨2, ![512, 256]⟩
abbrev S256 : Shape := ⟨1, ![256]⟩
abbrev S256x1 : Shape := ⟨2, ![256, 1]⟩
abbrev S1x128 : Shape := ⟨2, ![1, 128]⟩

abbrev nBuf : Space → Nat
  | .hbm => 33
  | .vmem => 26
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x11264, .f32⟩
  | .hbm, ⟨3, _⟩ => ⟨S16x256x13312, .f32⟩
  | .hbm, ⟨4, _⟩ => ⟨S4x4x64, .f32⟩
  | .hbm, ⟨5, _⟩ => ⟨S4x128, .f32⟩
  | .hbm, ⟨6, _⟩ => ⟨S4x1x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16x2048x8x2x2x2x16, .f32⟩
  | .hbm, ⟨14, _⟩ => ⟨S16x2048x8x2x2x2x16, .f32⟩
  | .hbm, ⟨15, _⟩ => ⟨S16x2048x1024, .f32⟩
  | .hbm, ⟨16, _⟩ => ⟨S_, .f32⟩
  | .hbm, ⟨17, _⟩ => ⟨S16x2048x1024, .f32⟩
  | .hbm, ⟨18, _⟩ => ⟨S16x2048x1024, .f32⟩
  | .hbm, ⟨19, _⟩ => ⟨S16x2048x8x2x2x2x16, .f32⟩
  | .hbm, ⟨20, _⟩ => ⟨S16x2048x8x2x2x2x16, .f32⟩
  | .hbm, ⟨21, _⟩ => ⟨S16x2048x1024, .f32⟩
  | .hbm, ⟨22, _⟩ => ⟨S16x2048x2048, .f32⟩
  | .hbm, ⟨23, _⟩ => ⟨S16x2048x2048, .bf16⟩
  | .hbm, ⟨24, _⟩ => ⟨S16x256x2048, .f32⟩
  | .hbm, ⟨25, _⟩ => ⟨S16x256x16x2x2x2x16, .f32⟩
  | .hbm, ⟨26, _⟩ => ⟨S16x256x16x2x2x2x16, .f32⟩
  | .hbm, ⟨27, _⟩ => ⟨S16x256x2048, .f32⟩
  | .hbm, ⟨28, _⟩ => ⟨S16x256x11264, .f32⟩
  | .hbm, ⟨29, _⟩ => ⟨S16x256x13312, .f32⟩
  | .hbm, ⟨30, _⟩ => ⟨S16x256x13312, .bf16⟩
  | .hbm, ⟨31, _⟩ => ⟨S16x2048x11264, .bf16⟩
  | .hbm, ⟨32, _⟩ => ⟨S16x2048x1024, .bf16⟩
  | .local _ .vmem, ⟨0, _⟩ => ⟨S1x4x64, .f32⟩
  | .local _ .vmem, ⟨1, _⟩ => ⟨S1x1x128, .f32⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S1x256x256, .bf16⟩
  | .local _ .vmem, ⟨11, _⟩ => ⟨S1x256x256, .bf16⟩
  | .local _ .vmem, ⟨12, _⟩ => ⟨S1x256x256, .bf16⟩
  | .local _ .vmem, ⟨13, _⟩ => ⟨S1x256x256, .bf16⟩
  | .local _ .vmem, ⟨14, _⟩ => ⟨S1x512x128, .bf16⟩
  | .local _ .vmem, ⟨15, _⟩ => ⟨S1x512x128, .bf16⟩
  | .local _ .vmem, ⟨16, _⟩ => ⟨S1x2048x128, .bf16⟩
  | .local _ .vmem, ⟨17, _⟩ => ⟨S1x2048x128, .bf16⟩
  | .local _ .vmem, ⟨18, _⟩ => ⟨S1x256x128, .bf16⟩
  | .local _ .vmem, ⟨19, _⟩ => ⟨S1x256x128, .bf16⟩
  | .local _ .vmem, ⟨20, _⟩ => ⟨S1x2048x256, .bf16⟩
  | .local _ .vmem, ⟨21, _⟩ => ⟨S1x2048x256, .bf16⟩
  | .local _ .vmem, ⟨22, _⟩ => ⟨S2x2304x128, .bf16⟩
  | .local _ .vmem, ⟨23, _⟩ => ⟨S2x2304x256, .bf16⟩
  | .local _ .vmem, ⟨24, _⟩ => ⟨S2304x128, .bf16⟩
  | .local _ .vmem, ⟨25, _⟩ => ⟨S2x512x2304, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.addi v1 c1_i32
  let c63_i32 : BitVec 32 := 63#32
  let v3 : BitVec 32 := Scalar.minsi v2 c63_i32
  let c4_i32_0 : BitVec 32 := 4#32
  let v4 : BitVec 32 := Scalar.divsi v3 c4_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v3 c4_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v3 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c2_i32 : BitVec 32 := 2#32
  let v31 : BitVec 32 := Scalar.muli v30 c2_i32
  let c0_i32_12 : BitVec 32 := 0#32
  let v32 : BitVec 32 := Scalar.addi c0_i32_12 v31
  let c0_i32_13 : BitVec 32 := 0#32
  let c0_i32_14 : BitVec 32 := 0#32
  ![v20.toNat, c0_i32_13.toNat, v32.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.addi v1 c1_i32
  let c63_i32 : BitVec 32 := 63#32
  let v3 : BitVec 32 := Scalar.minsi v2 c63_i32
  let c4_i32_0 : BitVec 32 := 4#32
  let v4 : BitVec 32 := Scalar.divsi v3 c4_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v3 c4_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v3 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c2_i32 : BitVec 32 := 2#32
  let v31 : BitVec 32 := Scalar.muli v30 c2_i32
  let c8_i32 : BitVec 32 := 8#32
  let v32 : BitVec 32 := Scalar.addi c8_i32 v31
  let c0_i32_12 : BitVec 32 := 0#32
  let c0_i32_13 : BitVec 32 := 0#32
  ![v20.toNat, c0_i32_12.toNat, v32.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.addi v1 c1_i32
  let c63_i32 : BitVec 32 := 63#32
  let v3 : BitVec 32 := Scalar.minsi v2 c63_i32
  let c4_i32_0 : BitVec 32 := 4#32
  let v4 : BitVec 32 := Scalar.divsi v3 c4_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v3 c4_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v3 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c2_i32 : BitVec 32 := 2#32
  let v31 : BitVec 32 := Scalar.muli v30 c2_i32
  let c8_i32 : BitVec 32 := 8#32
  let v32 : BitVec 32 := Scalar.addi c8_i32 v31
  let c0_i32_12 : BitVec 32 := 0#32
  let c0_i32_13 : BitVec 32 := 0#32
  ![v20.toNat, c0_i32_12.toNat, v32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

abbrev stage0_0 : Fin 1 → Memref sig .tc .vmem S1x4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S16x2048x1024 : Shape := ⟨3, ![16, 2048, 1024]⟩
abbrev S16x2048x11264 : Shape := ⟨3, ![16, 2048, 11264]⟩
abbrev S16x256x13312 : Shape := ⟨3, ![16, 256, 13312]⟩
abbrev S4x4x64 : Shape := ⟨3, ![4, 4, 64]⟩
abbrev S4x128 : Shape := ⟨2, ![4, 128]⟩
abbrev S1x4x64 : Shape := ⟨3, ![1, 4, 64]⟩
abbrev S4x64 : Shape := ⟨2, ![4, 64]⟩
abbrev S1x64 : Shape := ⟨2, ![1, 64]⟩
abbrev S64 : Shape := ⟨1, ![64]⟩
abbrev S_ : Shape := ⟨0, ![]⟩
abbrev S16x256x1024 : Shape := ⟨3, ![16, 256, 1024]⟩
abbrev S16x2048x8x2x64 : Shape := ⟨5, ![16, 2048, 8, 2, 64]⟩
abbrev S16x8x2x2048x64 : Shape := ⟨5, ![16, 8, 2, 2048, 64]⟩
abbrev S16x256x8x2x64 : Shape := ⟨5, ![16, 256, 8, 2, 64]⟩
abbrev S16x8x2x256x64 : Shape := ⟨5, ![16, 8, 2, 256, 64]⟩
abbrev S16x8x2x2304x64 : Shape := ⟨5, ![16, 8, 2, 2304, 64]⟩
abbrev S16x2048x8x128 : Shape := ⟨4, ![16, 2048, 8, 128]⟩
abbrev S16x8x2048x128 : Shape := ⟨4, ![16, 8, 2048, 128]⟩
abbrev S16x256x8x128 : Shape := ⟨4, ![16, 256, 8, 128]⟩
abbrev S16x8x256x128 : Shape := ⟨4, ![16, 8, 256, 128]⟩
abbrev S16x8x2304x128 : Shape := ⟨4, ![16, 8, 2304, 128]⟩
abbrev S16x8x2x2048x2304 : Shape := ⟨5, ![16, 8, 2, 2048, 2304]⟩
abbrev S16x8x2x2048 : Shape := ⟨4, ![16, 8, 2, 2048]⟩
abbrev S16x8x2x2048x1 : Shape := ⟨5, ![16, 8, 2, 2048, 1]⟩
abbrev S16x8x1x2048x2304 : Shape := ⟨5, ![16, 8, 1, 2048, 2304]⟩
abbrev S16x8x2048x2304 : Shape := ⟨4, ![16, 8, 2048, 2304]⟩
abbrev S16x8x2048 : Shape := ⟨3, ![16, 8, 2048]⟩
abbrev S16x8x2048x1 : Shape := ⟨4, ![16, 8, 2048, 1]⟩
abbrev S1x128 : Shape := ⟨2, ![1, 128]⟩
abbrev S128 : Shape := ⟨1, ![128]⟩
abbrev S1x1x1x128 : Shape := ⟨4, ![1, 1, 1, 128]⟩

abbrev nBuf : Space → Nat
  | .hbm => 103
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x11264, .f32⟩
  | .hbm, ⟨3, _⟩ => ⟨S16x256x13312, .f32⟩
  | .hbm, ⟨4, _⟩ => ⟨S4x4x64, .f32⟩
  | .hbm, ⟨5, _⟩ => ⟨S4x128, .f32⟩
  | .hbm, ⟨6, _⟩ => ⟨S1x4x64, .f32⟩
  | .hbm, ⟨7, _⟩ => ⟨S4x64, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S16x2048x1024, .f32⟩
  | .hbm, ⟨28, _⟩ => ⟨S16x2048x1024, .f32⟩
  | .hbm, ⟨29, _⟩ => ⟨S16x256x1024, .f32⟩
  | .hbm, ⟨30, _⟩ => ⟨S16x256x1024, .f32⟩
  | .hbm, ⟨31, _⟩ => ⟨S16x2048x8x2x64, .f32⟩
  | .hbm, ⟨32, _⟩ => ⟨S16x8x2x2048x64, .f32⟩
  | .hbm, ⟨33, _⟩ => ⟨S16x256x8x2x64, .f32⟩
  | .hbm, ⟨34, _⟩ => ⟨S16x8x2x256x64, .f32⟩
  | .hbm, ⟨35, _⟩ => ⟨S16x8x2x2304x64, .f32⟩
  | .hbm, ⟨36, _⟩ => ⟨S16x2048x8x128, .f32⟩
  | .hbm, ⟨37, _⟩ => ⟨S16x8x2048x128, .f32⟩
  | .hbm, ⟨38, _⟩ => ⟨S16x256x8x128, .f32⟩
  | .hbm, ⟨39, _⟩ => ⟨S16x8x256x128, .f32⟩
  | .hbm, ⟨40, _⟩ => ⟨S16x8x2304x128, .f32⟩
  | .hbm, ⟨41, _⟩ => ⟨S16x2048x8x2x64, .f32⟩
  | .hbm, ⟨42, _⟩ => ⟨S16x8x2x2048x64, .f32⟩
  | .hbm, ⟨43, _⟩ => ⟨S16x8x2x2048x2304, .f32⟩
  | .hbm, ⟨44, _⟩ => ⟨S_, .f32⟩
  | .hbm, ⟨45, _⟩ => ⟨S16x8x2x2048x2304, .f32⟩
  | .hbm, ⟨46, _⟩ => ⟨S16x8x2x2048x2304, .f32⟩
  | .hbm, ⟨47, _⟩ => ⟨S_, .f32⟩
  | .hbm, ⟨48, _⟩ => ⟨S16x8x2x2048, .f32⟩
  | .hbm, ⟨49, _⟩ => ⟨S_, .f32⟩
  | .hbm, ⟨50, _⟩ => ⟨S16x8x2x2048, .f32⟩
  | .hbm, ⟨51, _⟩ => ⟨S16x8x2x2048, .f32⟩
  | .hbm, ⟨52, _⟩ => ⟨S16x8x2x2048x1, .f32⟩
  | .hbm, ⟨53, _⟩ => ⟨S16x8x2x2048x2304, .f32⟩
  | .hbm, ⟨54, _⟩ => ⟨S16x8x2x2048x2304, .f32⟩
  | .hbm, ⟨55, _⟩ => ⟨S16x8x2x2048x2304, .f32⟩
  | .hbm, ⟨56, _⟩ => ⟨S_, .f32⟩
  | .hbm, ⟨57, _⟩ => ⟨S16x8x2x2048, .f32⟩
  | .hbm, ⟨58, _⟩ => ⟨S16x8x2x2048x1, .f32⟩
  | .hbm, ⟨59, _⟩ => ⟨S16x8x2x2048x2304, .f32⟩
  | .hbm, ⟨60, _⟩ => ⟨S16x8x2x2048x2304, .f32⟩
  | .hbm, ⟨61, _⟩ => ⟨S16x8x1x2048x2304, .f32⟩
  | .hbm, ⟨62, _⟩ => ⟨S16x8x2048x2304, .f32⟩
  | .hbm, ⟨63, _⟩ => ⟨S16x8x1x2048x2304, .f32⟩
  | .hbm, ⟨64, _⟩ => ⟨S16x8x2048x2304, .f32⟩
  | .hbm, ⟨65, _⟩ => ⟨S16x8x2048x2304, .f32⟩
  | .hbm, ⟨66, _⟩ => ⟨S16x8x2048x2304, .f32⟩
  | .hbm, ⟨67, _⟩ => ⟨S16x8x2048x2304, .f32⟩
  | .hbm, ⟨68, _⟩ => ⟨S16x8x2048x128, .f32⟩
  | .hbm, ⟨69, _⟩ => ⟨S16x8x2048x128, .f32⟩
  | .hbm, ⟨70, _⟩ => ⟨S_, .f32⟩
  | .hbm, ⟨71, _⟩ => ⟨S16x8x2048, .f32⟩
  | .hbm, ⟨72, _⟩ => ⟨S16x8x2048x1, .f32⟩
  | .hbm, ⟨73, _⟩ => ⟨S_, .f32⟩
  | .hbm, ⟨74, _⟩ => ⟨S16x8x2048x1, .f32⟩
  | .hbm, ⟨75, _⟩ => ⟨S16x8x2048x1, .f32⟩
  | .hbm, ⟨76, _⟩ => ⟨S_, .f32⟩
  | .hbm, ⟨77, _⟩ => ⟨S16x8x2048x1, .f32⟩
  | .hbm, ⟨78, _⟩ => ⟨S16x8x2048x1, .f32⟩
  | .hbm, ⟨79, _⟩ => ⟨S16x8x2048x1, .f32⟩
  | .hbm, ⟨80, _⟩ => ⟨S16x8x2048x128, .f32⟩
  | .hbm, ⟨81, _⟩ => ⟨S16x8x2048x128, .f32⟩
  | .hbm, ⟨82, _⟩ => ⟨S1x128, .f32⟩
  | .hbm, ⟨83, _⟩ => ⟨S128, .f32⟩
  | .hbm, ⟨84, _⟩ => ⟨S1x1x1x128, .f32⟩
  | .hbm, ⟨85, _⟩ => ⟨S16x8x2048x128, .f32⟩
  | .hbm, ⟨86, _⟩ => ⟨S16x8x2048x128, .f32⟩
  | .hbm, ⟨87, _⟩ => ⟨S_, .f32⟩
  | .hbm, ⟨88, _⟩ => ⟨S16x8x2048x128, .f32⟩
  | .hbm, ⟨89, _⟩ => ⟨S16x8x2048x128, .f32⟩
  | .hbm, ⟨90, _⟩ => ⟨S16x2048x8x128, .f32⟩
  | .hbm, ⟨91, _⟩ => ⟨S16x2048x1024, .f32⟩
  | .hbm, ⟨92, _⟩ => ⟨S16x2048x1024, .f32⟩
  | .hbm, ⟨93, _⟩ => ⟨S16x2048x1024, .f32⟩
  | .hbm, ⟨94, _⟩ => ⟨S_, .f32⟩
  | .hbm, ⟨95, _⟩ => ⟨S16x2048x1024, .f32⟩
  | .hbm, ⟨96, _⟩ => ⟨S16x2048x1024, .f32⟩
  | .hbm, ⟨97, _⟩ => ⟨S_, .f32⟩
  | .hbm, ⟨98, _⟩ => ⟨S16x2048x1024, .f32⟩
  | .hbm, ⟨99, _⟩ => ⟨S16x2048x1024, .f32⟩
  | .hbm, ⟨100, _⟩ => ⟨S16x2048x1024, .f32⟩
  | .hbm, ⟨101, _⟩ => ⟨S16x2048x1024, .f32⟩
  | .hbm, ⟨102, _⟩ => ⟨S16x2048x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_6 : Ref sig .tc := ⟨.hbm, 70, rfl⟩
abbrev main_v57 : Ref sig .tc := ⟨.hbm, 71, rfl⟩
abbrev main_v58 : Ref sig .tc := ⟨.hbm, 72, rfl⟩
abbrev main_cst_7 : Ref sig .tc := ⟨.hbm, 73, rfl⟩
abbrev main_v59 : Ref sig .tc := ⟨.hbm, 74, rfl⟩
abbrev main_v60 : Ref sig .tc := ⟨.hbm, 75, rfl⟩
abbrev main_cst_8 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_9 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_call0_v0 : Ref sig .tc := ⟨.hbm, 92, rfl⟩
abbrev main_call0_v1 : Ref sig .tc := ⟨.hbm, 93, rfl⟩
abbrev main_call0_cst : Ref sig .tc := ⟨.hbm, 94, rfl⟩
abbrev main_call0_v2 : Ref sig .tc := ⟨.hbm, 95, rfl⟩
abbrev main_call0_v3 : Ref sig .tc := ⟨.hbm, 96, rfl⟩
abbrev main_call0_cst_0 : Ref sig .tc := ⟨.hbm, 97, rfl⟩
abbrev main_call0_v4 : Ref sig .tc := ⟨.hbm, 98, rfl⟩
abbrev main_call0_v5 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩

abbrev nD : Nat := 1
abbrev τ : Topo := Topo.v7x

variable {F : FTy → Type} [FloatOps F]
-- ==== Kernel2.lean ====
abbrev S16x2048x1024 : Shape := ⟨3, ![16, 2048, 1024]⟩
abbrev S4x1024x13312 : Shape := ⟨3, ![4, 1024, 13312]⟩
abbrev S4x1024x2048 : Shape := ⟨3, ![4, 1024, 2048]⟩
abbrev S4x1024x16x2x2x2x16 : Shape := ⟨7, ![4, 1024, 16, 2, 2, 2, 16]⟩
abbrev S_ : Shape := ⟨0, ![]⟩
abbrev S1 : Shape := ⟨1, ![1]⟩
abbrev S16x2048x11264 : Shape := ⟨3, ![16, 2048, 11264]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 12
  | .vmem => 6
  | .smem => 0
  | _ => 0

abbrev bufTy : (tb : Table) → Fin (tcTables nBuf tb) → BufTy
  | .hbm, ⟨0, _⟩ => ⟨S16x2048x1024, .f32⟩
  | .hbm, ⟨1, _⟩ => ⟨S4x1024x13312, .f32⟩
  | .hbm, ⟨2, _⟩ => ⟨S4x1024x13312, .bf16⟩
  | .hbm, ⟨3, _⟩ => ⟨S4x1024x2048, .bf16⟩
  | .hbm, ⟨4, _⟩ => ⟨S4x1024x16x2x2x2x16, .bf16⟩
  | .hbm, ⟨5, _⟩ => ⟨S4x1024x16x2x2x2x16, .bf16⟩
  | .hbm, ⟨6, _⟩ => ⟨S4x1024x2048, .bf16⟩
  | .hbm, ⟨7, _⟩ => ⟨S_, .i32⟩
  | .hbm, ⟨8, _⟩ => ⟨S1, .i32⟩
  | .hbm, ⟨9, _⟩ => ⟨S4x1024x13312, .bf16⟩
  | .hbm, ⟨10, _⟩ => ⟨S16x2048x1024, .bf16⟩
  | .hbm, ⟨11, _⟩ => ⟨S16x2048x11264, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x2048x1024, .bf16⟩
  | .local _ .vmem, ⟨5, _⟩ => ⟨S1x2048x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 11], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c1_i32 : BitVec 32 := 1#32
  let c0_i32 : BitVec 32 := 0#32
  let c0_i32_0 : BitVec 32 := 0#32
  ![c1_i32.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference2Ideal.lean ====
abbrev S16x2048x1024 : Shape := ⟨3, ![16, 2048, 1024]⟩
abbrev S4x1024x13312 : Shape := ⟨3, ![4, 1024, 13312]⟩
abbrev S1x1024x13312 : Shape := ⟨3, ![1, 1024, 13312]⟩
abbrev S1024x13312 : Shape := ⟨2, ![1024, 13312]⟩
abbrev S16x2048x13312 : Shape := ⟨3, ![16, 2048, 13312]⟩
abbrev S16x2048x11264 : Shape := ⟨3, ![16, 2048, 11264]⟩

abbrev nBuf : Space → Nat
  | .hbm => 7
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S4x1024x13312, .f32⟩
  | .hbm, ⟨2, _⟩ => ⟨S1x1024x13312, .f32⟩
  | .hbm, ⟨3, _⟩ => ⟨S1024x13312, .f32⟩
  | .hbm, ⟨4, _⟩ => ⟨S16x2048x13312, .f32⟩
  | .hbm, ⟨5, _⟩ => ⟨S16x2048x11264, .f32⟩
  | .hbm, ⟨6, _⟩ => ⟨S16x2048x11264, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x2048x11264 : Shape := ⟨3, ![16, 2048, 11264]⟩
abbrev S24x3072 : Shape := ⟨2, ![24, 3072]⟩
abbrev S4x3x1024 : Shape := ⟨3, ![4, 3, 1024]⟩
abbrev S4x1024x1024 : Shape := ⟨3, ![4, 1024, 1024]⟩
abbrev S1024 : Shape := ⟨1, ![1024]⟩
abbrev S24x1x3072 : Shape := ⟨3, ![24, 1, 3072]⟩
abbrev S16x2x2x512x1024 : Shape := ⟨5, ![16, 2, 2, 512, 1024]⟩
abbrev S16x1x2x512x1024 : Shape := ⟨5, ![16, 1, 2, 512, 1024]⟩
abbrev S16x2x512x1024 : Shape := ⟨4, ![16, 2, 512, 1024]⟩
abbrev S16x2x1x512x1024 : Shape := ⟨5, ![16, 2, 1, 512, 1024]⟩
abbrev S1x1024 : Shape := ⟨2, ![1, 1024]⟩
abbrev S1x512x1024 : Shape := ⟨3, ![1, 512, 1024]⟩
abbrev S1x1x1x512x1024 : Shape := ⟨5, ![1, 1, 1, 512, 1024]⟩
abbrev S1x8x1024 : Shape := ⟨3, ![1, 8, 1024]⟩
abbrev S1x1x1024 : Shape := ⟨3, ![1, 1, 1024]⟩
abbrev S1x3x1024 : Shape := ⟨3, ![1, 3, 1024]⟩
abbrev S1x1024x1024 : Shape := ⟨3, ![1, 1024, 1024]⟩
abbrev S512x1024 : Shape := ⟨2, ![512, 1024]⟩
abbrev S1024x1024 : Shape := ⟨2, ![1024, 1024]⟩
abbrev S8x128 : Shape := ⟨2, ![8, 128]⟩
abbrev S1x1 : Shape := ⟨2, ![1, 1]⟩
abbrev S512x1 : Shape := ⟨2, ![512, 1]⟩
abbrev S3x1024 : Shape := ⟨2, ![3, 1024]⟩
abbrev S512 : Shape := ⟨1, ![512]⟩

abbrev nBuf : Space → Nat
  | .hbm => 30
  | .vmem => 38
  | .smem => 0
  | _ => 0

abbrev bufTy : (tb : Table) → Fin (tcTables nBuf tb) → BufTy
  | .hbm, ⟨0, _⟩ => ⟨S16x2048x1024, .f32⟩
  | .hbm, ⟨1, _⟩ => ⟨S16x2048x11264, .f32⟩
  | .hbm, ⟨2, _⟩ => ⟨S16x2048x1024, .f32⟩
  | .hbm, ⟨3, _⟩ => ⟨S16x2048x1024, .f32⟩
  | .hbm, ⟨4, _⟩ => ⟨S24x3072, .f32⟩
  | .hbm, ⟨5, _⟩ => ⟨S4x3x1024, .f32⟩
  | .hbm, ⟨6, _⟩ => ⟨S4x1024x1024, .f32⟩
  | .hbm, ⟨7, _⟩ => ⟨S4x1024x1024, .f32⟩
  | .hbm, ⟨8, _⟩ => ⟨S4x1024x1024, .f32⟩
  | .hbm, ⟨9, _⟩ => ⟨S4x1024x1024, .f32⟩
  | .hbm, ⟨10, _⟩ => ⟨S1024, .f32⟩
  | .hbm, ⟨11, _⟩ => ⟨S24x1x3072, .f32⟩
  | .hbm, ⟨12, _⟩ => ⟨S4x1024x1024, .bf16⟩
  | .hbm, ⟨13, _⟩ => ⟨S4x1024x1024, .bf16⟩
  | .hbm, ⟨14, _⟩ => ⟨S4x1024x1024, .bf16⟩
  | .hbm, ⟨15, _⟩ => ⟨S4x1024x1024, .bf16⟩
  | .hbm, ⟨16, _⟩ => ⟨S16x2048x1024, .bf16⟩
  | .hbm, ⟨17, _⟩ => ⟨S16x2x2x512x1024, .bf16⟩
  | .hbm, ⟨18, _⟩ => ⟨S16x1x2x512x1024, .bf16⟩
  | .hbm, ⟨19, _⟩ => ⟨S16x2x512x1024, .bf16⟩
  | .hbm, ⟨20, _⟩ => ⟨S16x1x2x512x1024, .bf16⟩
  | .hbm, ⟨21, _⟩ => ⟨S16x1x2x512x1024, .bf16⟩
  | .hbm, ⟨22, _⟩ => ⟨S16x2x512x1024, .bf16⟩
  | .hbm, ⟨23, _⟩ => ⟨S16x2x1x512x1024, .bf16⟩
  | .hbm, ⟨24, _⟩ => ⟨S16x2x1x512x1024, .bf16⟩
  | .hbm, ⟨25, _⟩ => ⟨S16x2x2x512x1024, .bf16⟩
  | .hbm, ⟨26, _⟩ => ⟨S16x2048x11264, .bf16⟩
  | .hbm, ⟨27, _⟩ => ⟨S16x2048x1024, .bf16⟩
  | .hbm, ⟨28, _⟩ => ⟨S1x1024, .f32⟩
  | .hbm, ⟨29, _⟩ => ⟨S16x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1x1x512x1024, .bf16⟩
  | .local _ .vmem, ⟨3, _⟩ => ⟨S1x1x1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x8x1024, .bf16⟩
  | .local _ .vmem, ⟨19, _⟩ => ⟨S1x8x1024, .bf16⟩
  | .local _ .vmem, ⟨20, _⟩ => ⟨S1x8x1024, .bf16⟩
  | .local _ .vmem, ⟨21, _⟩ => ⟨S1x8x1024, .bf16⟩
  | .local _ .vmem, ⟨22, _⟩ => ⟨S1x8x1024, .bf16⟩
  | .local _ .vmem, ⟨23, _⟩ => ⟨S1x8x1024, .bf16⟩
  | .local _ .vmem, ⟨24, _⟩ => ⟨S1x8x1024, .bf16⟩
  | .local _ .vmem, ⟨25, _⟩ => ⟨S1x8x1024, .bf16⟩
  | .local _ .vmem, ⟨26, _⟩ => ⟨S1x512x1024, .f32⟩
  | .local _ .vmem, ⟨27, _⟩ => ⟨S1x512x1024, .f32⟩
  | .local _ .vmem, ⟨28, _⟩ => ⟨S1x1x1024, .f32⟩
  | .local _ .vmem, ⟨29, _⟩ => ⟨S1x1x1024, .f32⟩
  | .local _ .vmem, ⟨30, _⟩ => ⟨S1x3x1024, .f32⟩
  | .local _ .vmem, ⟨31, _⟩ => ⟨S1x1024x1024, .bf16⟩
  | .local _ .vmem, ⟨32, _⟩ => ⟨S1x1024x1024, .bf16⟩
  | .local _ .vmem, ⟨33, _⟩ => ⟨S1x1024x1024, .bf16⟩
  | .local _ .vmem, ⟨34, _⟩ => ⟨S1x1024x1024, .bf16⟩
  | .local _ .vmem, ⟨35, _⟩ => ⟨S1x1024, .f32⟩
  | .local _ .vmem, ⟨36, _⟩ => ⟨S1x512x1024, .f32⟩
  | .local _ .vmem, ⟨37, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg16_0 : Ref sig .tc := ⟨.vmem, 31, rfl⟩
abbrev cc0_stg17_0 : Ref sig .tc := ⟨.vmem, 32, rfl⟩
abbrev cc0_stg18_0 : Ref sig .tc := ⟨.vmem, 33, rfl⟩
abbrev cc0_stg19_0 : Ref sig .tc := ⟨.vmem, 34, rfl⟩
abbrev cc0_stg20_0 : Ref sig .tc := ⟨.vmem, 35, rfl⟩
abbrev cc0_stg21_0 : Ref sig .tc := ⟨.vmem, 36, rfl⟩
abbrev cc0_stg21_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem16_0 : DmaSem sig := 31
abbrev cc0_sem17_0 : DmaSem sig := 32
abbrev cc0_sem18_0 : DmaSem sig := 33
abbrev cc0_sem19_0 : DmaSem sig := 34
abbrev cc0_sem20_0 : DmaSem sig := 35
abbrev cc0_sem21_0 : DmaSem sig := 36
abbrev cc0_sem21_1 : DmaSem sig := 37

abbrev nD : Nat := 1
abbrev τ : Topo := Topo.v7x

variable {F : FTy → Type} [BitOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c3_i32 : BitVec 32 := 3#32
  let v1 : BitVec 32 := Scalar.subi c3_i32 arg1
  let v2 : BitVec 32 := Scalar.select v0 arg1 v1
  let c2_i32_0 : BitVec 32 := 2#32
  let v3 : BitVec 1 := Scalar.cmpi .slt arg1 c2_i32_0
  let c0_i32 : BitVec 32 := 0#32
  let c1_i32 : BitVec 32 := 1#32
  let v4 : BitVec 32 := Scalar.select v3 c0_i32 c1_i32
  let c0_i32_1 : BitVec 32 := 0#32
  let c0_i32_2 : BitVec 32 := 0#32
  let c0_i32_3 : BitVec 32 := 0#32
  ![arg0.toNat, v2.toNat, v4.toNat, c0_i32_1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_5 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_7 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_8 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_9 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, v2.toNat, c2_i32.toNat]

def cc0_transform_10 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![arg0.toNat, v2.toNat, c4_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c2_i32 : BitVec 32 := 2#32
  let c0_i32 : BitVec 32 := 0#32
  ![arg0.toNat, v2.toNat, c2_i32.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c4_i32 : BitVec 32 := 4#32
  let c0_i32 : BitVec 32 := 0#32
  ![arg0.toNat, v2.toNat, c4_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_15 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1x3x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x1024x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 2 → Memref sig .tc .vmem S1x512x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== Kernel3Ideal.lean ====
variable {F : FTy → Type} [FloatOps F]
-- ==== Reference3Ideal.lean ====
abbrev S16x2048x1024 : Shape := ⟨3, ![16, 2048, 1024]⟩
abbrev S16x2048x11264 : Shape := ⟨3, ![16, 2048, 11264]⟩
abbrev S24x3072 : Shape := ⟨2, ![24, 3072]⟩
abbrev S4x3x1024 : Shape := ⟨3, ![4, 3, 1024]⟩
abbrev S4x1024x1024 : Shape := ⟨3, ![4, 1024, 1024]⟩
abbrev S1024 : Shape := ⟨1, ![1024]⟩
abbrev S16x2048x3072 : Shape := ⟨3, ![16, 2048, 3072]⟩
abbrev S_ : Shape := ⟨0, ![]⟩
abbrev S16x1024 : Shape := ⟨2, ![16, 1024]⟩
abbrev S16x1x1024 : Shape := ⟨3, ![16, 1, 1024]⟩
abbrev S16x2050x1024 : Shape := ⟨3, ![16, 2050, 1024]⟩
abbrev S1x3x1024 : Shape := ⟨3, ![1, 3, 1024]⟩
abbrev S3x1024 : Shape := ⟨2, ![3, 1024]⟩
abbrev S1x1024 : Shape := ⟨2, ![1, 1024]⟩
abbrev S1x1x1024 : Shape := ⟨3, ![1, 1, 1024]⟩
abbrev S1x1024x1024 : Shape := ⟨3, ![1, 1024, 1024]⟩
abbrev S1024x1024 : Shape := ⟨2, ![1024, 1024]⟩
abbrev S16x2048 : Shape := ⟨2, ![16, 2048]⟩
abbrev S16x2048x1 : Shape := ⟨3, ![16, 2048, 1]⟩

abbrev nBuf : Space → Nat
  | .hbm => 102
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x11264, .f32⟩
  | .hbm, ⟨2, _⟩ => ⟨S16x2048x1024, .f32⟩
  | .hbm, ⟨3, _⟩ => ⟨S16x2048x1024, .f32⟩
  | .hbm, ⟨4, _⟩ => ⟨S24x3072, .f32⟩
  | .hbm, ⟨5, _⟩ => ⟨S4x3x1024, .f32⟩
  | .hbm, ⟨6, _⟩ => ⟨S4x1024x1024, .f32⟩
  | .hbm, ⟨7, _⟩ => ⟨S4x1024x1024, .f32⟩
  | .hbm, ⟨8, _⟩ => ⟨S4x1024x1024, .f32⟩
  | .hbm, ⟨9, _⟩ => ⟨S4x1024x1024, .f32⟩
  | .hbm, ⟨10, _⟩ => ⟨S1024, .f32⟩
  | .hbm, ⟨11, _⟩ => ⟨S16x2048x1024, .f32⟩
  | .hbm, ⟨12, _⟩ => ⟨S16x2048x1024, .f32⟩
  | .hbm, ⟨13, _⟩ => ⟨S16x2048x1024, .f32⟩
  | .hbm, ⟨14, _⟩ => ⟨S16x2048x1024, .f32⟩
  | .hbm, ⟨15, _⟩ => ⟨S16x2048x3072, .f32⟩
  | .hbm, ⟨16, _⟩ => ⟨S16x2048x3072, .f32⟩
  | .hbm, ⟨17, _⟩ => ⟨S16x2048x3072, .f32⟩
  | .hbm, ⟨18, _⟩ => ⟨S_, .f32⟩
  | .hbm, ⟨19, _⟩ => ⟨S16x2048x3072, .f32⟩
  | .hbm, ⟨20, _⟩ => ⟨S16x2048x3072, .f32⟩
  | .hbm, ⟨21, _⟩ => ⟨S_, .f32⟩
  | .hbm, ⟨22, _⟩ => ⟨S16x2048x3072, .f32⟩
  | .hbm, ⟨23, _⟩ => ⟨S16x2048x3072, .f32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S16x1024, .f32⟩
  | .hbm, ⟨28, _⟩ => ⟨S16x1x1024, .f32⟩
  | .hbm, ⟨29, _⟩ => ⟨S16x2048x1024, .f32⟩
  | .hbm, ⟨30, _⟩ => ⟨S_, .i32⟩
  | .hbm, ⟨31, _⟩ => ⟨S_, .f32⟩
  | .hbm, ⟨32, _⟩ => ⟨S16x2050x1024, .f32⟩
  | .hbm, ⟨33, _⟩ => ⟨S1x3x1024, .f32⟩
  | .hbm, ⟨34, _⟩ => ⟨S3x1024, .f32⟩
  | .hbm, ⟨35, _⟩ => ⟨S1x1024, .f32⟩
  | .hbm, ⟨36, _⟩ => ⟨S1024, .f32⟩
  | .hbm, ⟨37, _⟩ => ⟨S16x2048x1024, .f32⟩
  | .hbm, ⟨38, _⟩ => ⟨S1x1x1024, .f32⟩
  | .hbm, ⟨39, _⟩ => ⟨S16x2048x1024, .f32⟩
  | .hbm, ⟨40, _⟩ => ⟨S16x2048x1024, .f32⟩
  | .hbm, ⟨41, _⟩ => ⟨S1x1024, .f32⟩
  | .hbm, ⟨42, _⟩ => ⟨S1024, .f32⟩
  | .hbm, ⟨43, _⟩ => ⟨S16x2048x1024, .f32⟩
  | .hbm, ⟨44, _⟩ => ⟨S1x1x1024, .f32⟩
  | .hbm, ⟨45, _⟩ => ⟨S16x2048x1024, .f32⟩
  | .hbm, ⟨46, _⟩ => ⟨S16x2048x1024, .f32⟩
  | .hbm, ⟨47, _⟩ => ⟨S16x2048x1024, .f32⟩
  | .hbm, ⟨48, _⟩ => ⟨S1x1024, .f32⟩
  | .hbm, ⟨49, _⟩ => ⟨S1024, .f32⟩
  | .hbm, ⟨50, _⟩ => ⟨S16x2048x1024, .f32⟩
  | .hbm, ⟨51, _⟩ => ⟨S1x1x1024, .f32⟩
  | .hbm, ⟨52, _⟩ => ⟨S16x2048x1024, .f32⟩
  | .hbm, ⟨53, _⟩ => ⟨S16x2048x1024, .f32⟩
  | .hbm, ⟨54, _⟩ => ⟨S16x2048x1024, .f32⟩
  | .hbm, ⟨55, _⟩ => ⟨S16x2048x1024, .f32⟩
  | .hbm, ⟨56, _⟩ => ⟨S1x1024x1024, .f32⟩
  | .hbm, ⟨57, _⟩ => ⟨S1024x1024, .f32⟩
  | .hbm, ⟨58, _⟩ => ⟨S16x2048x1024, .f32⟩
  | .hbm, ⟨59, _⟩ => ⟨S16x2048x1024, .f32⟩
  | .hbm, ⟨60, _⟩ => ⟨S16x2048x1024, .f32⟩
  | .hbm, ⟨61, _⟩ => ⟨S16x2048x1024, .f32⟩
  | .hbm, ⟨62, _⟩ => ⟨S_, .f32⟩
  | .hbm, ⟨63, _⟩ => ⟨S16x2048x1024, .f32⟩
  | .hbm, ⟨64, _⟩ => ⟨S16x2048x1024, .f32⟩
  | .hbm, ⟨65, _⟩ => ⟨S_, .f32⟩
  | .hbm, ⟨66, _⟩ => ⟨S16x2048x1024, .f32⟩
  | .hbm, ⟨67, _⟩ => ⟨S16x2048x1024, .f32⟩
  | .hbm, ⟨68, _⟩ => ⟨S16x2048x1024, .f32⟩
  | .hbm, ⟨69, _⟩ => ⟨S16x2048x1024, .f32⟩
  | .hbm, ⟨70, _⟩ => ⟨S1x1024x1024, .f32⟩
  | .hbm, ⟨71, _⟩ => ⟨S1024x1024, .f32⟩
  | .hbm, ⟨72, _⟩ => ⟨S16x2048x1024, .f32⟩
  | .hbm, ⟨73, _⟩ => ⟨S16x2048x1024, .f32⟩
  | .hbm, ⟨74, _⟩ => ⟨S16x2048x1024, .f32⟩
  | .hbm, ⟨75, _⟩ => ⟨S1x1024x1024, .f32⟩
  | .hbm, ⟨76, _⟩ => ⟨S1024x1024, .f32⟩
  | .hbm, ⟨77, _⟩ => ⟨S16x2048x1024, .f32⟩
  | .hbm, ⟨78, _⟩ => ⟨S16x2048x1024, .f32⟩
  | .hbm, ⟨79, _⟩ => ⟨S16x2048x1024, .f32⟩
  | .hbm, ⟨80, _⟩ => ⟨S1x1024x1024, .f32⟩
  | .hbm, ⟨81, _⟩ => ⟨S1024x1024, .f32⟩
  | .hbm, ⟨82, _⟩ => ⟨S16x2048x1024, .f32⟩
  | .hbm, ⟨83, _⟩ => ⟨S16x2048x1024, .f32⟩
  | .hbm, ⟨84, _⟩ => ⟨S16x2048x1024, .f32⟩
  | .hbm, ⟨85, _⟩ => ⟨S16x2048x1024, .f32⟩
  | .hbm, ⟨86, _⟩ => ⟨S16x2048x1024, .f32⟩
  | .hbm, ⟨87, _⟩ => ⟨S_, .f32⟩
  | .hbm, ⟨88, _⟩ => ⟨S16x2048, .f32⟩
  | .hbm, ⟨89, _⟩ => ⟨S16x2048x1, .f32⟩
  | .hbm, ⟨90, _⟩ => ⟨S_, .f32⟩
  | .hbm, ⟨91, _⟩ => ⟨S16x2048x1, .f32⟩
  | .hbm, ⟨92, _⟩ => ⟨S16x2048x1, .f32⟩
  | .hbm, ⟨93, _⟩ => ⟨S_, .f32⟩
  | .hbm, ⟨94, _⟩ => ⟨S16x2048x1, .f32⟩
  | .hbm, ⟨95, _⟩ => ⟨S16x2048x1, .f32⟩
  | .hbm, ⟨96, _⟩ => ⟨S16x2048x1, .f32⟩
  | .hbm, ⟨97, _⟩ => ⟨S16x2048x1024, .f32⟩
  | .hbm, ⟨98, _⟩ => ⟨S16x2048x1024, .f32⟩
  | .hbm, ⟨99, _⟩ => ⟨S1x1x1024, .f32⟩
  | .hbm, ⟨100, _⟩ => ⟨S16x2048x1024, .f32⟩
  | .hbm, ⟨101, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_1 : Ref sig .tc := ⟨.hbm, 87, rfl⟩
abbrev main_v64 : Ref sig .tc := ⟨.hbm, 88, rfl⟩
abbrev main_v65 : Ref sig .tc := ⟨.hbm, 89, rfl⟩
abbrev main_cst_2 : Ref sig .tc := ⟨.hbm, 90, rfl⟩
abbrev main_v66 : Ref sig .tc := ⟨.hbm, 91, rfl⟩
abbrev main_v67 : Ref sig .tc := ⟨.hbm, 92, rfl⟩
abbrev main_cst_3 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩

abbrev nD : Nat := 1
abbrev τ : Topo := Topo.v7x

variable {F : FTy → Type} [FloatOps F]
-- ==== Kernel4.lean ====
abbrev S16x2048x1024 : Shape := ⟨3, ![16, 2048, 1024]⟩
abbrev S4x1024x13312 : Shape := ⟨3, ![4, 1024, 13312]⟩
abbrev S4x1024x2048 : Shape := ⟨3, ![4, 1024, 2048]⟩
abbrev S4x1024x16x2x2x2x16 : Shape := ⟨7, ![4, 1024, 16, 2, 2, 2, 16]⟩
abbrev S_ : Shape := ⟨0, ![]⟩
abbrev S1 : Shape := ⟨1, ![1]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x128 : Shape := ⟨2, ![2048, 128]⟩
abbrev S128 : Shape := ⟨1, ![128]⟩
abbrev S1x128 : Shape := ⟨2, ![1, 128]⟩
abbrev S1x2048x128 : Shape := ⟨3, ![1, 2048, 128]⟩
abbrev S2x2048x128 : Shape := ⟨3, ![2, 2048, 128]⟩
abbrev S16x2048x2048 : Shape := ⟨3, ![16, 2048, 2048]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 73
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S4x1024x13312, .f32⟩
  | .hbm, ⟨2, _⟩ => ⟨S4x1024x13312, .bf16⟩
  | .hbm, ⟨3, _⟩ => ⟨S4x1024x2048, .bf16⟩
  | .hbm, ⟨4, _⟩ => ⟨S4x1024x16x2x2x2x16, .bf16⟩
  | .hbm, ⟨5, _⟩ => ⟨S4x1024x16x2x2x2x16, .bf16⟩
  | .hbm, ⟨6, _⟩ => ⟨S4x1024x2048, .bf16⟩
  | .hbm, ⟨7, _⟩ => ⟨S_, .i32⟩
  | .hbm, ⟨8, _⟩ => ⟨S1, .i32⟩
  | .hbm, ⟨9, _⟩ => ⟨S4x1024x13312, .bf16⟩
  | .hbm, ⟨10, _⟩ => ⟨S16x2048x1024, .bf16⟩
  | .hbm, ⟨11, _⟩ => ⟨S32, .i32⟩
  | .hbm, ⟨12, _⟩ => ⟨S32x64, .i32⟩
  | .hbm, ⟨13, _⟩ => ⟨S2048, .i32⟩
  | .hbm, ⟨14, _⟩ => ⟨S2048, .f32⟩
  | .hbm, ⟨15, _⟩ => ⟨S64, .i32⟩
  | .hbm, ⟨16, _⟩ => ⟨S1x64, .i32⟩
  | .hbm, ⟨17, _⟩ => ⟨S32x64, .i32⟩
  | .hbm, ⟨18, _⟩ => ⟨S2048, .i32⟩
  | .hbm, ⟨19, _⟩ => ⟨S2048, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S2048x1, .f32⟩
  | .hbm, ⟨35, _⟩ => ⟨S1x16, .f32⟩
  | .hbm, ⟨36, _⟩ => ⟨S2048x16, .f32⟩
  | .hbm, ⟨37, _⟩ => ⟨S2048x16, .f32⟩
  | .hbm, ⟨38, _⟩ => ⟨S2048x16, .f32⟩
  | .hbm, ⟨39, _⟩ => ⟨S2048x1, .f32⟩
  | .hbm, ⟨40, _⟩ => ⟨S1x16, .f32⟩
  | .hbm, ⟨41, _⟩ => ⟨S2048x16, .f32⟩
  | .hbm, ⟨42, _⟩ => ⟨S2048x16, .f32⟩
  | .hbm, ⟨43, _⟩ => ⟨S2048x16, .f32⟩
  | .hbm, ⟨44, _⟩ => ⟨S2048x128, .f32⟩
  | .hbm, ⟨45, _⟩ => ⟨S128, .i32⟩
  | .hbm, ⟨46, _⟩ => ⟨S_, .i32⟩
  | .hbm, ⟨47, _⟩ => ⟨S128, .i32⟩
  | .hbm, ⟨48, _⟩ => ⟨S128, .i1⟩
  | .hbm, ⟨49, _⟩ => ⟨S_, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S128, .f32⟩
  | .hbm, ⟨55, _⟩ => ⟨S2048x128, .f32⟩
  | .hbm, ⟨56, _⟩ => ⟨S2048x128, .f32⟩
  | .hbm, ⟨57, _⟩ => ⟨S1x128, .f32⟩
  | .hbm, ⟨58, _⟩ => ⟨S2048x128, .f32⟩
  | .hbm, ⟨59, _⟩ => ⟨S2048x128, .f32⟩
  | .hbm, ⟨60, _⟩ => ⟨S_, .f32⟩
  | .hbm, ⟨61, _⟩ => ⟨S2048x128, .f32⟩
  | .hbm, ⟨62, _⟩ => ⟨S2048x128, .f32⟩
  | .hbm, ⟨63, _⟩ => ⟨S1x2048x128, .f32⟩
  | .hbm, ⟨64, _⟩ => ⟨S1x2048x128, .f32⟩
  | .hbm, ⟨65, _⟩ => ⟨S2x2048x128, .f32⟩
  | .hbm, ⟨66, _⟩ => ⟨S_, .f32⟩
  | .hbm, ⟨67, _⟩ => ⟨S2048x128, .f32⟩
  | .hbm, ⟨68, _⟩ => ⟨S2048x128, .f32⟩
  | .hbm, ⟨69, _⟩ => ⟨S1x2048x128, .f32⟩
  | .hbm, ⟨70, _⟩ => ⟨S1x2048x128, .f32⟩
  | .hbm, ⟨71, _⟩ => ⟨S2x2048x128, .f32⟩
  | .hbm, ⟨72, _⟩ => ⟨S16x2048x2048, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x1024, .bf16⟩
  | .local _ .vmem, ⟨9, _⟩ => ⟨S1x2048x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_c_3 : Ref sig .tc := ⟨.hbm, 46, rfl⟩
abbrev main_v39 : Ref sig .tc := ⟨.hbm, 47, rfl⟩
abbrev main_v40 : Ref sig .tc := ⟨.hbm, 48, rfl⟩
abbrev main_cst_4 : Ref sig .tc := ⟨.hbm, 49, rfl⟩
abbrev main_cst_5 : Ref sig .tc := ⟨.hbm, 50, rfl⟩
abbrev main_call0_v0 : Ref sig .tc := ⟨.hbm, 51, rfl⟩
abbrev main_call0_v1 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_7 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference4Ideal.lean ====
abbrev S16x2048x1024 : Shape := ⟨3, ![16, 2048, 1024]⟩
abbrev S4x1024x13312 : Shape := ⟨3, ![4, 1024, 13312]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S1x1024x13312 : Shape := ⟨3, ![1, 1024, 13312]⟩
abbrev S1024x13312 : Shape := ⟨2, ![1024, 13312]⟩
abbrev S16x2048x13312 : Shape := ⟨3, ![16, 2048, 13312]⟩
abbrev S16x2048x8x2x64 : Shape := ⟨5, ![16, 2048, 8, 2, 64]⟩
abbrev S16x8x2x2048x64 : Shape := ⟨5, ![16, 8, 2, 2048, 64]⟩
abbrev S16x8x2x2048x32 : Shape := ⟨5, ![16, 8, 2, 2048, 32]⟩
abbrev S2048x1 : Shape := ⟨2, ![2048, 1]⟩
abbrev S1x16 : Shape := ⟨2, ![1, 16]⟩
abbrev S2048x16 : Shape := ⟨2, ![2048, 16]⟩
abbrev S16x8x2x2048x16 : Shape := ⟨5, ![16, 8, 2, 2048, 16]⟩
abbrev S1x1x1x2048x16 : Shape := ⟨5, ![1, 1, 1, 2048, 16]⟩
abbrev S16x8x2x2048x2x2x16 : Shape := ⟨7, ![16, 8, 2, 2048, 2, 2, 16]⟩
abbrev S16x2048x8x2x2x2x16 : Shape := ⟨7, ![16, 2048, 8, 2, 2, 2, 16]⟩
abbrev S16x2048x2048 : Shape := ⟨3, ![16, 2048, 2048]⟩

abbrev nBuf : Space → Nat
  | .hbm => 155
  | .vmem => 0
  | .smem => 0
  | _ => 0

abbrev hbmTy0_0 (i : Nat) : BufTy := match i % 128 with
  | 0 => ⟨S16x2048x1024, .f32⟩
  | 1 => ⟨S4x1024x13312, .f32⟩
  | 2 => ⟨S32, .i32⟩
  | 3 => ⟨S32x64, .i32⟩
  | 4 => ⟨S2048, .i32⟩
  | 5 => ⟨S2048, .f32⟩
  | 6 => ⟨S64, .i32⟩
  | 7 => ⟨S1x64, .i32⟩
  | 8 => ⟨S32x64, .i32⟩
  | 9 => ⟨S2048, .i32⟩
  | 10 => ⟨S2048, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S1x1024x13312, .f32⟩
  | 26 => ⟨S1024x13312, .f32⟩
  | 27 => ⟨S16x2048x13312, .f32⟩
  | 28 => ⟨S16x2048x1024, .f32⟩
  | 29 => ⟨S16x2048x8x2x64, .f32⟩
  | 30 => ⟨S16x8x2x2048x64, .f32⟩
  | 31 => ⟨S16x8x2x2048x32, .f32⟩
  | 32 => ⟨S16x8x2x2048x32, .f32⟩
  | 33 => ⟨S2048x1, .f32⟩
  | 34 => ⟨S1x16, .f32⟩
  | 35 => ⟨S2048x16, .f32⟩
  | 36 => ⟨S2048x16, .f32⟩
  | 37 => ⟨S2048x16, .f32⟩
  | 38 => ⟨S16x8x2x2048x16, .f32⟩
  | 39 => ⟨S16x8x2x2048x16, .f32⟩
  | 40 => ⟨S2048x16, .f32⟩
  | 41 => ⟨S1x1x1x2048x16, .f32⟩
  | 42 => ⟨S16x8x2x2048x16, .f32⟩
  | 43 => ⟨S16x8x2x2048x16, .f32⟩
  | 44 => ⟨S2048x16, .f32⟩
  | 45 => ⟨S1x1x1x2048x16, .f32⟩
  | 46 => ⟨S16x8x2x2048x16, .f32⟩
  | 47 => ⟨S16x8x2x2048x16, .f32⟩
  | 48 => ⟨S16x8x2x2048x16, .f32⟩
  | 49 => ⟨S2048x16, .f32⟩
  | 50 => ⟨S1x1x1x2048x16, .f32⟩
  | 51 => ⟨S16x8x2x2048x16, .f32⟩
  | 52 => ⟨S16x8x2x2048x16, .f32⟩
  | 53 => ⟨S2048x16, .f32⟩
  | 54 => ⟨S1x1x1x2048x16, .f32⟩
  | 55 => ⟨S16x8x2x2048x16, .f32⟩
  | 56 => ⟨S16x8x2x2048x16, .f32⟩
  | 57 => ⟨S16x8x2x2048x16, .f32⟩
  | 58 => ⟨S16x8x2x2048x32, .f32⟩
  | 59 => ⟨S2048x1, .f32⟩
  | 60 => ⟨S1x16, .f32⟩
  | 61 => ⟨S2048x16, .f32⟩
  | 62 => ⟨S2048x16, .f32⟩
  | 63 => ⟨S2048x16, .f32⟩
  | 64 => ⟨S16x8x2x2048x16, .f32⟩
  | 65 => ⟨S16x8x2x2048x16, .f32⟩
  | 66 => ⟨S2048x16, .f32⟩
  | 67 => ⟨S1x1x1x2048x16, .f32⟩
  | 68 => ⟨S16x8x2x2048x16, .f32⟩
  | 69 => ⟨S16x8x2x2048x16, .f32⟩
  | 70 => ⟨S2048x16, .f32⟩
  | 71 => ⟨S1x1x1x2048x16, .f32⟩
  | 72 => ⟨S16x8x2x2048x16, .f32⟩
  | 73 => ⟨S16x8x2x2048x16, .f32⟩
  | 74 => ⟨S16x8x2x2048x16, .f32⟩
  | 75 => ⟨S2048x16, .f32⟩
  | 76 => ⟨S1x1x1x2048x16, .f32⟩
  | 77 => ⟨S16x8x2x2048x16, .f32⟩
  | 78 => ⟨S16x8x2x2048x16, .f32⟩
  | 79 => ⟨S2048x16, .f32⟩
  | 80 => ⟨S1x1x1x2048x16, .f32⟩
  | 81 => ⟨S16x8x2x2048x16, .f32⟩
  | 82 => ⟨S16x8x2x2048x16, .f32⟩
  | 83 => ⟨S16x8x2x2048x16, .f32⟩
  | 84 => ⟨S16x8x2x2048x32, .f32⟩
  | 85 => ⟨S16x8x2x2048x64, .f32⟩
  | 86 => ⟨S_, .f32⟩
  | 87 => ⟨S16x8x2x2048x64, .f32⟩
  | 88 => ⟨S16x8x2x2048x64, .f32⟩
  | 89 => ⟨S16x2048x1024, .f32⟩
  | 90 => ⟨S16x2048x8x2x64, .f32⟩
  | 91 => ⟨S16x8x2x2048x64, .f32⟩
  | 92 => ⟨S16x8x2x2048x32, .f32⟩
  | 93 => ⟨S16x8x2x2048x32, .f32⟩
  | 94 => ⟨S2048x1, .f32⟩
  | 95 => ⟨S1x16, .f32⟩
  | 96 => ⟨S2048x16, .f32⟩
  | 97 => ⟨S2048x16, .f32⟩
  | 98 => ⟨S2048x16, .f32⟩
  | 99 => ⟨S16x8x2x2048x16, .f32⟩
  | 100 => ⟨S16x8x2x2048x16, .f32⟩
  | 101 => ⟨S2048x16, .f32⟩
  | 102 => ⟨S1x1x1x2048x16, .f32⟩
  | 103 => ⟨S16x8x2x2048x16, .f32⟩
  | 104 => ⟨S16x8x2x2048x16, .f32⟩
  | 105 => ⟨S2048x16, .f32⟩
  | 106 => ⟨S1x1x1x2048x16, .f32⟩
  | 107 => ⟨S16x8x2x2048x16, .f32⟩
  | 108 => ⟨S16x8x2x2048x16, .f32⟩
  | 109 => ⟨S16x8x2x2048x16, .f32⟩
  | 110 => ⟨S2048x16, .f32⟩
  | 111 => ⟨S1x1x1x2048x16, .f32⟩
  | 112 => ⟨S16x8x2x2048x16, .f32⟩
  | 113 => ⟨S16x8x2x2048x16, .f32⟩
  | 114 => ⟨S2048x16, .f32⟩
  | 115 => ⟨S1x1x1x2048x16, .f32⟩
  | 116 => ⟨S16x8x2x2048x16, .f32⟩
  | 117 => ⟨S16x8x2x2048x16, .f32⟩
  | 118 => ⟨S16x8x2x2048x16, .f32⟩
  | 119 => ⟨S16x8x2x2048x32, .f32⟩
  | 120 => ⟨S2048x1, .f32⟩
  | 121 => ⟨S1x16, .f32⟩
  | 122 => ⟨S2048x16, .f32⟩
  | 123 => ⟨S2048x16, .f32⟩
  | 124 => ⟨S2048x16, .f32⟩
  | 125 => ⟨S16x8x2x2048x16, .f32⟩
  | 126 => ⟨S16x8x2x2048x16, .f32⟩
  | 127 => ⟨S2048x16, .f32⟩
  | _ => ⟨S16x2048x1024, .f32⟩

abbrev hbmTy0_1 (i : Nat) : BufTy := match i % 128 with
  | 0 => ⟨S1x1x1x2048x16, .f32⟩
  | 1 => ⟨S16x8x2x2048x16, .f32⟩
  | 2 => ⟨S16x8x2x2048x16, .f32⟩
  | 3 => ⟨S2048x16, .f32⟩
  | 4 => ⟨S1x1x1x2048x16, .f32⟩
  | 5 => ⟨S16x8x2x2048x16, .f32⟩
  | 6 => ⟨S16x8x2x2048x16, .f32⟩
  | 7 => ⟨S16x8x2x2048x16, .f32⟩
  | 8 => ⟨S2048x16, .f32⟩
  | 9 => ⟨S1x1x1x2048x16, .f32⟩
  | 10 => ⟨S16x8x2x2048x16, .f32⟩
  | 11 => ⟨S16x8x2x2048x16, .f32⟩
  | 12 => ⟨S2048x16, .f32⟩
  | 13 => ⟨S1x1x1x2048x16, .f32⟩
  | 14 => ⟨S16x8x2x2048x16, .f32⟩
  | 15 => ⟨S16x8x2x2048x16, .f32⟩
  | 16 => ⟨S16x8x2x2048x16, .f32⟩
  | 17 => ⟨S16x8x2x2048x32, .f32⟩
  | 18 => ⟨S16x8x2x2048x64, .f32⟩
  | 19 => ⟨S16x8x2x2048x2x2x16, .f32⟩
  | 20 => ⟨S16x2048x8x2x2x2x16, .f32⟩
  | 21 => ⟨S16x2048x1024, .f32⟩
  | 22 => ⟨S16x8x2x2048x2x2x16, .f32⟩
  | 23 => ⟨S16x2048x8x2x2x2x16, .f32⟩
  | 24 => ⟨S16x2048x1024, .f32⟩
  | 25 => ⟨S16x2048x2048, .f32⟩
  | 26 => ⟨S16x2048x2048, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_cst_3 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩

abbrev nD : Nat := 1
abbrev τ : Topo := Topo.v7x

variable {F : FTy → Type} [FloatOps F]
-- ==== Kernel5.lean ====
abbrev S16x256x1024 : Shape := ⟨3, ![16, 256, 1024]⟩
abbrev S24x3072 : Shape := ⟨2, ![24, 3072]⟩
abbrev S4x1024 : Shape := ⟨2, ![4, 1024]⟩
abbrev S4x1024x13312 : Shape := ⟨3, ![4, 1024, 13312]⟩
abbrev S24x1x3072 : Shape := ⟨3, ![24, 1, 3072]⟩
abbrev S4x1x1024 : Shape := ⟨3, ![4, 1, 1024]⟩
abbrev S4x1024x2048 : Shape := ⟨3, ![4, 1024, 2048]⟩
abbrev S4x1024x16x2x2x2x16 : Shape := ⟨7, ![4, 1024, 16, 2, 2, 2, 16]⟩
abbrev S_ : Shape := ⟨0, ![]⟩
abbrev S1 : Shape := ⟨1, ![1]⟩
abbrev S1x4096x1024 : Shape := ⟨3, ![1, 4096, 1024]⟩
abbrev S1x4096x13312 : Shape := ⟨3, ![1, 4096, 13312]⟩
abbrev S1x2048x1024 : Shape := ⟨3, ![1, 2048, 1024]⟩
abbrev S1x1x1024 : Shape := ⟨3, ![1, 1, 1024]⟩
abbrev S1x1024x1024 : Shape := ⟨3, ![1, 1024, 1024]⟩
abbrev S2048x1024 : Shape := ⟨2, ![2048, 1024]⟩
abbrev S2048 : Shape := ⟨1, ![2048]⟩
abbrev S2048x1 : Shape := ⟨2, ![2048, 1]⟩
abbrev S1x1024 : Shape := ⟨2, ![1, 1024]⟩
abbrev S1024x1024 : Shape := ⟨2, ![1024, 1024]⟩

abbrev nBuf : Space → Nat
  | .hbm => 16
  | .vmem => 10
  | .smem => 0
  | _ => 0

abbrev bufTy : (tb : Table) → Fin (tcTables nBuf tb) → BufTy
  | .hbm, ⟨0, _⟩ => ⟨S16x256x1024, .f32⟩
  | .hbm, ⟨1, _⟩ => ⟨S24x3072, .f32⟩
  | .hbm, ⟨2, _⟩ => ⟨S4x1024, .f32⟩
  | .hbm, ⟨3, _⟩ => ⟨S4x1024x13312, .f32⟩
  | .hbm, ⟨4, _⟩ => ⟨S24x1x3072, .f32⟩
  | .hbm, ⟨5, _⟩ => ⟨S4x1x1024, .f32⟩
  | .hbm, ⟨6, _⟩ => ⟨S4x1024x13312, .bf16⟩
  | .hbm, ⟨7, _⟩ => ⟨S4x1024x2048, .bf16⟩
  | .hbm, ⟨8, _⟩ => ⟨S4x1024x16x2x2x2x16, .bf16⟩
  | .hbm, ⟨9, _⟩ => ⟨S4x1024x16x2x2x2x16, .bf16⟩
  | .hbm, ⟨10, _⟩ => ⟨S4x1024x2048, .bf16⟩
  | .hbm, ⟨11, _⟩ => ⟨S_, .i32⟩
  | .hbm, ⟨12, _⟩ => ⟨S1, .i32⟩
  | .hbm, ⟨13, _⟩ => ⟨S4x1024x13312, .bf16⟩
  | .hbm, ⟨14, _⟩ => ⟨S1x4096x1024, .f32⟩
  | .hbm, ⟨15, _⟩ => ⟨S1x4096x13312, .bf16⟩
  | .local _ .vmem, ⟨0, _⟩ => ⟨S1x2048x1024, .f32⟩
  | .local _ .vmem, ⟨1, _⟩ => ⟨S1x2048x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1024x1024, .bf16⟩
  | .local _ .vmem, ⟨6, _⟩ => ⟨S1x1024x1024, .bf16⟩
  | .local _ .vmem, ⟨7, _⟩ => ⟨S1x2048x1024, .bf16⟩
  | .local _ .vmem, ⟨8, _⟩ => ⟨S1x2048x1024, .bf16⟩
  | .local _ .vmem, ⟨9, _⟩ => ⟨S2048x1024, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨3, ![1, 2, 13], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let c0_i32 : BitVec 32 := 0#32
  let c0_i32_0 : BitVec 32 := 0#32
  let c0_i32_1 : BitVec 32 := 0#32
  ![c16_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let c0_i32 : BitVec 32 := 0#32
  let c1_i32 : BitVec 32 := 1#32
  let c0_i32_0 : BitVec 32 := 0#32
  ![c16_i32.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  let c0_i32_2 : BitVec 32 := 0#32
  ![c0_i32_0.toNat, c0_i32_1.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference5Ideal.lean ====
abbrev S16x256x1024 : Shape := ⟨3, ![16, 256, 1024]⟩
abbrev S24x3072 : Shape := ⟨2, ![24, 3072]⟩
abbrev S4x1024 : Shape := ⟨2, ![4, 1024]⟩
abbrev S4x1024x13312 : Shape := ⟨3, ![4, 1024, 13312]⟩
abbrev S1x3072 : Shape := ⟨2, ![1, 3072]⟩
abbrev S3072 : Shape := ⟨1, ![3072]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S1x1024 : Shape := ⟨2, ![1, 1024]⟩
abbrev S1x1x1024 : Shape := ⟨3, ![1, 1, 1024]⟩
abbrev S1x1024x13312 : Shape := ⟨3, ![1, 1024, 13312]⟩
abbrev S1024x13312 : Shape := ⟨2, ![1024, 13312]⟩
abbrev S16x256x13312 : Shape := ⟨3, ![16, 256, 13312]⟩
abbrev S16x256x8x2x2x2x16 : Shape := ⟨7, ![16, 256, 8, 2, 2, 2, 16]⟩
abbrev S16x256x11264 : Shape := ⟨3, ![16, 256, 11264]⟩
abbrev S1x4096x13312 : Shape := ⟨3, ![1, 4096, 13312]⟩

abbrev nBuf : Space → Nat
  | .hbm => 54
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S24x3072, .f32⟩
  | .hbm, ⟨2, _⟩ => ⟨S4x1024, .f32⟩
  | .hbm, ⟨3, _⟩ => ⟨S4x1024x13312, .f32⟩
  | .hbm, ⟨4, _⟩ => ⟨S1x3072, .f32⟩
  | .hbm, ⟨5, _⟩ => ⟨S3072, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S16x256x1024, .f32⟩
  | .hbm, ⟨10, _⟩ => ⟨S_, .f32⟩
  | .hbm, ⟨11, _⟩ => ⟨S16x256, .f32⟩
  | .hbm, ⟨12, _⟩ => ⟨S16x256x1, .f32⟩
  | .hbm, ⟨13, _⟩ => ⟨S_, .f32⟩
  | .hbm, ⟨14, _⟩ => ⟨S16x256x1, .f32⟩
  | .hbm, ⟨15, _⟩ => ⟨S16x256x1, .f32⟩
  | .hbm, ⟨16, _⟩ => ⟨S_, .f32⟩
  | .hbm, ⟨17, _⟩ => ⟨S16x256x1, .f32⟩
  | .hbm, ⟨18, _⟩ => ⟨S16x256x1, .f32⟩
  | .hbm, ⟨19, _⟩ => ⟨S16x256x1, .f32⟩
  | .hbm, ⟨20, _⟩ => ⟨S16x256x1024, .f32⟩
  | .hbm, ⟨21, _⟩ => ⟨S16x256x1024, .f32⟩
  | .hbm, ⟨22, _⟩ => ⟨S1x1024, .f32⟩
  | .hbm, ⟨23, _⟩ => ⟨S1024, .f32⟩
  | .hbm, ⟨24, _⟩ => ⟨S1x1x1024, .f32⟩
  | .hbm, ⟨25, _⟩ => ⟨S16x256x1024, .f32⟩
  | .hbm, ⟨26, _⟩ => ⟨S16x256x1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1x1024, .f32⟩
  | .hbm, ⟨31, _⟩ => ⟨S16x256x1024, .f32⟩
  | .hbm, ⟨32, _⟩ => ⟨S16x256x1024, .f32⟩
  | .hbm, ⟨33, _⟩ => ⟨S1x1x1024, .f32⟩
  | .hbm, ⟨34, _⟩ => ⟨S16x256x1024, .f32⟩
  | .hbm, ⟨35, _⟩ => ⟨S16x256x1024, .f32⟩
  | .hbm, ⟨36, _⟩ => ⟨S1x1024x13312, .f32⟩
  | .hbm, ⟨37, _⟩ => ⟨S1024x13312, .f32⟩
  | .hbm, ⟨38, _⟩ => ⟨S16x256x13312, .f32⟩
  | .hbm, ⟨39, _⟩ => ⟨S16x256x1024, .f32⟩
  | .hbm, ⟨40, _⟩ => ⟨S_, .f32⟩
  | .hbm, ⟨41, _⟩ => ⟨S16x256x1024, .f32⟩
  | .hbm, ⟨42, _⟩ => ⟨S16x256x1024, .f32⟩
  | .hbm, ⟨43, _⟩ => ⟨S16x256x8x2x2x2x16, .f32⟩
  | .hbm, ⟨44, _⟩ => ⟨S16x256x8x2x2x2x16, .f32⟩
  | .hbm, ⟨45, _⟩ => ⟨S16x256x1024, .f32⟩
  | .hbm, ⟨46, _⟩ => ⟨S16x256x1024, .f32⟩
  | .hbm, ⟨47, _⟩ => ⟨S16x256x8x2x2x2x16, .f32⟩
  | .hbm, ⟨48, _⟩ => ⟨S16x256x8x2x2x2x16, .f32⟩
  | .hbm, ⟨49, _⟩ => ⟨S16x256x1024, .f32⟩
  | .hbm, ⟨50, _⟩ => ⟨S16x256x11264, .f32⟩
  | .hbm, ⟨51, _⟩ => ⟨S16x256x13312, .f32⟩
  | .hbm, ⟨52, _⟩ => ⟨S1x4096x13312, .f32⟩
  | .hbm, ⟨53, _⟩ => ⟨S1x4096x13312, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩

abbrev nD : Nat := 1
abbrev τ : Topo := Topo.v7x

variable {F : FTy → Type} [FloatOps F]
-- ==== Proof.Pre.lean ====
module

public import proofs.«01_k».proof.Defs
public import Idealize.ShloMosaic.Lib.ReduceAll
public import Idealize.ShloMosaic.Lib.Pointwise

@[expose] public section

set_option maxRecDepth 16384

noncomputable section

open Idealize.ShloMosaic

namespace Cert.Pre_finite.Read

open Cert.Pre_finite

/-- The precondition's side conditions. -/
instance facts : Cert.Pre_finite.Facts where
  bcast_S_S16x2048x1024 := by decide
  reducesTo_S16x2048x1024_S_d0_1_2 := by decide
  h_S_ := by decide
  bcast_S_S16x2048x11264 := by decide
  reducesTo_S16x2048x11264_S_d0_1_2 := by decide
  bcast_S_S16x256x13312 := by decide
  reducesTo_S16x256x13312_S_d0_1_2 := by decide
  bcast_S_S4x4x64 := by decide
  reducesTo_S4x4x64_S_d0_1_2 := by decide

/-- What the comparison says of one element. -/
theorem real_of (x : EReal) (h : Ideal.cmp .olt (max x (-x)) (Ideal.ofBits .f32 0x7F800000#32) = 1#1) : ∃ r : ℝ, x = r := by
  have h1 := (Ideal.cmp_olt_eq_one _ _).1 h
  have hi : Ideal.ofBits .f32 0x7F800000#32 = ⊤ := by simp [Ideal.ofBits, Ideal.ieee]
  rw [hi] at h1
  induction x using EReal.rec with
  | bot => simp at h1
  | coe r => exact ⟨r, rfl⟩
  | top => simp at h1

instance : Subsingleton S_.Idx := ⟨fun a b => funext fun i => i.elim0⟩

theorem reals (X0 X1 : FVec Ideal S16x2048x1024 .f32) (X2 : FVec Ideal S16x2048x11264 .f32) (X3 : FVec Ideal S16x256x13312 .f32)
    (X4 : FVec Ideal S4x4x64 .f32) (X5 : FVec Ideal S4x128 .f32) (h : Cert.Pre_finite.fn (F := Ideal) X0 X1 X2 X3 X4 X5 = fun _ => 1#1) :
    (∀ i, ∃ r : ℝ, X0 i = r) ∧ (∀ i, ∃ r : ℝ, X1 i = r) ∧ (∀ i, ∃ r : ℝ, X2 i = r) ∧ (∀ i, ∃ r : ℝ, X3 i = r) ∧ (∀ i, ∃ r : ℝ, X4 i = r) := by
  have h0 := congrFun h (ix0)
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨fun i => real_of _ (Host.reduce_andi_all _ _ _ _ _ h0 i), fun i => real_of _ (Host.reduce_andi_all _ _ _ _ _ h1 i),
    fun i => real_of _ (Host.reduce_andi_all _ _ _ _ _ h2 i), fun i => real_of _ (Host.reduce_andi_all _ _ _ _ _ h3 i),
    fun i => real_of _ (Host.reduce_andi_all _ _ _ _ _ h4 i)⟩

end Cert.Pre_finite.Read

end
-- ==== Proof.Blk.lean ====
module

public import proofs.«01_k».proof.Proof.Gen.KernelIdeal.Skeleton
public import Idealize.ShloMosaic.Lib.Pointwise
public import Idealize.ShloMosaic.Lib.Ring
public import Idealize.ShloMosaic.Lib.Pipeline.ValueKit

@[expose] public section

set_option maxRecDepth 16384

noncomputable section

open Idealize.ShloMosaic Idealize.ShloMosaic.TcCoe Idealize.SL.Sem

namespace Cert.KernelIdeal.Attn

open Cert.KernelIdeal Cert.KernelIdeal.Gen

/-- The lane number of every element of a block of 256 rows. -/
def lanes : IVec S256x128 32 := iota .tc S256x128 32 [1] iota_S256x128_d1_w32

/-- The scores of a block of 256 query rows against all keys: the first map's rows above the second's. -/
def scoreB (q : FVec Ideal S1x256x128 .bf16) (k : FVec Ideal S1x2304x128 .bf16) : FVec Ideal S512x2304 .f32 :=
  k0_pay23 (F := Ideal) lanes q k

/-- The scores less their row maximum. -/
def diffB (s : FVec Ideal S512x2304 .f32) : FVec Ideal S512x2304 .f32 :=
  subf s (broadcastTo S512x2304 (shapeCast S512x1 (multiReduction .maximumf [1] S512 s 0xFF800000#32 reduces_S512x2304_S512 (.inl rfl) rfl) shapeCasts_S512_S512x1) broadcasts_S512x1_S512x2304)

/-- What a block of scores becomes: the two softmax averages, their difference, the norm and the gate. -/
def finB (lam : FVec Ideal S1x1 .f32) (s : FVec Ideal S512x2304 .f32) (v : FVec Ideal S1x2304x256 .bf16)
    (w : FVec Ideal S1x1x128 .f32) (z : FVec Ideal S1x256x128 .bf16) : FVec Ideal S256x128 .bf16 :=
  k0_pay25 (F := Ideal) lam (diffB s) v w z

/-- The largest of a row of scores. -/
def top (s : Fin 2304 → EReal) : EReal :=
  Finset.univ.fold max (Ideal.ofBits .f32 0xFF800000#32) s

/-- One softmax average: the weighted sum of a column of values over the weighted sum of the ones. -/
def rowAvg (s : Fin 2304 → EReal) (v : Fin 2304 → Fin 256 → EReal) (d : Fin 128) : EReal :=
  Ideal.div (∑ x, Ideal.exp2 (s x - top s) * v x ⟨d.val, by omega⟩) (∑ x, Ideal.exp2 (s x - top s) * v x 128)

/-- The norm over the head's columns, with its weight and its factor. -/
def rowNorm (o : Fin 128 → EReal) (w : Fin 128 → EReal) (d : Fin 128) : EReal :=
  o d * Ideal.rsqrt (Ideal.div (∑ x, o x * o x) (Ideal.ofBits .f32 0x43000000#32) + Ideal.ofBits .f32 0x3727C5AC#32) * w d *
    Ideal.ofBits .f32 0x3F4CCCCD#32

/-- The gate, through the hyperbolic tangent of half its argument. -/
def rowGate (z : EReal) : EReal :=
  Ideal.ofBits .f32 0x3F000000#32 * z * Ideal.tanh (Ideal.ofBits .f32 0x3F000000#32 * z) + Ideal.ofBits .f32 0x3F000000#32 * z

/-- One element of a finished block. -/
def finRow (l : EReal) (s1 s2 : Fin 2304 → EReal) (v : Fin 2304 → Fin 256 → EReal) (w : Fin 128 → EReal) (z : EReal)
    (d : Fin 128) : EReal :=
  rowNorm (fun c => rowAvg s1 v c - l * rowAvg s2 v c) w d * rowGate z

/-- One score of the first map: the lanes of the first half of every 64. -/
def row1 (q : Fin 128 → EReal) (k : Fin 2304 → Fin 128 → EReal) (j : Fin 2304) : EReal :=
  ∑ x : Fin 128, if x.val % 64 < 32 then q x * k j x else 0

/-- One score of the second map: the other lanes. -/
def row2 (q : Fin 128 → EReal) (k : Fin 2304 → Fin 128 → EReal) (j : Fin 2304) : EReal :=
  ∑ x : Fin 128, if x.val % 64 < 32 then 0 else q x * k j x

/-- The factor of the second map, from the row of four vectors. -/
def lamVal (l : Fin 4 → Fin 64 → EReal) : EReal :=
  Ideal.exp (∑ x, l 0 x * l 1 x) - Ideal.exp (∑ x, l 2 x * l 3 x) + Ideal.ofBits .f32 1045220557#32

theorem lam_at (l : FVec Ideal S1x4x64 .f32) (i j : Fin 1) :
    k0_pay21 (F := Ideal) l (ix2 i j) = lamVal (fun a b => l (ix3 0 a b)) := by
  pointwise [k0_pay21]
  rfl

/-- The body's test of a lane: its number modulo 64 is below 32. -/
def laneBit (x : Fin 128) : BitVec 1 := (IntOp.cmpi CmpIPredicate.slt
        (Scalar.select
          (IntOp.andi
            (IntOp.xori
              (IntOp.cmpi CmpIPredicate.slt
                (IntOp.remsi ArithUnit.vector (BitVec.ofNat 32 x.val)
                  (Scalar.select (Scalar.cmpi CmpIPredicate.eq 64#32 0#32) 1#32 64#32))
                0#32)
              (Scalar.cmpi CmpIPredicate.slt (Scalar.select (Scalar.cmpi CmpIPredicate.eq 64#32 0#32) 1#32 64#32) 0#32))
            (IntOp.cmpi CmpIPredicate.ne
              (IntOp.remsi ArithUnit.vector (BitVec.ofNat 32 x.val)
                (Scalar.select (Scalar.cmpi CmpIPredicate.eq 64#32 0#32) 1#32 64#32))
              0#32))
          (IntOp.addi
            (IntOp.remsi ArithUnit.vector (BitVec.ofNat 32 x.val)
              (Scalar.select (Scalar.cmpi CmpIPredicate.eq 64#32 0#32) 1#32 64#32))
            (Scalar.select (Scalar.cmpi CmpIPredicate.eq 64#32 0#32) 1#32 64#32))
          (IntOp.remsi ArithUnit.vector (BitVec.ofNat 32 x.val)
            (Scalar.select (Scalar.cmpi CmpIPredicate.eq 64#32 0#32) 1#32 64#32)))
        32#32)

theorem laneBit_eq : ∀ x : Fin 128, laneBit x = if x.val % 64 < 32 then 1#1 else 0#1 := by decide +kernel

theorem scoreB_at1 (q : FVec Ideal S1x256x128 .bf16) (k : FVec Ideal S1x2304x128 .bf16) (r : Fin 256) (j : Fin 2304) :
    scoreB q k (ix2 (⟨r.val, by omega⟩ : Fin 512) j) = row1 (fun x => q (ix3 0 r x)) (fun j x => k (ix3 0 j x)) j := by
  pointwise [scoreB, k0_pay23, lanes]
  unfold row1
  refine Finset.sum_congr rfl fun x _ => ?_
  change Scalar.select (laneBit x) _ _ = _
  rw [laneBit_eq]
  split <;> rfl

theorem scoreB_at2 (q : FVec Ideal S1x256x128 .bf16) (k : FVec Ideal S1x2304x128 .bf16) (r : Fin 256) (j : Fin 2304) :
    scoreB q k (ix2 (⟨256 + r.val, by omega⟩ : Fin 512) j) = row2 (fun x => q (ix3 0 r x)) (fun j x => k (ix3 0 j x)) j := by
  pointwise [scoreB, k0_pay23, lanes]
  unfold row2
  refine Finset.sum_congr rfl fun x _ => ?_
  change Scalar.select (laneBit x) _ _ = _
  rw [laneBit_eq]
  split <;> rfl

theorem finB_at (lam : FVec Ideal S1x1 .f32) (s : FVec Ideal S512x2304 .f32) (v : FVec Ideal S1x2304x256 .bf16)
    (w : FVec Ideal S1x1x128 .f32) (z : FVec Ideal S1x256x128 .bf16) (r : Fin 256) (d : Fin 128) :
    finB lam s v w z (ix2 r d) = finRow (lam (ix2 0 0)) (fun x => s (ix2 (⟨r.val, by omega⟩ : Fin 512) x))
      (fun x => s (ix2 (⟨256 + r.val, by omega⟩ : Fin 512) x)) (fun x c => v (ix3 0 x c)) (fun c => w (ix3 0 0 c))
      (z (ix3 0 r d)) d := by
  pointwise [finB, k0_pay25, diffB]
  rfl

/-- The keys of a step's two heads: the latent tokens' above the context's. -/
def keysV (k : Vec Ideal S1x2048x256 .bf16) (kc : Vec Ideal S1x256x256 .bf16) : Vec Ideal S2x2304x128 .bf16 :=
  View.canon (Val := Elt Ideal) (s := S2x2304x128) (e := .bf16)
    [⟨Rect.unit ![1, 2048, 0] ![1, 256, 128] inb_S2x2304x128_S1x256x128_1_2048_0,
        k0_pay14 (View.ld kc (Rect.unit ![0, 0, 128] ![1, 256, 128] inb_S1x256x256_S1x256x128_0_0_128))⟩,
      ⟨Rect.unit ![1, 0, 0] ![1, 2048, 128] inb_S2x2304x128_S1x2048x128_1_0_0,
        k0_pay13 (View.ld k (Rect.unit ![0, 0, 128] ![1, 2048, 128] inb_S1x2048x256_S1x2048x128_0_0_128))⟩,
      ⟨Rect.unit ![0, 2048, 0] ![1, 256, 128] inb_S2x2304x128_S1x256x128_0_2048_0,
        k0_pay8 (View.ld kc (Rect.unit ![0, 0, 0] ![1, 256, 128] inb_S1x256x256_S1x256x128_0_0_0))⟩,
      ⟨Rect.unit ![0, 0, 0] ![1, 2048, 128] inb_S2x2304x128_S1x2048x128_0_0_0,
        k0_pay7 (View.ld k (Rect.unit ![0, 0, 0] ![1, 2048, 128] inb_S1x2048x256_S1x2048x128_0_0_0))⟩]

/-- The values of a step's two heads, with a column of ones behind them. -/
def valsV (v : Vec Ideal S1x2048x256 .bf16) (vc : Vec Ideal S1x256x256 .bf16) : Vec Ideal S2x2304x256 .bf16 :=
  View.canon (Val := Elt Ideal) (s := S2x2304x256) (e := .bf16)
    [⟨Rect.unit ![1, 0, 128] ![1, 2304, 128] inb_S2x2304x256_S1x2304x128_1_0_128, k0_pay18 (F := Ideal) (k0_pay17 k0_pay6)⟩,
      ⟨Rect.unit ![1, 2048, 0] ![1, 256, 128] inb_S2x2304x256_S1x256x128_1_2048_0,
        k0_pay16 (View.ld vc (Rect.unit ![0, 0, 128] ![1, 256, 128] inb_S1x256x256_S1x256x128_0_0_128))⟩,
      ⟨Rect.unit ![1, 0, 0] ![1, 2048, 128] inb_S2x2304x256_S1x2048x128_1_0_0,
        k0_pay15 (View.ld v (Rect.unit ![0, 0, 128] ![1, 2048, 128] inb_S1x2048x256_S1x2048x128_0_0_128))⟩,
      ⟨Rect.unit ![0, 0, 128] ![1, 2304, 128] inb_S2x2304x256_S1x2304x128_0_0_128, k0_pay12 (F := Ideal) k0_pay11⟩,
      ⟨Rect.unit ![0, 2048, 0] ![1, 256, 128] inb_S2x2304x256_S1x256x128_0_2048_0,
        k0_pay10 (View.ld vc (Rect.unit ![0, 0, 0] ![1, 256, 128] inb_S1x256x256_S1x256x128_0_0_0))⟩,
      ⟨Rect.unit ![0, 0, 0] ![1, 2048, 128] inb_S2x2304x256_S1x2048x128_0_0_0,
        k0_pay9 (View.ld v (Rect.unit ![0, 0, 0] ![1, 2048, 128] inb_S1x2048x256_S1x2048x128_0_0_0))⟩]

/-- Two runs of rows, one behind the other. -/
def rowsCat (a : Fin 2048 → EReal) (b : Fin 256 → EReal) (j : Fin 2304) : EReal :=
  if h : j.val < 2048 then a ⟨j.val, h⟩ else b ⟨j.val - 2048, by omega⟩

theorem pay14_id (x : Vec Ideal S1x256x128 .bf16) : k0_pay14 (F := Ideal) x = x := by
  funext y
  idx_vars y
  pointwise [k0_pay14]

theorem pay13_id (x : Vec Ideal S1x2048x128 .bf16) : k0_pay13 (F := Ideal) x = x := by
  funext y
  idx_vars y
  pointwise [k0_pay13]

theorem pay8_id (x : Vec Ideal S1x256x128 .bf16) : k0_pay8 (F := Ideal) x = x := by
  funext y
  idx_vars y
  pointwise [k0_pay8]

theorem pay7_id (x : Vec Ideal S1x2048x128 .bf16) : k0_pay7 (F := Ideal) x = x := by
  funext y
  idx_vars y
  pointwise [k0_pay7]

theorem pay16_id (x : Vec Ideal S1x256x128 .bf16) : k0_pay16 (F := Ideal) x = x := by
  funext y
  idx_vars y
  pointwise [k0_pay16]

theorem pay15_id (x : Vec Ideal S1x2048x128 .bf16) : k0_pay15 (F := Ideal) x = x := by
  funext y
  idx_vars y
  pointwise [k0_pay15]

theorem pay10_id (x : Vec Ideal S1x256x128 .bf16) : k0_pay10 (F := Ideal) x = x := by
  funext y
  idx_vars y
  pointwise [k0_pay10]

theorem pay9_id (x : Vec Ideal S1x2048x128 .bf16) : k0_pay9 (F := Ideal) x = x := by
  funext y
  idx_vars y
  pointwise [k0_pay9]

theorem firstBit_eq : ∀ x : Fin 128, IntOp.cmpi CmpIPredicate.eq (BitVec.ofNat 32 x.val) 0#32 = if x.val = 0 then 1#1 else 0#1 := by
  decide +kernel

theorem pay12_at (a : Fin 1) (j : Fin 2304) (x : Fin 128) :
    k0_pay12 (F := Ideal) k0_pay11 (ix3 a j x) = if x.val = 0 then 1 else 0 := by
  pointwise [k0_pay12, k0_pay11, k0_pay6]
  rw [firstBit_eq]
  split <;> rfl

theorem pay18_at (a : Fin 1) (j : Fin 2304) (x : Fin 128) :
    k0_pay18 (F := Ideal) (k0_pay17 k0_pay6) (ix3 a j x) = if x.val = 0 then 1 else 0 := by
  pointwise [k0_pay18, k0_pay17, k0_pay6]
  rw [firstBit_eq]
  split <;> rfl

set_option backward.isDefEq.respectTransparency false in
theorem keysV_at (k : Vec Ideal S1x2048x256 .bf16) (kc : Vec Ideal S1x256x256 .bf16) (g : Fin 2) (j : Fin 2304) (x : Fin 128) :
    keysV k kc (ix3 g j x) = rowsCat (fun j => k (ix3 0 j ⟨128 * g.val + x.val, by omega⟩))
      (fun j => kc (ix3 0 j ⟨128 * g.val + x.val, by omega⟩)) j := by
  unfold keysV rowsCat
  canon_tiles y h using View.cover_of_tiledBy _ ![1, 256, 128] (by sl_kernel_rfl) _
  case piece0 =>
    have e0 : g.val = 1 + (y 0).val := h0
    have e1 : j.val = 2048 + (y 1).val := h1
    have e2 : x.val = (y 2).val := h2
    rw [pay14_id, dif_neg (by omega)]
    refine View.ld_unit_apply_of _ _ _ _ _ _ fun a => ?_
    fin_cases a
    · show 0 = 0 + (y 0).val; omega
    · show j.val - 2048 = 0 + (y 1).val; omega
    · show 128 * g.val + x.val = 128 + (y 2).val; omega
  case piece1 =>
    have e0 : g.val = 1 + (y 0).val := h0
    have e1 : j.val = (y 1).val := h1
    have e2 : x.val = (y 2).val := h2
    rw [pay13_id, dif_pos (by omega)]
    refine View.ld_unit_apply_of _ _ _ _ _ _ fun a => ?_
    fin_cases a
    · show 0 = 0 + (y 0).val; omega
    · show j.val = 0 + (y 1).val; omega
    · show 128 * g.val + x.val = 128 + (y 2).val; omega
  case piece2 =>
    have e0 : g.val = (y 0).val := h0
    have e1 : j.val = 2048 + (y 1).val := h1
    have e2 : x.val = (y 2).val := h2
    rw [pay8_id, dif_neg (by omega)]
    refine View.ld_unit_apply_of _ _ _ _ _ _ fun a => ?_
    fin_cases a
    · show 0 = 0 + (y 0).val; omega
    · show j.val - 2048 = 0 + (y 1).val; omega
    · show 128 * g.val + x.val = 0 + (y 2).val; omega
  case piece3 =>
    have e0 : g.val = (y 0).val := h0
    have e1 : j.val = (y 1).val := h1
    have e2 : x.val = (y 2).val := h2
    rw [pay7_id, dif_pos (by omega)]
    refine View.ld_unit_apply_of _ _ _ _ _ _ fun a => ?_
    fin_cases a
    · show 0 = 0 + (y 0).val; omega
    · show j.val = 0 + (y 1).val; omega
    · show 128 * g.val + x.val = 0 + (y 2).val; omega

set_option backward.isDefEq.respectTransparency false in
theorem valsV_at (v : Vec Ideal S1x2048x256 .bf16) (vc : Vec Ideal S1x256x256 .bf16) (g : Fin 2) (j : Fin 2304) (x : Fin 256) :
    valsV v vc (ix3 g j x) = if h : x.val < 128 then rowsCat (fun j => v (ix3 0 j ⟨128 * g.val + x.val, by omega⟩))
      (fun j => vc (ix3 0 j ⟨128 * g.val + x.val, by omega⟩)) j else if x.val = 128 then 1 else 0 := by
  unfold valsV rowsCat
  canon_tiles y h using View.cover_of_tiledBy _ ![1, 256, 128] (by sl_kernel_rfl) _
  case piece0 =>
    have e2 : x.val = 128 + (y 2).val := h2
    rw [dif_neg (by omega)]
    obtain ⟨a, b, c, rfl⟩ : ∃ a b c, y = ix3 a b c := ⟨y 0, y 1, y 2, by funext a; fin_cases a <;> rfl⟩
    have e3 : x.val = 128 + c.val := e2
    refine (pay18_at a b c).trans ?_
    simp only [e3, Nat.add_eq_left]
  case piece1 =>
    have e0 : g.val = 1 + (y 0).val := h0
    have e1 : j.val = 2048 + (y 1).val := h1
    have e2 : x.val = (y 2).val := h2
    rw [pay16_id, dif_pos (by omega), dif_neg (by omega)]
    refine View.ld_unit_apply_of _ _ _ _ _ _ fun a => ?_
    fin_cases a
    · show 0 = 0 + (y 0).val; omega
    · show j.val - 2048 = 0 + (y 1).val; omega
    · show 128 * g.val + x.val = 128 + (y 2).val; omega
  case piece2 =>
    have e0 : g.val = 1 + (y 0).val := h0
    have e1 : j.val = (y 1).val := h1
    have e2 : x.val = (y 2).val := h2
    rw [pay15_id, dif_pos (by omega), dif_pos (by omega)]
    refine View.ld_unit_apply_of _ _ _ _ _ _ fun a => ?_
    fin_cases a
    · show 0 = 0 + (y 0).val; omega
    · show j.val = 0 + (y 1).val; omega
    · show 128 * g.val + x.val = 128 + (y 2).val; omega
  case piece3 =>
    have e2 : x.val = 128 + (y 2).val := h2
    rw [dif_neg (by omega)]
    obtain ⟨a, b, c, rfl⟩ : ∃ a b c, y = ix3 a b c := ⟨y 0, y 1, y 2, by funext a; fin_cases a <;> rfl⟩
    have e3 : x.val = 128 + c.val := e2
    refine (pay12_at a b c).trans ?_
    simp only [e3, Nat.add_eq_left]
  case piece4 =>
    have e0 : g.val = (y 0).val := h0
    have e1 : j.val = 2048 + (y 1).val := h1
    have e2 : x.val = (y 2).val := h2
    rw [pay10_id, dif_pos (by omega), dif_neg (by omega)]
    refine View.ld_unit_apply_of _ _ _ _ _ _ fun a => ?_
    fin_cases a
    · show 0 = 0 + (y 0).val; omega
    · show j.val - 2048 = 0 + (y 1).val; omega
    · show 128 * g.val + x.val = 0 + (y 2).val; omega
  case piece5 =>
    have e0 : g.val = (y 0).val := h0
    have e1 : j.val = (y 1).val := h1
    have e2 : x.val = (y 2).val := h2
    rw [pay9_id, dif_pos (by omega), dif_pos (by omega)]
    refine View.ld_unit_apply_of _ _ _ _ _ _ fun a => ?_
    fin_cases a
    · show 0 = 0 + (y 0).val; omega
    · show j.val = 0 + (y 1).val; omega
    · show 128 * g.val + x.val = 0 + (y 2).val; omega

end Cert.KernelIdeal.Attn
-- ==== Proof.Step.lean ====
module

public import proofs.«01_k».proof.Proof.Blk
public import proofs.«01_k».proof.Proof.Gen.KernelIdeal.Value

@[expose] public section

set_option maxRecDepth 16384

noncomputable section

open Idealize.ShloMosaic Idealize.ShloMosaic.TcCoe Idealize.SL.Sem

namespace Cert.KernelIdeal.Attn

open Cert.KernelIdeal Cert.KernelIdeal.Gen

/-! ## Rows of the windows' blocks -/

/-- A query row of one of the step's heads. -/
def qRow (x2 : Vec Ideal S1x2048x256 .bf16) (R : Fin 2048) (g : Fin 2) (x : Fin 128) : EReal :=
  x2 (ix3 0 R ⟨128 * g.val + x.val, by omega⟩)

/-- The rows of keys of one of the step's heads. -/
def kRow (x3 : Vec Ideal S1x2048x256 .bf16) (x6 : Vec Ideal S1x256x256 .bf16) (g : Fin 2) (j : Fin 2304) (x : Fin 128) : EReal :=
  rowsCat (fun j => x3 (ix3 0 j ⟨128 * g.val + x.val, by omega⟩)) (fun j => x6 (ix3 0 j ⟨128 * g.val + x.val, by omega⟩)) j

/-- The rows of values of one of the step's heads, with the column of ones behind them. -/
def vRow (x4 : Vec Ideal S1x2048x256 .bf16) (x7 : Vec Ideal S1x256x256 .bf16) (g : Fin 2) (j : Fin 2304) (x : Fin 256) : EReal :=
  if h : x.val < 128 then rowsCat (fun j => x4 (ix3 0 j ⟨128 * g.val + x.val, by omega⟩))
    (fun j => x7 (ix3 0 j ⟨128 * g.val + x.val, by omega⟩)) j else if x.val = 128 then 1 else 0

/-- One element of the step's output block. -/
def outVal (x0 : Vec Ideal S1x4x64 .f32) (x1 : Vec Ideal S1x1x128 .f32) (x2 x3 x4 x5 : Vec Ideal S1x2048x256 .bf16)
    (x6 x7 : Vec Ideal S1x256x256 .bf16) (R : Fin 2048) (g : Fin 2) (d : Fin 128) : EReal :=
  finRow (lamVal fun a b => x0 (ix3 0 a b)) (row1 (qRow x2 R g) (kRow x3 x6 g)) (row2 (qRow x2 R g) (kRow x3 x6 g))
    (vRow x4 x7 g) (fun c => x1 (ix3 0 0 c)) (x5 (ix3 0 R ⟨128 * g.val + d.val, by omega⟩)) d

/-- A pair of score blocks holds the scores of 512 query rows. -/
def Carried (s : Vec Ideal S2x512x2304 .f32) (q : Fin 512 → Fin 128 → EReal) (k : Fin 2304 → Fin 128 → EReal) : Prop :=
  ∀ (t : Fin 2) (r : Fin 256) (j : Fin 2304),
    s (ix3 t (⟨r.val, by omega⟩ : Fin 512) j) = row1 (q ⟨256 * t.val + r.val, by omega⟩) k j ∧
    s (ix3 t (⟨256 + r.val, by omega⟩ : Fin 512) j) = row2 (q ⟨256 * t.val + r.val, by omega⟩) k j

/-- A load through a rectangle of a buffer of rank three, at its coordinates. -/
theorem ld3 {A B C a b c : ℕ} {e : EltTy} (X : Vec Ideal ⟨3, ![A, B, C]⟩ e) (o0 o1 o2 : ℕ)
    (inb : ∀ i, (![o0, o1, o2] : Fin 3 → ℕ) i + (![a, b, c] : Fin 3 → ℕ) i ≤ (⟨3, ![A, B, C]⟩ : Shape).size i)
    (y : (⟨3, ![a, b, c]⟩ : Shape).Idx) (i0 : Fin A) (i1 : Fin B) (i2 : Fin C)
    (h0 : i0.val = o0 + (y 0).val) (h1 : i1.val = o1 + (y 1).val) (h2 : i2.val = o2 + (y 2).val) :
    View.ld (Val := Elt Ideal) (e' := e) X (Rect.unit (s := ⟨3, ![A, B, C]⟩) ![o0, o1, o2] ![a, b, c] inb) y = X (ix3 i0 i1 i2) := by
  refine View.ld_unit_apply_of _ _ _ _ _ _ fun a => ?_
  fin_cases a
  · exact h0
  · exact h1
  · exact h2

theorem cast3_at (X : Vec Ideal S1x512x2304 .f32) (h) (i : Fin 512) (j : Fin 2304) :
    shapeCast S512x2304 X h (ix2 i j) = X (ix3 0 i j) := by
  pointwise

theorem cast2_at (X : Vec Ideal S512x2304 .f32) (h) (u : Fin 1) (i : Fin 512) (j : Fin 2304) :
    shapeCast S1x512x2304 X h (ix3 u i j) = X (ix2 i j) := by
  pointwise

theorem castO_at (X : Vec Ideal S256x128 .bf16) (h) (u : Fin 1) (i : Fin 256) (j : Fin 128) :
    shapeCast S1x256x128 X h (ix3 u i j) = X (ix2 i j) := by
  pointwise

/-- Under two writes that cover a buffer the earlier writes do not show. -/
theorem canon_two {s : Shape} {e : EltTy} (p q : View.Piece (Elt Ideal) s e) (L : List (View.Piece (Elt Ideal) s e)) (y : s.Idx)
    (h : ∃ a ∈ [p, q], y ∈ a.1.set) : View.canon (p :: q :: L) y = View.canon [p, q] y := by
  by_cases hp : y ∈ p.1.set
  · obtain ⟨r, w⟩ := p
    obtain ⟨x, rfl⟩ : ∃ x, r.emb x = y := r.exists_idx_of_mem hp
    rw [View.canon_cons_emb, View.canon_cons_emb]
  · rw [View.canon_cons_of_not_mem p _ hp, View.canon_cons_of_not_mem p _ hp]
    have hq : y ∈ q.1.set := by
      obtain ⟨a, ha, hy⟩ := h
      simp only [List.mem_cons, List.not_mem_nil, or_false] at ha
      rcases ha with rfl | rfl
      · exact absurd hy hp
      · exact hy
    obtain ⟨r, w⟩ := q
    obtain ⟨x, rfl⟩ : ∃ x, r.emb x = y := r.exists_idx_of_mem hq
    rw [View.canon_cons_emb, View.canon_cons_emb]

/-! ## A finished block and a block of scores, over the windows' blocks -/

theorem fin_read (x0 : Vec Ideal S1x4x64 .f32) (x1 : Vec Ideal S1x1x128 .f32) (x2 x3 x4 x5 : Vec Ideal S1x2048x256 .bf16)
    (x6 x7 : Vec Ideal S1x256x256 .bf16) (s : FVec Ideal S512x2304 .f32) (γ o c0 : ℕ) (hc : c0 = 128 * γ)
    (inbv : ∀ i, (![γ, 0, 0] : Fin 3 → ℕ) i + (![1, 2304, 256] : Fin 3 → ℕ) i ≤ S2x2304x256.size i)
    (inbz : ∀ i, (![0, o, c0] : Fin 3 → ℕ) i + (![1, 256, 128] : Fin 3 → ℕ) i ≤ S1x2048x256.size i)
    (h) (y : S1x256x128.Idx) (R : Fin 2048) (g : Fin 2) (d : Fin 128)
    (h1 : R.val = o + (y 1).val) (h2 : 128 * g.val + d.val = c0 + (y 2).val)
    (hs : ∀ (r : Fin 256), R.val = o + r.val → g.val = γ → ∀ j,
      s (ix2 (⟨r.val, by omega⟩ : Fin 512) j) = row1 (qRow x2 R g) (kRow x3 x6 g) j ∧
      s (ix2 (⟨256 + r.val, by omega⟩ : Fin 512) j) = row2 (qRow x2 R g) (kRow x3 x6 g) j) :
    shapeCast S1x256x128 (finB (k0_pay21 (F := Ideal) x0) s
      (View.ld (Val := Elt Ideal) (e' := .bf16) (valsV x4 x7) (Rect.unit (s := S2x2304x256) ![γ, 0, 0] ![1, 2304, 256] inbv)) x1
      (View.ld (Val := Elt Ideal) (e' := .bf16) x5 (Rect.unit (s := S1x2048x256) ![0, o, c0] ![1, 256, 128] inbz))) h y
      = outVal x0 x1 x2 x3 x4 x5 x6 x7 R g d := by
  obtain ⟨u, r, c, rfl⟩ : ∃ (u : Fin 1) (r : Fin 256) (c : Fin 128), y = ix3 u r c :=
    ⟨y 0, y 1, y 2, by funext a; fin_cases a <;> rfl⟩
  have e1 : R.val = o + r.val := h1
  have e2 : 128 * g.val + d.val = c0 + c.val := h2
  have eg : g.val = γ := by omega
  obtain rfl : d = c := Fin.ext (by omega)
  refine (castO_at _ h u r d).trans ?_
  rw [finB_at, lam_at]
  unfold outVal
  have hv : (fun (x : Fin 2304) (c : Fin 256) => View.ld (Val := Elt Ideal) (e' := .bf16) (valsV x4 x7)
      (Rect.unit (s := S2x2304x256) ![γ, 0, 0] ![1, 2304, 256] inbv) (ix3 (0 : Fin 1) x c)) = vRow x4 x7 g := by
    funext j c
    refine (ld3 (valsV x4 x7) γ 0 0 inbv (ix3 (0 : Fin 1) j c) g j c ?_ ?_ ?_).trans (valsV_at x4 x7 g j c)
    · exact eg
    · show j.val = 0 + j.val; omega
    · show c.val = 0 + c.val; omega
  have hz : View.ld (Val := Elt Ideal) (e' := .bf16) x5 (Rect.unit (s := S1x2048x256) ![0, o, c0] ![1, 256, 128] inbz) (ix3 (0 : Fin 1) r d)
      = x5 (ix3 0 R ⟨128 * g.val + d.val, by omega⟩) :=
    ld3 x5 0 o c0 inbz (ix3 (0 : Fin 1) r d) 0 R _ rfl e1 e2
  have hs1 : (fun x => s (ix2 (⟨r.val, by omega⟩ : Fin 512) x)) = row1 (qRow x2 R g) (kRow x3 x6 g) :=
    funext fun j => (hs r e1 eg j).1
  have hs2 : (fun x => s (ix2 (⟨256 + r.val, by omega⟩ : Fin 512) x)) = row2 (qRow x2 R g) (kRow x3 x6 g) :=
    funext fun j => (hs r e1 eg j).2
  exact congr (congr (congr (congr (congr (congr rfl hs1) hs2) hv) rfl) hz) rfl

theorem score_read (x2 x3 : Vec Ideal S1x2048x256 .bf16) (x6 : Vec Ideal S1x256x256 .bf16) (γ o c0 : ℕ) (hc : c0 = 128 * γ)
    (inbq : ∀ i, (![0, o, c0] : Fin 3 → ℕ) i + (![1, 256, 128] : Fin 3 → ℕ) i ≤ S1x2048x256.size i)
    (inbk : ∀ i, (![γ, 0, 0] : Fin 3 → ℕ) i + (![1, 2304, 128] : Fin 3 → ℕ) i ≤ S2x2304x128.size i)
    (R : Fin 2048) (g : Fin 2) (r : Fin 256) (hR : R.val = o + r.val) (hg : g.val = γ) (j : Fin 2304) :
    scoreB (View.ld (Val := Elt Ideal) (e' := .bf16) x2 (Rect.unit (s := S1x2048x256) ![0, o, c0] ![1, 256, 128] inbq))
      (View.ld (Val := Elt Ideal) (e' := .bf16) (keysV x3 x6) (Rect.unit (s := S2x2304x128) ![γ, 0, 0] ![1, 2304, 128] inbk))
      (ix2 (⟨r.val, by omega⟩ : Fin 512) j) = row1 (qRow x2 R g) (kRow x3 x6 g) j ∧
    scoreB (View.ld (Val := Elt Ideal) (e' := .bf16) x2 (Rect.unit (s := S1x2048x256) ![0, o, c0] ![1, 256, 128] inbq))
      (View.ld (Val := Elt Ideal) (e' := .bf16) (keysV x3 x6) (Rect.unit (s := S2x2304x128) ![γ, 0, 0] ![1, 2304, 128] inbk))
      (ix2 (⟨256 + r.val, by omega⟩ : Fin 512) j) = row2 (qRow x2 R g) (kRow x3 x6 g) j := by
  rw [scoreB_at1, scoreB_at2]
  have hq : (fun x : Fin 128 => View.ld (Val := Elt Ideal) (e' := .bf16) x2 (Rect.unit (s := S1x2048x256) ![0, o, c0] ![1, 256, 128] inbq)
      (ix3 (0 : Fin 1) r x)) = qRow x2 R g := by
    funext x
    refine ld3 x2 0 o c0 inbq (ix3 (0 : Fin 1) r x) 0 R _ rfl hR ?_
    show 128 * g.val + x.val = c0 + x.val; omega
  have hk : (fun (j : Fin 2304) (x : Fin 128) => View.ld (Val := Elt Ideal) (e' := .bf16) (keysV x3 x6)
      (Rect.unit (s := S2x2304x128) ![γ, 0, 0] ![1, 2304, 128] inbk) (ix3 (0 : Fin 1) j x)) = kRow x3 x6 g := by
    funext j x
    refine (ld3 (keysV x3 x6) γ 0 0 inbk (ix3 (0 : Fin 1) j x) g j x ?_ ?_ ?_).trans (keysV_at x3 x6 g j x)
    · exact hg
    · show j.val = 0 + j.val; omega
    · show x.val = 0 + x.val; omega
  exact ⟨congrFun (congr (congrArg row1 hq) hk) j, congrFun (congr (congrArg row2 hq) hk) j⟩

theorem carry_read (x2 x3 : Vec Ideal S1x2048x256 .bf16) (x6 : Vec Ideal S1x256x256 .bf16) (xs : Vec Ideal S2x512x2304 .f32)
    (hxs : Carried xs (fun R x => qRow x2 ⟨R.val, by omega⟩ 0 x) (kRow x3 x6 0)) (t : Fin 2) (τ o : ℕ) (ht : t.val = τ) (ho : o = 256 * τ)
    (inb : ∀ i, (![τ, 0, 0] : Fin 3 → ℕ) i + (![1, 512, 2304] : Fin 3 → ℕ) i ≤ S2x512x2304.size i) (h)
    (R : Fin 2048) (g : Fin 2) (r : Fin 256) (hR : R.val = o + r.val) (hg : g.val = 0) (j : Fin 2304) :
    shapeCast S512x2304 (View.ld (Val := Elt Ideal) (e' := .f32) xs (Rect.unit (s := S2x512x2304) ![τ, 0, 0] ![1, 512, 2304] inb)) h
      (ix2 (⟨r.val, by omega⟩ : Fin 512) j) = row1 (qRow x2 R g) (kRow x3 x6 g) j ∧
    shapeCast S512x2304 (View.ld (Val := Elt Ideal) (e' := .f32) xs (Rect.unit (s := S2x512x2304) ![τ, 0, 0] ![1, 512, 2304] inb)) h
      (ix2 (⟨256 + r.val, by omega⟩ : Fin 512) j) = row2 (qRow x2 R g) (kRow x3 x6 g) j := by
  obtain rfl : g = 0 := Fin.ext hg
  have hq : (⟨(⟨256 * t.val + r.val, by omega⟩ : Fin 512).val, by omega⟩ : Fin 2048) = R := Fin.ext (by simp only []; omega)
  have hx := hxs t r j
  simp only [] at hx hq
  rw [hq] at hx
  constructor
  · refine (cast3_at _ h _ j).trans (Eq.trans ?_ hx.1)
    refine ld3 xs τ 0 0 inb _ t _ j ?_ ?_ ?_
    · exact ht
    · show r.val = 0 + r.val; omega
    · show j.val = 0 + j.val; omega
  · refine (cast3_at _ h _ j).trans (Eq.trans ?_ hx.2)
    refine ld3 xs τ 0 0 inb _ t _ j ?_ ?_ ?_
    · exact ht
    · show 256 + r.val = 0 + (256 + r.val); omega
    · show j.val = 0 + j.val; omega

/-! ## The two score blocks of the next head -/

/-- The keys of the next step's first head. -/
def nextV (k : Vec Ideal S1x2048x128 .bf16) (kc : Vec Ideal S1x256x128 .bf16) : Vec Ideal S2304x128 .bf16 :=
  View.canon (Val := Elt Ideal) (s := S2304x128) (e := .bf16)
    [⟨Rect.unit ![2048, 0] ![256, 128] inb_S2304x128_S256x128_2048_0, k0_pay20 kc⟩,
      ⟨Rect.unit ![0, 0] ![2048, 128] inb_S2304x128_S2048x128_0_0, k0_pay19 k⟩]

theorem pay19_at (x : Vec Ideal S1x2048x128 .bf16) (i : Fin 2048) (j : Fin 128) : k0_pay19 (F := Ideal) x (ix2 i j) = x (ix3 0 i j) := by
  pointwise [k0_pay19]

theorem pay20_at (x : Vec Ideal S1x256x128 .bf16) (i : Fin 256) (j : Fin 128) : k0_pay20 (F := Ideal) x (ix2 i j) = x (ix3 0 i j) := by
  pointwise [k0_pay20]

set_option backward.isDefEq.respectTransparency false in
theorem nextV_at (k : Vec Ideal S1x2048x128 .bf16) (kc : Vec Ideal S1x256x128 .bf16) (j : Fin 2304) (x : Fin 128) :
    nextV k kc (ix2 j x) = rowsCat (fun j => k (ix3 0 j x)) (fun j => kc (ix3 0 j x)) j := by
  unfold nextV rowsCat
  canon_tiles y h using View.cover_of_tiledBy _ ![256, 128] (by sl_kernel_rfl) _
  case piece0 =>
    obtain ⟨a, b, rfl⟩ : ∃ a b, y = ix2 a b := ⟨y 0, y 1, by funext a; fin_cases a <;> rfl⟩
    have e0 : j.val = 2048 + a.val := h0
    obtain rfl : x = b := Fin.ext h1
    rw [dif_neg (by omega)]
    refine (pay20_at kc a x).trans (congrArg kc (congrArg (ix3 0 · x) (Fin.ext ?_)))
    show a.val = j.val - 2048; omega
  case piece1 =>
    obtain ⟨a, b, rfl⟩ : ∃ a b, y = ix2 a b := ⟨y 0, y 1, by funext a; fin_cases a <;> rfl⟩
    have e0 : j.val = a.val := h0
    obtain rfl : x = b := Fin.ext h1
    rw [dif_pos (by omega)]
    refine (pay19_at k a x).trans (congrArg k (congrArg (ix3 0 · x) (Fin.ext ?_)))
    show a.val = j.val; omega

/-- The scores of a block of the next head's query rows. -/
def scoreN (q : FVec Ideal S1x256x128 .bf16) (k : FVec Ideal S2304x128 .bf16) : FVec Ideal S512x2304 .f32 :=
  k0_pay104 (F := Ideal) lanes (k0_pay102 q) k k0_pay103 64#32

theorem scoreN_at1 (q : FVec Ideal S1x256x128 .bf16) (k : FVec Ideal S2304x128 .bf16) (r : Fin 256) (j : Fin 2304) :
    scoreN q k (ix2 (⟨r.val, by omega⟩ : Fin 512) j) = row1 (fun x => q (ix3 0 r x)) (fun j x => k (ix2 j x)) j := by
  pointwise [scoreN, k0_pay104, k0_pay102, k0_pay103, lanes]
  unfold row1
  refine Finset.sum_congr rfl fun x _ => ?_
  change Scalar.select (laneBit x) _ _ = _
  rw [laneBit_eq]
  split <;> rfl

theorem scoreN_at2 (q : FVec Ideal S1x256x128 .bf16) (k : FVec Ideal S2304x128 .bf16) (r : Fin 256) (j : Fin 2304) :
    scoreN q k (ix2 (⟨256 + r.val, by omega⟩ : Fin 512) j) = row2 (fun x => q (ix3 0 r x)) (fun j x => k (ix2 j x)) j := by
  pointwise [scoreN, k0_pay104, k0_pay102, k0_pay103, lanes]
  unfold row2
  refine Finset.sum_congr rfl fun x _ => ?_
  change Scalar.select (laneBit x) _ _ = _
  rw [laneBit_eq]
  split <;> rfl

theorem next_read (x8 : Vec Ideal S1x512x128 .bf16) (x9 : Vec Ideal S1x2048x128 .bf16) (x10 : Vec Ideal S1x256x128 .bf16)
    (o : ℕ) (inb : ∀ i, (![0, o, 0] : Fin 3 → ℕ) i + (![1, 256, 128] : Fin 3 → ℕ) i ≤ S1x512x128.size i)
    (inbn : ∀ i, (![0, 0] : Fin 2 → ℕ) i + (![2304, 128] : Fin 2 → ℕ) i ≤ S2304x128.size i)
    (h) (y : S1x512x2304.Idx) (r : Fin 256) (j : Fin 2304) (R : Fin 512) (hR : R.val = o + r.val) (hj : j.val = (y 2).val) :
    (r.val = (y 1).val →
      shapeCast S1x512x2304 (scoreN (View.ld (Val := Elt Ideal) (e' := .bf16) x8 (Rect.unit (s := S1x512x128) ![0, o, 0] ![1, 256, 128] inb))
        (View.ld (Val := Elt Ideal) (e' := .bf16) (nextV x9 x10) (Rect.unit (s := S2304x128) ![0, 0] ![2304, 128] inbn))) h y
        = row1 (fun x => x8 (ix3 0 R x)) (fun j x => rowsCat (fun j => x9 (ix3 0 j x)) (fun j => x10 (ix3 0 j x)) j) j) ∧
    (256 + r.val = (y 1).val →
      shapeCast S1x512x2304 (scoreN (View.ld (Val := Elt Ideal) (e' := .bf16) x8 (Rect.unit (s := S1x512x128) ![0, o, 0] ![1, 256, 128] inb))
        (View.ld (Val := Elt Ideal) (e' := .bf16) (nextV x9 x10) (Rect.unit (s := S2304x128) ![0, 0] ![2304, 128] inbn))) h y
        = row2 (fun x => x8 (ix3 0 R x)) (fun j x => rowsCat (fun j => x9 (ix3 0 j x)) (fun j => x10 (ix3 0 j x)) j) j) := by
  obtain ⟨u, a, b, rfl⟩ : ∃ (u : Fin 1) (a : Fin 512) (b : Fin 2304), y = ix3 u a b :=
    ⟨y 0, y 1, y 2, by funext a; fin_cases a <;> rfl⟩
  obtain rfl : j = b := Fin.ext hj
  have hq : (fun x : Fin 128 => View.ld (Val := Elt Ideal) (e' := .bf16) x8 (Rect.unit (s := S1x512x128) ![0, o, 0] ![1, 256, 128] inb)
      (ix3 (0 : Fin 1) r x)) = fun x => x8 (ix3 0 R x) := by
    funext x
    refine ld3 x8 0 o 0 inb (ix3 (0 : Fin 1) r x) 0 R _ rfl hR ?_
    show x.val = 0 + x.val; omega
  have hk : (fun (j : Fin 2304) (x : Fin 128) => (View.ld (Val := Elt Ideal) (e' := .bf16) (nextV x9 x10) (Rect.unit (s := S2304x128) ![0, 0] ![2304, 128] inbn)) (ix2 j x))
      = fun j x => rowsCat (fun j => x9 (ix3 0 j x)) (fun j => x10 (ix3 0 j x)) j := by
    funext j x
    refine (View.ld_unit_apply_of _ _ _ _ _ (ix2 j x) fun a => ?_).trans (nextV_at x9 x10 j x)
    fin_cases a
    · show j.val = 0 + j.val; omega
    · show x.val = 0 + x.val; omega
  constructor
  · intro e
    have hr : r.val < 512 := Nat.lt_of_lt_of_le r.isLt (by decide)
    obtain rfl : a = ⟨r.val, hr⟩ := Fin.ext e.symm
    refine (cast2_at _ h u _ j).trans ?_
    rw [scoreN_at1]
    exact congrFun (congr (congrArg row1 hq) hk) j
  · intro e
    have hr : 256 + r.val < 512 := Nat.add_lt_add_left r.isLt 256
    obtain rfl : a = ⟨256 + r.val, hr⟩ := Fin.ext e.symm
    refine (cast2_at _ h u _ j).trans ?_
    rw [scoreN_at2]
    exact congrFun (congr (congrArg row2 hq) hk) j

/-! ## The output block and the carried blocks, per case -/

set_option backward.isDefEq.respectTransparency false in
theorem out_B (c : Dev nD) (i : grid0.Coords) (arg2 : Memref sig .tc .vmem S1x4x64 .f32) (harg2 : arg2.IsWhole) (arg3 : Memref sig .tc .vmem S1x1x128 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x256x256 .bf16) (harg8 : arg8.IsWhole) (arg9 : Memref sig .tc .vmem S1x256x256 .bf16) (harg9 : arg9.IsWhole) (arg10 : Memref sig .tc .vmem S1x512x128 .bf16) (harg10 : arg10.IsWhole) (arg11 : Memref sig .tc .vmem S1x2048x128 .bf16) (harg11 : arg11.IsWhole) (arg12 : Memref sig .tc .vmem S1x256x128 .bf16) (harg12 : arg12.IsWhole) (arg13 : Memref sig .tc .vmem S1x2048x256 .bf16) (harg13 : arg13.IsWhole) (arg14 : Memref sig .tc .vmem S2x2304x128 .bf16) (harg14 : arg14.IsWhole) (arg15 : Memref sig .tc .vmem S2x2304x256 .bf16) (harg15 : arg15.IsWhole) (arg16 : Memref sig .tc .vmem S2304x128 .bf16) (harg16 : arg16.IsWhole) (arg17 : Memref sig .tc .vmem S2x512x2304 .f32) (harg17 : arg17.IsWhole) (hc0 : ¬cond0_0 i)     (x0 : Vec Ideal S1x4x64 .f32) (x1 : Vec Ideal S1x1x128 .f32) (x2 : Vec Ideal S1x2048x256 .bf16) (x3 : Vec Ideal S1x2048x256 .bf16) (x4 : Vec Ideal S1x2048x256 .bf16) (x5 : Vec Ideal S1x2048x256 .bf16) (x6 : Vec Ideal S1x256x256 .bf16) (x7 : Vec Ideal S1x256x256 .bf16) (x8 : Vec Ideal S1x512x128 .bf16) (x9 : Vec Ideal S1x2048x128 .bf16) (x10 : Vec Ideal S1x256x128 .bf16) (xs3 : Vec Ideal S2x512x2304 .f32)
    (hxs : Carried xs3 (fun R x => qRow x2 ⟨R.val, by omega⟩ 0 x) (kRow x3 x6 0)) (R : Fin 2048) (g : Fin 2) (d : Fin 128) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs3 (ix3 0 R ⟨128 * g.val + d.val, by omega⟩)
      = outVal x0 x1 x2 x3 x4 x5 x6 x7 R g d := by
  frame_out
  simp only [View.readCov_eq_canon']
  canon_tiles x h
  case piece0 =>
    refine (congrFun (show _ = shapeCast S1x256x128 (finB (k0_pay21 (F := Ideal) x0) (scoreB (View.ld (Val := Elt Ideal) (e' := .bf16) x2 (Rect.unit (s := S1x2048x256) ![0, 1792, 128] ![1, 256, 128] inb_S1x2048x256_S1x256x128_0_1792_128)) (View.ld (Val := Elt Ideal) (e' := .bf16) (keysV x3 x6) (Rect.unit (s := S2x2304x128) ![1, 0, 0] ![1, 2304, 128] inb_S2x2304x128_S1x2304x128_1_0_0)))
      (View.ld (Val := Elt Ideal) (e' := .bf16) (valsV x4 x7) (Rect.unit (s := S2x2304x256) ![1, 0, 0] ![1, 2304, 256] inb_S2x2304x256_S1x2304x256_1_0_0)) x1 (View.ld (Val := Elt Ideal) (e' := .bf16) x5 (Rect.unit (s := S1x2048x256) ![0, 1792, 128] ![1, 256, 128] inb_S1x2048x256_S1x256x128_0_1792_128))) shapeCasts_S256x128_S1x256x128 from rfl) x).trans ?_
    exact fin_read x0 x1 x2 x3 x4 x5 x6 x7 _ 1 1792 128 rfl _ _ _ x R g d h1 h2
      (fun r hR hg j => score_read x2 x3 x6 1 1792 128 rfl _ _ R g r hR hg j)
  case piece1 =>
    refine (congrFun (show _ = shapeCast S1x256x128 (finB (k0_pay21 (F := Ideal) x0) (scoreB (View.ld (Val := Elt Ideal) (e' := .bf16) x2 (Rect.unit (s := S1x2048x256) ![0, 1536, 128] ![1, 256, 128] inb_S1x2048x256_S1x256x128_0_1536_128)) (View.ld (Val := Elt Ideal) (e' := .bf16) (keysV x3 x6) (Rect.unit (s := S2x2304x128) ![1, 0, 0] ![1, 2304, 128] inb_S2x2304x128_S1x2304x128_1_0_0)))
      (View.ld (Val := Elt Ideal) (e' := .bf16) (valsV x4 x7) (Rect.unit (s := S2x2304x256) ![1, 0, 0] ![1, 2304, 256] inb_S2x2304x256_S1x2304x256_1_0_0)) x1 (View.ld (Val := Elt Ideal) (e' := .bf16) x5 (Rect.unit (s := S1x2048x256) ![0, 1536, 128] ![1, 256, 128] inb_S1x2048x256_S1x256x128_0_1536_128))) shapeCasts_S256x128_S1x256x128 from rfl) x).trans ?_
    exact fin_read x0 x1 x2 x3 x4 x5 x6 x7 _ 1 1536 128 rfl _ _ _ x R g d h1 h2
      (fun r hR hg j => score_read x2 x3 x6 1 1536 128 rfl _ _ R g r hR hg j)
  case piece2 =>
    refine (congrFun (show _ = shapeCast S1x256x128 (finB (k0_pay21 (F := Ideal) x0) (scoreB (View.ld (Val := Elt Ideal) (e' := .bf16) x2 (Rect.unit (s := S1x2048x256) ![0, 1280, 128] ![1, 256, 128] inb_S1x2048x256_S1x256x128_0_1280_128)) (View.ld (Val := Elt Ideal) (e' := .bf16) (keysV x3 x6) (Rect.unit (s := S2x2304x128) ![1, 0, 0] ![1, 2304, 128] inb_S2x2304x128_S1x2304x128_1_0_0)))
      (View.ld (Val := Elt Ideal) (e' := .bf16) (valsV x4 x7) (Rect.unit (s := S2x2304x256) ![1, 0, 0] ![1, 2304, 256] inb_S2x2304x256_S1x2304x256_1_0_0)) x1 (View.ld (Val := Elt Ideal) (e' := .bf16) x5 (Rect.unit (s := S1x2048x256) ![0, 1280, 128] ![1, 256, 128] inb_S1x2048x256_S1x256x128_0_1280_128))) shapeCasts_S256x128_S1x256x128 from rfl) x).trans ?_
    exact fin_read x0 x1 x2 x3 x4 x5 x6 x7 _ 1 1280 128 rfl _ _ _ x R g d h1 h2
      (fun r hR hg j => score_read x2 x3 x6 1 1280 128 rfl _ _ R g r hR hg j)
  case piece3 =>
    refine (congrFun (show _ = shapeCast S1x256x128 (finB (k0_pay21 (F := Ideal) x0) (scoreB (View.ld (Val := Elt Ideal) (e' := .bf16) x2 (Rect.unit (s := S1x2048x256) ![0, 1024, 128] ![1, 256, 128] inb_S1x2048x256_S1x256x128_0_1024_128)) (View.ld (Val := Elt Ideal) (e' := .bf16) (keysV x3 x6) (Rect.unit (s := S2x2304x128) ![1, 0, 0] ![1, 2304, 128] inb_S2x2304x128_S1x2304x128_1_0_0)))
      (View.ld (Val := Elt Ideal) (e' := .bf16) (valsV x4 x7) (Rect.unit (s := S2x2304x256) ![1, 0, 0] ![1, 2304, 256] inb_S2x2304x256_S1x2304x256_1_0_0)) x1 (View.ld (Val := Elt Ideal) (e' := .bf16) x5 (Rect.unit (s := S1x2048x256) ![0, 1024, 128] ![1, 256, 128] inb_S1x2048x256_S1x256x128_0_1024_128))) shapeCasts_S256x128_S1x256x128 from rfl) x).trans ?_
    exact fin_read x0 x1 x2 x3 x4 x5 x6 x7 _ 1 1024 128 rfl _ _ _ x R g d h1 h2
      (fun r hR hg j => score_read x2 x3 x6 1 1024 128 rfl _ _ R g r hR hg j)
  case piece4 =>
    refine (congrFun (show _ = shapeCast S1x256x128 (finB (k0_pay21 (F := Ideal) x0) (scoreB (View.ld (Val := Elt Ideal) (e' := .bf16) x2 (Rect.unit (s := S1x2048x256) ![0, 768, 128] ![1, 256, 128] inb_S1x2048x256_S1x256x128_0_768_128)) (View.ld (Val := Elt Ideal) (e' := .bf16) (keysV x3 x6) (Rect.unit (s := S2x2304x128) ![1, 0, 0] ![1, 2304, 128] inb_S2x2304x128_S1x2304x128_1_0_0)))
      (View.ld (Val := Elt Ideal) (e' := .bf16) (valsV x4 x7) (Rect.unit (s := S2x2304x256) ![1, 0, 0] ![1, 2304, 256] inb_S2x2304x256_S1x2304x256_1_0_0)) x1 (View.ld (Val := Elt Ideal) (e' := .bf16) x5 (Rect.unit (s := S1x2048x256) ![0, 768, 128] ![1, 256, 128] inb_S1x2048x256_S1x256x128_0_768_128))) shapeCasts_S256x128_S1x256x128 from rfl) x).trans ?_
    exact fin_read x0 x1 x2 x3 x4 x5 x6 x7 _ 1 768 128 rfl _ _ _ x R g d h1 h2
      (fun r hR hg j => score_read x2 x3 x6 1 768 128 rfl _ _ R g r hR hg j)
  case piece5 =>
    refine (congrFun (show _ = shapeCast S1x256x128 (finB (k0_pay21 (F := Ideal) x0) (scoreB (View.ld (Val := Elt Ideal) (e' := .bf16) x2 (Rect.unit (s := S1x2048x256) ![0, 512, 128] ![1, 256, 128] inb_S1x2048x256_S1x256x128_0_512_128)) (View.ld (Val := Elt Ideal) (e' := .bf16) (keysV x3 x6) (Rect.unit (s := S2x2304x128) ![1, 0, 0] ![1, 2304, 128] inb_S2x2304x128_S1x2304x128_1_0_0)))
      (View.ld (Val := Elt Ideal) (e' := .bf16) (valsV x4 x7) (Rect.unit (s := S2x2304x256) ![1, 0, 0] ![1, 2304, 256] inb_S2x2304x256_S1x2304x256_1_0_0)) x1 (View.ld (Val := Elt Ideal) (e' := .bf16) x5 (Rect.unit (s := S1x2048x256) ![0, 512, 128] ![1, 256, 128] inb_S1x2048x256_S1x256x128_0_512_128))) shapeCasts_S256x128_S1x256x128 from rfl) x).trans ?_
    exact fin_read x0 x1 x2 x3 x4 x5 x6 x7 _ 1 512 128 rfl _ _ _ x R g d h1 h2
      (fun r hR hg j => score_read x2 x3 x6 1 512 128 rfl _ _ R g r hR hg j)
  case piece6 =>
    refine (congrFun (show _ = shapeCast S1x256x128 (finB (k0_pay21 (F := Ideal) x0) (scoreB (View.ld (Val := Elt Ideal) (e' := .bf16) x2 (Rect.unit (s := S1x2048x256) ![0, 256, 128] ![1, 256, 128] inb_S1x2048x256_S1x256x128_0_256_128)) (View.ld (Val := Elt Ideal) (e' := .bf16) (keysV x3 x6) (Rect.unit (s := S2x2304x128) ![1, 0, 0] ![1, 2304, 128] inb_S2x2304x128_S1x2304x128_1_0_0)))
      (View.ld (Val := Elt Ideal) (e' := .bf16) (valsV x4 x7) (Rect.unit (s := S2x2304x256) ![1, 0, 0] ![1, 2304, 256] inb_S2x2304x256_S1x2304x256_1_0_0)) x1 (View.ld (Val := Elt Ideal) (e' := .bf16) x5 (Rect.unit (s := S1x2048x256) ![0, 256, 128] ![1, 256, 128] inb_S1x2048x256_S1x256x128_0_256_128))) shapeCasts_S256x128_S1x256x128 from rfl) x).trans ?_
    exact fin_read x0 x1 x2 x3 x4 x5 x6 x7 _ 1 256 128 rfl _ _ _ x R g d h1 h2
      (fun r hR hg j => score_read x2 x3 x6 1 256 128 rfl _ _ R g r hR hg j)
  case piece7 =>
    refine (congrFun (show _ = shapeCast S1x256x128 (finB (k0_pay21 (F := Ideal) x0) (scoreB (View.ld (Val := Elt Ideal) (e' := .bf16) x2 (Rect.unit (s := S1x2048x256) ![0, 0, 128] ![1, 256, 128] inb_S1x2048x256_S1x256x128_0_0_128)) (View.ld (Val := Elt Ideal) (e' := .bf16) (keysV x3 x6) (Rect.unit (s := S2x2304x128) ![1, 0, 0] ![1, 2304, 128] inb_S2x2304x128_S1x2304x128_1_0_0)))
      (View.ld (Val := Elt Ideal) (e' := .bf16) (valsV x4 x7) (Rect.unit (s := S2x2304x256) ![1, 0, 0] ![1, 2304, 256] inb_S2x2304x256_S1x2304x256_1_0_0)) x1 (View.ld (Val := Elt Ideal) (e' := .bf16) x5 (Rect.unit (s := S1x2048x256) ![0, 0, 128] ![1, 256, 128] inb_S1x2048x256_S1x256x128_0_0_128))) shapeCasts_S256x128_S1x256x128 from rfl) x).trans ?_
    exact fin_read x0 x1 x2 x3 x4 x5 x6 x7 _ 1 0 128 rfl _ _ _ x R g d (h1.trans (Nat.zero_add _).symm) h2
      (fun r hR hg j => score_read x2 x3 x6 1 0 128 rfl _ _ R g r hR hg j)
  case piece8 =>
    refine (congrFun (show _ = shapeCast S1x256x128 (finB (k0_pay21 (F := Ideal) x0) (scoreB (View.ld (Val := Elt Ideal) (e' := .bf16) x2 (Rect.unit (s := S1x2048x256) ![0, 1792, 0] ![1, 256, 128] inb_S1x2048x256_S1x256x128_0_1792_0)) (View.ld (Val := Elt Ideal) (e' := .bf16) (keysV x3 x6) (Rect.unit (s := S2x2304x128) ![0, 0, 0] ![1, 2304, 128] inb_S2x2304x128_S1x2304x128_0_0_0)))
      (View.ld (Val := Elt Ideal) (e' := .bf16) (valsV x4 x7) (Rect.unit (s := S2x2304x256) ![0, 0, 0] ![1, 2304, 256] inb_S2x2304x256_S1x2304x256_0_0_0)) x1 (View.ld (Val := Elt Ideal) (e' := .bf16) x5 (Rect.unit (s := S1x2048x256) ![0, 1792, 0] ![1, 256, 128] inb_S1x2048x256_S1x256x128_0_1792_0))) shapeCasts_S256x128_S1x256x128 from rfl) x).trans ?_
    exact fin_read x0 x1 x2 x3 x4 x5 x6 x7 _ 0 1792 0 rfl _ _ _ x R g d h1 (h2.trans (Nat.zero_add _).symm)
      (fun r hR hg j => score_read x2 x3 x6 0 1792 0 rfl _ _ R g r hR hg j)
  case piece9 =>
    refine (congrFun (show _ = shapeCast S1x256x128 (finB (k0_pay21 (F := Ideal) x0) (scoreB (View.ld (Val := Elt Ideal) (e' := .bf16) x2 (Rect.unit (s := S1x2048x256) ![0, 1536, 0] ![1, 256, 128] inb_S1x2048x256_S1x256x128_0_1536_0)) (View.ld (Val := Elt Ideal) (e' := .bf16) (keysV x3 x6) (Rect.unit (s := S2x2304x128) ![0, 0, 0] ![1, 2304, 128] inb_S2x2304x128_S1x2304x128_0_0_0)))
      (View.ld (Val := Elt Ideal) (e' := .bf16) (valsV x4 x7) (Rect.unit (s := S2x2304x256) ![0, 0, 0] ![1, 2304, 256] inb_S2x2304x256_S1x2304x256_0_0_0)) x1 (View.ld (Val := Elt Ideal) (e' := .bf16) x5 (Rect.unit (s := S1x2048x256) ![0, 1536, 0] ![1, 256, 128] inb_S1x2048x256_S1x256x128_0_1536_0))) shapeCasts_S256x128_S1x256x128 from rfl) x).trans ?_
    exact fin_read x0 x1 x2 x3 x4 x5 x6 x7 _ 0 1536 0 rfl _ _ _ x R g d h1 (h2.trans (Nat.zero_add _).symm)
      (fun r hR hg j => score_read x2 x3 x6 0 1536 0 rfl _ _ R g r hR hg j)
  case piece10 =>
    refine (congrFun (show _ = shapeCast S1x256x128 (finB (k0_pay21 (F := Ideal) x0) (scoreB (View.ld (Val := Elt Ideal) (e' := .bf16) x2 (Rect.unit (s := S1x2048x256) ![0, 1280, 0] ![1, 256, 128] inb_S1x2048x256_S1x256x128_0_1280_0)) (View.ld (Val := Elt Ideal) (e' := .bf16) (keysV x3 x6) (Rect.unit (s := S2x2304x128) ![0, 0, 0] ![1, 2304, 128] inb_S2x2304x128_S1x2304x128_0_0_0)))
      (View.ld (Val := Elt Ideal) (e' := .bf16) (valsV x4 x7) (Rect.unit (s := S2x2304x256) ![0, 0, 0] ![1, 2304, 256] inb_S2x2304x256_S1x2304x256_0_0_0)) x1 (View.ld (Val := Elt Ideal) (e' := .bf16) x5 (Rect.unit (s := S1x2048x256) ![0, 1280, 0] ![1, 256, 128] inb_S1x2048x256_S1x256x128_0_1280_0))) shapeCasts_S256x128_S1x256x128 from rfl) x).trans ?_
    exact fin_read x0 x1 x2 x3 x4 x5 x6 x7 _ 0 1280 0 rfl _ _ _ x R g d h1 (h2.trans (Nat.zero_add _).symm)
      (fun r hR hg j => score_read x2 x3 x6 0 1280 0 rfl _ _ R g r hR hg j)
  case piece11 =>
    refine (congrFun (show _ = shapeCast S1x256x128 (finB (k0_pay21 (F := Ideal) x0) (scoreB (View.ld (Val := Elt Ideal) (e' := .bf16) x2 (Rect.unit (s := S1x2048x256) ![0, 1024, 0] ![1, 256, 128] inb_S1x2048x256_S1x256x128_0_1024_0)) (View.ld (Val := Elt Ideal) (e' := .bf16) (keysV x3 x6) (Rect.unit (s := S2x2304x128) ![0, 0, 0] ![1, 2304, 128] inb_S2x2304x128_S1x2304x128_0_0_0)))
      (View.ld (Val := Elt Ideal) (e' := .bf16) (valsV x4 x7) (Rect.unit (s := S2x2304x256) ![0, 0, 0] ![1, 2304, 256] inb_S2x2304x256_S1x2304x256_0_0_0)) x1 (View.ld (Val := Elt Ideal) (e' := .bf16) x5 (Rect.unit (s := S1x2048x256) ![0, 1024, 0] ![1, 256, 128] inb_S1x2048x256_S1x256x128_0_1024_0))) shapeCasts_S256x128_S1x256x128 from rfl) x).trans ?_
    exact fin_read x0 x1 x2 x3 x4 x5 x6 x7 _ 0 1024 0 rfl _ _ _ x R g d h1 (h2.trans (Nat.zero_add _).symm)
      (fun r hR hg j => score_read x2 x3 x6 0 1024 0 rfl _ _ R g r hR hg j)
  case piece12 =>
    refine (congrFun (show _ = shapeCast S1x256x128 (finB (k0_pay21 (F := Ideal) x0) (scoreB (View.ld (Val := Elt Ideal) (e' := .bf16) x2 (Rect.unit (s := S1x2048x256) ![0, 768, 0] ![1, 256, 128] inb_S1x2048x256_S1x256x128_0_768_0)) (View.ld (Val := Elt Ideal) (e' := .bf16) (keysV x3 x6) (Rect.unit (s := S2x2304x128) ![0, 0, 0] ![1, 2304, 128] inb_S2x2304x128_S1x2304x128_0_0_0)))
      (View.ld (Val := Elt Ideal) (e' := .bf16) (valsV x4 x7) (Rect.unit (s := S2x2304x256) ![0, 0, 0] ![1, 2304, 256] inb_S2x2304x256_S1x2304x256_0_0_0)) x1 (View.ld (Val := Elt Ideal) (e' := .bf16) x5 (Rect.unit (s := S1x2048x256) ![0, 768, 0] ![1, 256, 128] inb_S1x2048x256_S1x256x128_0_768_0))) shapeCasts_S256x128_S1x256x128 from rfl) x).trans ?_
    exact fin_read x0 x1 x2 x3 x4 x5 x6 x7 _ 0 768 0 rfl _ _ _ x R g d h1 (h2.trans (Nat.zero_add _).symm)
      (fun r hR hg j => score_read x2 x3 x6 0 768 0 rfl _ _ R g r hR hg j)
  case piece13 =>
    refine (congrFun (show _ = shapeCast S1x256x128 (finB (k0_pay21 (F := Ideal) x0) (scoreB (View.ld (Val := Elt Ideal) (e' := .bf16) x2 (Rect.unit (s := S1x2048x256) ![0, 512, 0] ![1, 256, 128] inb_S1x2048x256_S1x256x128_0_512_0)) (View.ld (Val := Elt Ideal) (e' := .bf16) (keysV x3 x6) (Rect.unit (s := S2x2304x128) ![0, 0, 0] ![1, 2304, 128] inb_S2x2304x128_S1x2304x128_0_0_0)))
      (View.ld (Val := Elt Ideal) (e' := .bf16) (valsV x4 x7) (Rect.unit (s := S2x2304x256) ![0, 0, 0] ![1, 2304, 256] inb_S2x2304x256_S1x2304x256_0_0_0)) x1 (View.ld (Val := Elt Ideal) (e' := .bf16) x5 (Rect.unit (s := S1x2048x256) ![0, 512, 0] ![1, 256, 128] inb_S1x2048x256_S1x256x128_0_512_0))) shapeCasts_S256x128_S1x256x128 from rfl) x).trans ?_
    exact fin_read x0 x1 x2 x3 x4 x5 x6 x7 _ 0 512 0 rfl _ _ _ x R g d h1 (h2.trans (Nat.zero_add _).symm)
      (fun r hR hg j => score_read x2 x3 x6 0 512 0 rfl _ _ R g r hR hg j)
  case piece14 =>
    refine (congrFun (show _ = shapeCast S1x256x128 (finB (k0_pay21 (F := Ideal) x0) (shapeCast S512x2304 (View.ld (Val := Elt Ideal) (e' := .f32) xs3 (Rect.unit (s := S2x512x2304) ![1, 0, 0] ![1, 512, 2304] inb_S2x512x2304_S1x512x2304_1_0_0)) shapeCasts_S1x512x2304_S512x2304)
      (View.ld (Val := Elt Ideal) (e' := .bf16) (valsV x4 x7) (Rect.unit (s := S2x2304x256) ![0, 0, 0] ![1, 2304, 256] inb_S2x2304x256_S1x2304x256_0_0_0)) x1 (View.ld (Val := Elt Ideal) (e' := .bf16) x5 (Rect.unit (s := S1x2048x256) ![0, 256, 0] ![1, 256, 128] inb_S1x2048x256_S1x256x128_0_256_0))) shapeCasts_S256x128_S1x256x128 from rfl) x).trans ?_
    exact fin_read x0 x1 x2 x3 x4 x5 x6 x7 _ 0 256 0 rfl _ _ _ x R g d h1 (h2.trans (Nat.zero_add _).symm)
      (fun r hR hg j => carry_read x2 x3 x6 xs3 hxs 1 1 256 rfl rfl _ _ R g r hR hg j)
  case piece15 =>
    refine (congrFun (show _ = shapeCast S1x256x128 (finB (k0_pay21 (F := Ideal) x0) (shapeCast S512x2304 (View.ld (Val := Elt Ideal) (e' := .f32) xs3 (Rect.unit (s := S2x512x2304) ![0, 0, 0] ![1, 512, 2304] inb_S2x512x2304_S1x512x2304_0_0_0)) shapeCasts_S1x512x2304_S512x2304)
      (View.ld (Val := Elt Ideal) (e' := .bf16) (valsV x4 x7) (Rect.unit (s := S2x2304x256) ![0, 0, 0] ![1, 2304, 256] inb_S2x2304x256_S1x2304x256_0_0_0)) x1 (View.ld (Val := Elt Ideal) (e' := .bf16) x5 (Rect.unit (s := S1x2048x256) ![0, 0, 0] ![1, 256, 128] inb_S1x2048x256_S1x256x128_0_0_0))) shapeCasts_S256x128_S1x256x128 from rfl) x).trans ?_
    exact fin_read x0 x1 x2 x3 x4 x5 x6 x7 _ 0 0 0 rfl _ _ _ x R g d (h1.trans (Nat.zero_add _).symm) (h2.trans (Nat.zero_add _).symm)
      (fun r hR hg j => carry_read x2 x3 x6 xs3 hxs 0 0 0 rfl rfl _ _ R g r hR hg j)

set_option backward.isDefEq.respectTransparency false in
theorem sout_B (c : Dev nD) (i : grid0.Coords) (arg2 : Memref sig .tc .vmem S1x4x64 .f32) (harg2 : arg2.IsWhole) (arg3 : Memref sig .tc .vmem S1x1x128 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x256x256 .bf16) (harg8 : arg8.IsWhole) (arg9 : Memref sig .tc .vmem S1x256x256 .bf16) (harg9 : arg9.IsWhole) (arg10 : Memref sig .tc .vmem S1x512x128 .bf16) (harg10 : arg10.IsWhole) (arg11 : Memref sig .tc .vmem S1x2048x128 .bf16) (harg11 : arg11.IsWhole) (arg12 : Memref sig .tc .vmem S1x256x128 .bf16) (harg12 : arg12.IsWhole) (arg13 : Memref sig .tc .vmem S1x2048x256 .bf16) (harg13 : arg13.IsWhole) (arg14 : Memref sig .tc .vmem S2x2304x128 .bf16) (harg14 : arg14.IsWhole) (arg15 : Memref sig .tc .vmem S2x2304x256 .bf16) (harg15 : arg15.IsWhole) (arg16 : Memref sig .tc .vmem S2304x128 .bf16) (harg16 : arg16.IsWhole) (arg17 : Memref sig .tc .vmem S2x512x2304 .f32) (harg17 : arg17.IsWhole) (hc0 : ¬cond0_0 i)     (x0 : Vec Ideal S1x4x64 .f32) (x1 : Vec Ideal S1x1x128 .f32) (x2 : Vec Ideal S1x2048x256 .bf16) (x3 : Vec Ideal S1x2048x256 .bf16) (x4 : Vec Ideal S1x2048x256 .bf16) (x5 : Vec Ideal S1x2048x256 .bf16) (x6 : Vec Ideal S1x256x256 .bf16) (x7 : Vec Ideal S1x256x256 .bf16) (x8 : Vec Ideal S1x512x128 .bf16) (x9 : Vec Ideal S1x2048x128 .bf16) (x10 : Vec Ideal S1x256x128 .bf16) (xs3 : Vec Ideal S2x512x2304 .f32)  :
    Carried (sout0_B_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs3) (fun R x => x8 (ix3 0 R x))
      (fun j x => rowsCat (fun j => x9 (ix3 0 j x)) (fun j => x10 (ix3 0 j x)) j) := by
  intro t r j
  constructor
  · frame_out
    simp only [View.readCov_eq_canon']
    canon_tiles x h
    case piece0 =>
      have e0 : t.val = 1 + (x 0).val := h0
      have e1 : r.val = (x 1).val := h1
      have e2 : j.val = (x 2).val := h2
      refine (congrFun (show _ = shapeCast S1x512x2304 (scoreN (View.ld (Val := Elt Ideal) (e' := .bf16) x8 (Rect.unit (s := S1x512x128) ![0, 256, 0] ![1, 256, 128] inb_S1x512x128_S1x256x128_0_256_0)) (View.ld (Val := Elt Ideal) (e' := .bf16) (nextV x9 x10) (Rect.unit (s := S2304x128) ![0, 0] ![2304, 128] inb_S2304x128_S2304x128_0_0))) shapeCasts_S512x2304_S1x512x2304 from rfl) x).trans ?_
      exact (next_read x8 x9 x10 256 _ _ _ x r j _ (by show 256 * t.val + r.val = 256 + r.val; omega) e2).1 e1
    case piece1 =>
      have e0 : t.val = 0 + (x 0).val := h0.trans (Nat.zero_add _).symm
      have e1 : r.val = (x 1).val := h1
      have e2 : j.val = (x 2).val := h2
      refine (congrFun (show _ = shapeCast S1x512x2304 (scoreN (View.ld (Val := Elt Ideal) (e' := .bf16) x8 (Rect.unit (s := S1x512x128) ![0, 0, 0] ![1, 256, 128] inb_S1x512x128_S1x256x128_0_0_0)) (View.ld (Val := Elt Ideal) (e' := .bf16) (nextV x9 x10) (Rect.unit (s := S2304x128) ![0, 0] ![2304, 128] inb_S2304x128_S2304x128_0_0))) shapeCasts_S512x2304_S1x512x2304 from rfl) x).trans ?_
      exact (next_read x8 x9 x10 0 _ _ _ x r j _ (by show 256 * t.val + r.val = 0 + r.val; omega) e2).1 e1
  · frame_out
    simp only [View.readCov_eq_canon']
    canon_tiles x h
    case piece0 =>
      have e0 : t.val = 1 + (x 0).val := h0
      have e1 : 256 + r.val = (x 1).val := h1
      have e2 : j.val = (x 2).val := h2
      refine (congrFun (show _ = shapeCast S1x512x2304 (scoreN (View.ld (Val := Elt Ideal) (e' := .bf16) x8 (Rect.unit (s := S1x512x128) ![0, 256, 0] ![1, 256, 128] inb_S1x512x128_S1x256x128_0_256_0)) (View.ld (Val := Elt Ideal) (e' := .bf16) (nextV x9 x10) (Rect.unit (s := S2304x128) ![0, 0] ![2304, 128] inb_S2304x128_S2304x128_0_0))) shapeCasts_S512x2304_S1x512x2304 from rfl) x).trans ?_
      exact (next_read x8 x9 x10 256 _ _ _ x r j _ (by show 256 * t.val + r.val = 256 + r.val; omega) e2).2 e1
    case piece1 =>
      have e0 : t.val = 0 + (x 0).val := h0.trans (Nat.zero_add _).symm
      have e1 : 256 + r.val = (x 1).val := h1
      have e2 : j.val = (x 2).val := h2
      refine (congrFun (show _ = shapeCast S1x512x2304 (scoreN (View.ld (Val := Elt Ideal) (e' := .bf16) x8 (Rect.unit (s := S1x512x128) ![0, 0, 0] ![1, 256, 128] inb_S1x512x128_S1x256x128_0_0_0)) (View.ld (Val := Elt Ideal) (e' := .bf16) (nextV x9 x10) (Rect.unit (s := S2304x128) ![0, 0] ![2304, 128] inb_S2304x128_S2304x128_0_0))) shapeCasts_S512x2304_S1x512x2304 from rfl) x).trans ?_
      exact (next_read x8 x9 x10 0 _ _ _ x r j _ (by show 256 * t.val + r.val = 0 + r.val; omega) e2).2 e1

set_option backward.isDefEq.respectTransparency false in
theorem sout_A (c : Dev nD) (i : grid0.Coords) (arg2 : Memref sig .tc .vmem S1x4x64 .f32) (harg2 : arg2.IsWhole) (arg3 : Memref sig .tc .vmem S1x1x128 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x256x256 .bf16) (harg8 : arg8.IsWhole) (arg9 : Memref sig .tc .vmem S1x256x256 .bf16) (harg9 : arg9.IsWhole) (arg10 : Memref sig .tc .vmem S1x512x128 .bf16) (harg10 : arg10.IsWhole) (arg11 : Memref sig .tc .vmem S1x2048x128 .bf16) (harg11 : arg11.IsWhole) (arg12 : Memref sig .tc .vmem S1x256x128 .bf16) (harg12 : arg12.IsWhole) (arg13 : Memref sig .tc .vmem S1x2048x256 .bf16) (harg13 : arg13.IsWhole) (arg14 : Memref sig .tc .vmem S2x2304x128 .bf16) (harg14 : arg14.IsWhole) (arg15 : Memref sig .tc .vmem S2x2304x256 .bf16) (harg15 : arg15.IsWhole) (arg16 : Memref sig .tc .vmem S2304x128 .bf16) (harg16 : arg16.IsWhole) (arg17 : Memref sig .tc .vmem S2x512x2304 .f32) (harg17 : arg17.IsWhole) (hc0 : cond0_0 i)     (x0 : Vec Ideal S1x4x64 .f32) (x1 : Vec Ideal S1x1x128 .f32) (x2 : Vec Ideal S1x2048x256 .bf16) (x3 : Vec Ideal S1x2048x256 .bf16) (x4 : Vec Ideal S1x2048x256 .bf16) (x5 : Vec Ideal S1x2048x256 .bf16) (x6 : Vec Ideal S1x256x256 .bf16) (x7 : Vec Ideal S1x256x256 .bf16) (x8 : Vec Ideal S1x512x128 .bf16) (x9 : Vec Ideal S1x2048x128 .bf16) (x10 : Vec Ideal S1x256x128 .bf16)  :
    Carried (sout0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10) (fun R x => x8 (ix3 0 R x))
      (fun j x => rowsCat (fun j => x9 (ix3 0 j x)) (fun j => x10 (ix3 0 j x)) j) := by
  intro t r j
  constructor
  · frame_out
    simp only [View.readCov_eq_canon']
    refine (canon_two _ _ _ _ (View.cover_of_tiledBy _ ![1, 512, 2304] (by sl_kernel_rfl) _)).trans ?_
    canon_tiles x h
    case piece0 =>
      have e0 : t.val = 1 + (x 0).val := h0
      have e1 : r.val = (x 1).val := h1
      have e2 : j.val = (x 2).val := h2
      refine (congrFun (show _ = shapeCast S1x512x2304 (scoreN (View.ld (Val := Elt Ideal) (e' := .bf16) x8 (Rect.unit (s := S1x512x128) ![0, 256, 0] ![1, 256, 128] inb_S1x512x128_S1x256x128_0_256_0)) (View.ld (Val := Elt Ideal) (e' := .bf16) (nextV x9 x10) (Rect.unit (s := S2304x128) ![0, 0] ![2304, 128] inb_S2304x128_S2304x128_0_0))) shapeCasts_S512x2304_S1x512x2304 from rfl) x).trans ?_
      exact (next_read x8 x9 x10 256 _ _ _ x r j _ (by show 256 * t.val + r.val = 256 + r.val; omega) e2).1 e1
    case piece1 =>
      have e0 : t.val = 0 + (x 0).val := h0.trans (Nat.zero_add _).symm
      have e1 : r.val = (x 1).val := h1
      have e2 : j.val = (x 2).val := h2
      refine (congrFun (show _ = shapeCast S1x512x2304 (scoreN (View.ld (Val := Elt Ideal) (e' := .bf16) x8 (Rect.unit (s := S1x512x128) ![0, 0, 0] ![1, 256, 128] inb_S1x512x128_S1x256x128_0_0_0)) (View.ld (Val := Elt Ideal) (e' := .bf16) (nextV x9 x10) (Rect.unit (s := S2304x128) ![0, 0] ![2304, 128] inb_S2304x128_S2304x128_0_0))) shapeCasts_S512x2304_S1x512x2304 from rfl) x).trans ?_
      exact (next_read x8 x9 x10 0 _ _ _ x r j _ (by show 256 * t.val + r.val = 0 + r.val; omega) e2).1 e1
  · frame_out
    simp only [View.readCov_eq_canon']
    refine (canon_two _ _ _ _ (View.cover_of_tiledBy _ ![1, 512, 2304] (by sl_kernel_rfl) _)).trans ?_
    canon_tiles x h
    case piece0 =>
      have e0 : t.val = 1 + (x 0).val := h0
      have e1 : 256 + r.val = (x 1).val := h1
      have e2 : j.val = (x 2).val := h2
      refine (congrFun (show _ = shapeCast S1x512x2304 (scoreN (View.ld (Val := Elt Ideal) (e' := .bf16) x8 (Rect.unit (s := S1x512x128) ![0, 256, 0] ![1, 256, 128] inb_S1x512x128_S1x256x128_0_256_0)) (View.ld (Val := Elt Ideal) (e' := .bf16) (nextV x9 x10) (Rect.unit (s := S2304x128) ![0, 0] ![2304, 128] inb_S2304x128_S2304x128_0_0))) shapeCasts_S512x2304_S1x512x2304 from rfl) x).trans ?_
      exact (next_read x8 x9 x10 256 _ _ _ x r j _ (by show 256 * t.val + r.val = 256 + r.val; omega) e2).2 e1
    case piece1 =>
      have e0 : t.val = 0 + (x 0).val := h0.trans (Nat.zero_add _).symm
      have e1 : 256 + r.val = (x 1).val := h1
      have e2 : j.val = (x 2).val := h2
      refine (congrFun (show _ = shapeCast S1x512x2304 (scoreN (View.ld (Val := Elt Ideal) (e' := .bf16) x8 (Rect.unit (s := S1x512x128) ![0, 0, 0] ![1, 256, 128] inb_S1x512x128_S1x256x128_0_0_0)) (View.ld (Val := Elt Ideal) (e' := .bf16) (nextV x9 x10) (Rect.unit (s := S2304x128) ![0, 0] ![2304, 128] inb_S2304x128_S2304x128_0_0))) shapeCasts_S512x2304_S1x512x2304 from rfl) x).trans ?_
      exact (next_read x8 x9 x10 0 _ _ _ x r j _ (by show 256 * t.val + r.val = 0 + r.val; omega) e2).2 e1

/-- The two score blocks the first point computes for itself. -/
def initV (q k : Vec Ideal S1x2048x256 .bf16) (kc : Vec Ideal S1x256x256 .bf16) : Vec Ideal S2x512x2304 .f32 :=
  View.canon (Val := Elt Ideal) (s := S2x512x2304) (e := .f32)
    [⟨Rect.unit ![1, 0, 0] ![1, 512, 2304] inb_S2x512x2304_S1x512x2304_1_0_0,
      k0_pay22 (F := Ideal) lanes (k0_pay4 (View.ld (Val := Elt Ideal) (e' := .bf16) q (Rect.unit (s := S1x2048x256) ![0, 256, 0] ![1, 256, 128] inb_S1x2048x256_S1x256x128_0_256_0)))
        (k0_pay5 (View.ld (Val := Elt Ideal) (e' := .bf16) (keysV k kc) (Rect.unit (s := S2x2304x128) ![0, 0, 0] ![1, 2304, 128] inb_S2x2304x128_S1x2304x128_0_0_0)))
        (FloatOps.ofBits FTy.bf16 0#16)⟩,
     ⟨Rect.unit ![0, 0, 0] ![1, 512, 2304] inb_S2x512x2304_S1x512x2304_0_0_0,
      k0_pay3 (F := Ideal) lanes (View.ld (Val := Elt Ideal) (e' := .bf16) q (Rect.unit (s := S1x2048x256) ![0, 0, 0] ![1, 256, 128] inb_S1x2048x256_S1x256x128_0_0_0))
        (View.ld (Val := Elt Ideal) (e' := .bf16) (keysV k kc) (Rect.unit (s := S2x2304x128) ![0, 0, 0] ![1, 2304, 128] inb_S2x2304x128_S1x2304x128_0_0_0))⟩]

set_option backward.isDefEq.respectTransparency false in
theorem initV_carried (x2 x3 : Vec Ideal S1x2048x256 .bf16) (x6 : Vec Ideal S1x256x256 .bf16) :
    Carried (initV x2 x3 x6) (fun R x => qRow x2 ⟨R.val, by omega⟩ 0 x) (kRow x3 x6 0) := by
  intro t r j
  unfold initV
  constructor
  · canon_tiles x h
    case piece0 =>
      obtain ⟨u, a, b, rfl⟩ : ∃ (u : Fin 1) (a : Fin 512) (b : Fin 2304), x = ix3 u a b :=
        ⟨x 0, x 1, x 2, by funext a; fin_cases a <;> rfl⟩
      have e0 : t.val = 1 + u.val := h0
      have hr : r.val < 512 := Nat.lt_of_lt_of_le r.isLt (by decide)
      obtain rfl : a = ⟨r.val, hr⟩ := Fin.ext h1.symm
      obtain rfl : j = b := Fin.ext h2
      refine (congrFun (show _ = shapeCast S1x512x2304 (scoreB (View.ld (Val := Elt Ideal) (e' := .bf16) x2 (Rect.unit (s := S1x2048x256) ![0, 256, 0] ![1, 256, 128] inb_S1x2048x256_S1x256x128_0_256_0)) (View.ld (Val := Elt Ideal) (e' := .bf16) (keysV x3 x6) (Rect.unit (s := S2x2304x128) ![0, 0, 0] ![1, 2304, 128] inb_S2x2304x128_S1x2304x128_0_0_0))) shapeCasts_S512x2304_S1x512x2304 from rfl) _).trans ((cast2_at _ _ u _ j).trans ?_)
      exact (score_read x2 x3 x6 0 256 0 rfl _ _ _ 0 r (by show 256 * t.val + r.val = 256 + r.val; omega) rfl j).1
    case piece1 =>
      obtain ⟨u, a, b, rfl⟩ : ∃ (u : Fin 1) (a : Fin 512) (b : Fin 2304), x = ix3 u a b :=
        ⟨x 0, x 1, x 2, by funext a; fin_cases a <;> rfl⟩
      have e0 : t.val = 0 + u.val := h0.trans (Nat.zero_add _).symm
      have hr : r.val < 512 := Nat.lt_of_lt_of_le r.isLt (by decide)
      obtain rfl : a = ⟨r.val, hr⟩ := Fin.ext h1.symm
      obtain rfl : j = b := Fin.ext h2
      refine (congrFun (show _ = shapeCast S1x512x2304 (scoreB (View.ld (Val := Elt Ideal) (e' := .bf16) x2 (Rect.unit (s := S1x2048x256) ![0, 0, 0] ![1, 256, 128] inb_S1x2048x256_S1x256x128_0_0_0)) (View.ld (Val := Elt Ideal) (e' := .bf16) (keysV x3 x6) (Rect.unit (s := S2x2304x128) ![0, 0, 0] ![1, 2304, 128] inb_S2x2304x128_S1x2304x128_0_0_0))) shapeCasts_S512x2304_S1x512x2304 from rfl) _).trans ((cast2_at _ _ u _ j).trans ?_)
      exact (score_read x2 x3 x6 0 0 0 rfl _ _ _ 0 r (by show 256 * t.val + r.val = 0 + r.val; omega) rfl j).1
  · canon_tiles x h
    case piece0 =>
      obtain ⟨u, a, b, rfl⟩ : ∃ (u : Fin 1) (a : Fin 512) (b : Fin 2304), x = ix3 u a b :=
        ⟨x 0, x 1, x 2, by funext a; fin_cases a <;> rfl⟩
      have e0 : t.val = 1 + u.val := h0
      have hr : 256 + r.val < 512 := Nat.add_lt_add_left r.isLt 256
      obtain rfl : a = ⟨256 + r.val, hr⟩ := Fin.ext h1.symm
      obtain rfl : j = b := Fin.ext h2
      refine (congrFun (show _ = shapeCast S1x512x2304 (scoreB (View.ld (Val := Elt Ideal) (e' := .bf16) x2 (Rect.unit (s := S1x2048x256) ![0, 256, 0] ![1, 256, 128] inb_S1x2048x256_S1x256x128_0_256_0)) (View.ld (Val := Elt Ideal) (e' := .bf16) (keysV x3 x6) (Rect.unit (s := S2x2304x128) ![0, 0, 0] ![1, 2304, 128] inb_S2x2304x128_S1x2304x128_0_0_0))) shapeCasts_S512x2304_S1x512x2304 from rfl) _).trans ((cast2_at _ _ u _ j).trans ?_)
      exact (score_read x2 x3 x6 0 256 0 rfl _ _ _ 0 r (by show 256 * t.val + r.val = 256 + r.val; omega) rfl j).2
    case piece1 =>
      obtain ⟨u, a, b, rfl⟩ : ∃ (u : Fin 1) (a : Fin 512) (b : Fin 2304), x = ix3 u a b :=
        ⟨x 0, x 1, x 2, by funext a; fin_cases a <;> rfl⟩
      have e0 : t.val = 0 + u.val := h0.trans (Nat.zero_add _).symm
      have hr : 256 + r.val < 512 := Nat.add_lt_add_left r.isLt 256
      obtain rfl : a = ⟨256 + r.val, hr⟩ := Fin.ext h1.symm
      obtain rfl : j = b := Fin.ext h2
      refine (congrFun (show _ = shapeCast S1x512x2304 (scoreB (View.ld (Val := Elt Ideal) (e' := .bf16) x2 (Rect.unit (s := S1x2048x256) ![0, 0, 0] ![1, 256, 128] inb_S1x2048x256_S1x256x128_0_0_0)) (View.ld (Val := Elt Ideal) (e' := .bf16) (keysV x3 x6) (Rect.unit (s := S2x2304x128) ![0, 0, 0] ![1, 2304, 128] inb_S2x2304x128_S1x2304x128_0_0_0))) shapeCasts_S512x2304_S1x512x2304 from rfl) _).trans ((cast2_at _ _ u _ j).trans ?_)
      exact (score_read x2 x3 x6 0 0 0 rfl _ _ _ 0 r (by show 256 * t.val + r.val = 0 + r.val; omega) rfl j).2

set_option backward.isDefEq.respectTransparency false in
theorem out_A (c : Dev nD) (i : grid0.Coords) (arg2 : Memref sig .tc .vmem S1x4x64 .f32) (harg2 : arg2.IsWhole) (arg3 : Memref sig .tc .vmem S1x1x128 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x256x256 .bf16) (harg8 : arg8.IsWhole) (arg9 : Memref sig .tc .vmem S1x256x256 .bf16) (harg9 : arg9.IsWhole) (arg10 : Memref sig .tc .vmem S1x512x128 .bf16) (harg10 : arg10.IsWhole) (arg11 : Memref sig .tc .vmem S1x2048x128 .bf16) (harg11 : arg11.IsWhole) (arg12 : Memref sig .tc .vmem S1x256x128 .bf16) (harg12 : arg12.IsWhole) (arg13 : Memref sig .tc .vmem S1x2048x256 .bf16) (harg13 : arg13.IsWhole) (arg14 : Memref sig .tc .vmem S2x2304x128 .bf16) (harg14 : arg14.IsWhole) (arg15 : Memref sig .tc .vmem S2x2304x256 .bf16) (harg15 : arg15.IsWhole) (arg16 : Memref sig .tc .vmem S2304x128 .bf16) (harg16 : arg16.IsWhole) (arg17 : Memref sig .tc .vmem S2x512x2304 .f32) (harg17 : arg17.IsWhole) (hc0 : cond0_0 i)     (x0 : Vec Ideal S1x4x64 .f32) (x1 : Vec Ideal S1x1x128 .f32) (x2 : Vec Ideal S1x2048x256 .bf16) (x3 : Vec Ideal S1x2048x256 .bf16) (x4 : Vec Ideal S1x2048x256 .bf16) (x5 : Vec Ideal S1x2048x256 .bf16) (x6 : Vec Ideal S1x256x256 .bf16) (x7 : Vec Ideal S1x256x256 .bf16) (x8 : Vec Ideal S1x512x128 .bf16) (x9 : Vec Ideal S1x2048x128 .bf16) (x10 : Vec Ideal S1x256x128 .bf16)
    (R : Fin 2048) (g : Fin 2) (d : Fin 128) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 (ix3 0 R ⟨128 * g.val + d.val, by omega⟩)
      = outVal x0 x1 x2 x3 x4 x5 x6 x7 R g d := by
  have hxs := initV_carried x2 x3 x6
  frame_out
  simp only [View.readCov_eq_canon']
  canon_tiles x h
  case piece0 =>
    refine (congrFun (show _ = shapeCast S1x256x128 (finB (k0_pay21 (F := Ideal) x0) (scoreB (View.ld (Val := Elt Ideal) (e' := .bf16) x2 (Rect.unit (s := S1x2048x256) ![0, 1792, 128] ![1, 256, 128] inb_S1x2048x256_S1x256x128_0_1792_128)) (View.ld (Val := Elt Ideal) (e' := .bf16) (keysV x3 x6) (Rect.unit (s := S2x2304x128) ![1, 0, 0] ![1, 2304, 128] inb_S2x2304x128_S1x2304x128_1_0_0)))
      (View.ld (Val := Elt Ideal) (e' := .bf16) (valsV x4 x7) (Rect.unit (s := S2x2304x256) ![1, 0, 0] ![1, 2304, 256] inb_S2x2304x256_S1x2304x256_1_0_0)) x1 (View.ld (Val := Elt Ideal) (e' := .bf16) x5 (Rect.unit (s := S1x2048x256) ![0, 1792, 128] ![1, 256, 128] inb_S1x2048x256_S1x256x128_0_1792_128))) shapeCasts_S256x128_S1x256x128 from rfl) x).trans ?_
    exact fin_read x0 x1 x2 x3 x4 x5 x6 x7 _ 1 1792 128 rfl _ _ _ x R g d h1 h2
      (fun r hR hg j => score_read x2 x3 x6 1 1792 128 rfl _ _ R g r hR hg j)
  case piece1 =>
    refine (congrFun (show _ = shapeCast S1x256x128 (finB (k0_pay21 (F := Ideal) x0) (scoreB (View.ld (Val := Elt Ideal) (e' := .bf16) x2 (Rect.unit (s := S1x2048x256) ![0, 1536, 128] ![1, 256, 128] inb_S1x2048x256_S1x256x128_0_1536_128)) (View.ld (Val := Elt Ideal) (e' := .bf16) (keysV x3 x6) (Rect.unit (s := S2x2304x128) ![1, 0, 0] ![1, 2304, 128] inb_S2x2304x128_S1x2304x128_1_0_0)))
      (View.ld (Val := Elt Ideal) (e' := .bf16) (valsV x4 x7) (Rect.unit (s := S2x2304x256) ![1, 0, 0] ![1, 2304, 256] inb_S2x2304x256_S1x2304x256_1_0_0)) x1 (View.ld (Val := Elt Ideal) (e' := .bf16) x5 (Rect.unit (s := S1x2048x256) ![0, 1536, 128] ![1, 256, 128] inb_S1x2048x256_S1x256x128_0_1536_128))) shapeCasts_S256x128_S1x256x128 from rfl) x).trans ?_
    exact fin_read x0 x1 x2 x3 x4 x5 x6 x7 _ 1 1536 128 rfl _ _ _ x R g d h1 h2
      (fun r hR hg j => score_read x2 x3 x6 1 1536 128 rfl _ _ R g r hR hg j)
  case piece2 =>
    refine (congrFun (show _ = shapeCast S1x256x128 (finB (k0_pay21 (F := Ideal) x0) (scoreB (View.ld (Val := Elt Ideal) (e' := .bf16) x2 (Rect.unit (s := S1x2048x256) ![0, 1280, 128] ![1, 256, 128] inb_S1x2048x256_S1x256x128_0_1280_128)) (View.ld (Val := Elt Ideal) (e' := .bf16) (keysV x3 x6) (Rect.unit (s := S2x2304x128) ![1, 0, 0] ![1, 2304, 128] inb_S2x2304x128_S1x2304x128_1_0_0)))
      (View.ld (Val := Elt Ideal) (e' := .bf16) (valsV x4 x7) (Rect.unit (s := S2x2304x256) ![1, 0, 0] ![1, 2304, 256] inb_S2x2304x256_S1x2304x256_1_0_0)) x1 (View.ld (Val := Elt Ideal) (e' := .bf16) x5 (Rect.unit (s := S1x2048x256) ![0, 1280, 128] ![1, 256, 128] inb_S1x2048x256_S1x256x128_0_1280_128))) shapeCasts_S256x128_S1x256x128 from rfl) x).trans ?_
    exact fin_read x0 x1 x2 x3 x4 x5 x6 x7 _ 1 1280 128 rfl _ _ _ x R g d h1 h2
      (fun r hR hg j => score_read x2 x3 x6 1 1280 128 rfl _ _ R g r hR hg j)
  case piece3 =>
    refine (congrFun (show _ = shapeCast S1x256x128 (finB (k0_pay21 (F := Ideal) x0) (scoreB (View.ld (Val := Elt Ideal) (e' := .bf16) x2 (Rect.unit (s := S1x2048x256) ![0, 1024, 128] ![1, 256, 128] inb_S1x2048x256_S1x256x128_0_1024_128)) (View.ld (Val := Elt Ideal) (e' := .bf16) (keysV x3 x6) (Rect.unit (s := S2x2304x128) ![1, 0, 0] ![1, 2304, 128] inb_S2x2304x128_S1x2304x128_1_0_0)))
      (View.ld (Val := Elt Ideal) (e' := .bf16) (valsV x4 x7) (Rect.unit (s := S2x2304x256) ![1, 0, 0] ![1, 2304, 256] inb_S2x2304x256_S1x2304x256_1_0_0)) x1 (View.ld (Val := Elt Ideal) (e' := .bf16) x5 (Rect.unit (s := S1x2048x256) ![0, 1024, 128] ![1, 256, 128] inb_S1x2048x256_S1x256x128_0_1024_128))) shapeCasts_S256x128_S1x256x128 from rfl) x).trans ?_
    exact fin_read x0 x1 x2 x3 x4 x5 x6 x7 _ 1 1024 128 rfl _ _ _ x R g d h1 h2
      (fun r hR hg j => score_read x2 x3 x6 1 1024 128 rfl _ _ R g r hR hg j)
  case piece4 =>
    refine (congrFun (show _ = shapeCast S1x256x128 (finB (k0_pay21 (F := Ideal) x0) (scoreB (View.ld (Val := Elt Ideal) (e' := .bf16) x2 (Rect.unit (s := S1x2048x256) ![0, 768, 128] ![1, 256, 128] inb_S1x2048x256_S1x256x128_0_768_128)) (View.ld (Val := Elt Ideal) (e' := .bf16) (keysV x3 x6) (Rect.unit (s := S2x2304x128) ![1, 0, 0] ![1, 2304, 128] inb_S2x2304x128_S1x2304x128_1_0_0)))
      (View.ld (Val := Elt Ideal) (e' := .bf16) (valsV x4 x7) (Rect.unit (s := S2x2304x256) ![1, 0, 0] ![1, 2304, 256] inb_S2x2304x256_S1x2304x256_1_0_0)) x1 (View.ld (Val := Elt Ideal) (e' := .bf16) x5 (Rect.unit (s := S1x2048x256) ![0, 768, 128] ![1, 256, 128] inb_S1x2048x256_S1x256x128_0_768_128))) shapeCasts_S256x128_S1x256x128 from rfl) x).trans ?_
    exact fin_read x0 x1 x2 x3 x4 x5 x6 x7 _ 1 768 128 rfl _ _ _ x R g d h1 h2
      (fun r hR hg j => score_read x2 x3 x6 1 768 128 rfl _ _ R g r hR hg j)
  case piece5 =>
    refine (congrFun (show _ = shapeCast S1x256x128 (finB (k0_pay21 (F := Ideal) x0) (scoreB (View.ld (Val := Elt Ideal) (e' := .bf16) x2 (Rect.unit (s := S1x2048x256) ![0, 512, 128] ![1, 256, 128] inb_S1x2048x256_S1x256x128_0_512_128)) (View.ld (Val := Elt Ideal) (e' := .bf16) (keysV x3 x6) (Rect.unit (s := S2x2304x128) ![1, 0, 0] ![1, 2304, 128] inb_S2x2304x128_S1x2304x128_1_0_0)))
      (View.ld (Val := Elt Ideal) (e' := .bf16) (valsV x4 x7) (Rect.unit (s := S2x2304x256) ![1, 0, 0] ![1, 2304, 256] inb_S2x2304x256_S1x2304x256_1_0_0)) x1 (View.ld (Val := Elt Ideal) (e' := .bf16) x5 (Rect.unit (s := S1x2048x256) ![0, 512, 128] ![1, 256, 128] inb_S1x2048x256_S1x256x128_0_512_128))) shapeCasts_S256x128_S1x256x128 from rfl) x).trans ?_
    exact fin_read x0 x1 x2 x3 x4 x5 x6 x7 _ 1 512 128 rfl _ _ _ x R g d h1 h2
      (fun r hR hg j => score_read x2 x3 x6 1 512 128 rfl _ _ R g r hR hg j)
  case piece6 =>
    refine (congrFun (show _ = shapeCast S1x256x128 (finB (k0_pay21 (F := Ideal) x0) (scoreB (View.ld (Val := Elt Ideal) (e' := .bf16) x2 (Rect.unit (s := S1x2048x256) ![0, 256, 128] ![1, 256, 128] inb_S1x2048x256_S1x256x128_0_256_128)) (View.ld (Val := Elt Ideal) (e' := .bf16) (keysV x3 x6) (Rect.unit (s := S2x2304x128) ![1, 0, 0] ![1, 2304, 128] inb_S2x2304x128_S1x2304x128_1_0_0)))
      (View.ld (Val := Elt Ideal) (e' := .bf16) (valsV x4 x7) (Rect.unit (s := S2x2304x256) ![1, 0, 0] ![1, 2304, 256] inb_S2x2304x256_S1x2304x256_1_0_0)) x1 (View.ld (Val := Elt Ideal) (e' := .bf16) x5 (Rect.unit (s := S1x2048x256) ![0, 256, 128] ![1, 256, 128] inb_S1x2048x256_S1x256x128_0_256_128))) shapeCasts_S256x128_S1x256x128 from rfl) x).trans ?_
    exact fin_read x0 x1 x2 x3 x4 x5 x6 x7 _ 1 256 128 rfl _ _ _ x R g d h1 h2
      (fun r hR hg j => score_read x2 x3 x6 1 256 128 rfl _ _ R g r hR hg j)
  case piece7 =>
    refine (congrFun (show _ = shapeCast S1x256x128 (finB (k0_pay21 (F := Ideal) x0) (scoreB (View.ld (Val := Elt Ideal) (e' := .bf16) x2 (Rect.unit (s := S1x2048x256) ![0, 0, 128] ![1, 256, 128] inb_S1x2048x256_S1x256x128_0_0_128)) (View.ld (Val := Elt Ideal) (e' := .bf16) (keysV x3 x6) (Rect.unit (s := S2x2304x128) ![1, 0, 0] ![1, 2304, 128] inb_S2x2304x128_S1x2304x128_1_0_0)))
      (View.ld (Val := Elt Ideal) (e' := .bf16) (valsV x4 x7) (Rect.unit (s := S2x2304x256) ![1, 0, 0] ![1, 2304, 256] inb_S2x2304x256_S1x2304x256_1_0_0)) x1 (View.ld (Val := Elt Ideal) (e' := .bf16) x5 (Rect.unit (s := S1x2048x256) ![0, 0, 128] ![1, 256, 128] inb_S1x2048x256_S1x256x128_0_0_128))) shapeCasts_S256x128_S1x256x128 from rfl) x).trans ?_
    exact fin_read x0 x1 x2 x3 x4 x5 x6 x7 _ 1 0 128 rfl _ _ _ x R g d (h1.trans (Nat.zero_add _).symm) h2
      (fun r hR hg j => score_read x2 x3 x6 1 0 128 rfl _ _ R g r hR hg j)
  case piece8 =>
    refine (congrFun (show _ = shapeCast S1x256x128 (finB (k0_pay21 (F := Ideal) x0) (scoreB (View.ld (Val := Elt Ideal) (e' := .bf16) x2 (Rect.unit (s := S1x2048x256) ![0, 1792, 0] ![1, 256, 128] inb_S1x2048x256_S1x256x128_0_1792_0)) (View.ld (Val := Elt Ideal) (e' := .bf16) (keysV x3 x6) (Rect.unit (s := S2x2304x128) ![0, 0, 0] ![1, 2304, 128] inb_S2x2304x128_S1x2304x128_0_0_0)))
      (View.ld (Val := Elt Ideal) (e' := .bf16) (valsV x4 x7) (Rect.unit (s := S2x2304x256) ![0, 0, 0] ![1, 2304, 256] inb_S2x2304x256_S1x2304x256_0_0_0)) x1 (View.ld (Val := Elt Ideal) (e' := .bf16) x5 (Rect.unit (s := S1x2048x256) ![0, 1792, 0] ![1, 256, 128] inb_S1x2048x256_S1x256x128_0_1792_0))) shapeCasts_S256x128_S1x256x128 from rfl) x).trans ?_
    exact fin_read x0 x1 x2 x3 x4 x5 x6 x7 _ 0 1792 0 rfl _ _ _ x R g d h1 (h2.trans (Nat.zero_add _).symm)
      (fun r hR hg j => score_read x2 x3 x6 0 1792 0 rfl _ _ R g r hR hg j)
  case piece9 =>
    refine (congrFun (show _ = shapeCast S1x256x128 (finB (k0_pay21 (F := Ideal) x0) (scoreB (View.ld (Val := Elt Ideal) (e' := .bf16) x2 (Rect.unit (s := S1x2048x256) ![0, 1536, 0] ![1, 256, 128] inb_S1x2048x256_S1x256x128_0_1536_0)) (View.ld (Val := Elt Ideal) (e' := .bf16) (keysV x3 x6) (Rect.unit (s := S2x2304x128) ![0, 0, 0] ![1, 2304, 128] inb_S2x2304x128_S1x2304x128_0_0_0)))
      (View.ld (Val := Elt Ideal) (e' := .bf16) (valsV x4 x7) (Rect.unit (s := S2x2304x256) ![0, 0, 0] ![1, 2304, 256] inb_S2x2304x256_S1x2304x256_0_0_0)) x1 (View.ld (Val := Elt Ideal) (e' := .bf16) x5 (Rect.unit (s := S1x2048x256) ![0, 1536, 0] ![1, 256, 128] inb_S1x2048x256_S1x256x128_0_1536_0))) shapeCasts_S256x128_S1x256x128 from rfl) x).trans ?_
    exact fin_read x0 x1 x2 x3 x4 x5 x6 x7 _ 0 1536 0 rfl _ _ _ x R g d h1 (h2.trans (Nat.zero_add _).symm)
      (fun r hR hg j => score_read x2 x3 x6 0 1536 0 rfl _ _ R g r hR hg j)
  case piece10 =>
    refine (congrFun (show _ = shapeCast S1x256x128 (finB (k0_pay21 (F := Ideal) x0) (scoreB (View.ld (Val := Elt Ideal) (e' := .bf16) x2 (Rect.unit (s := S1x2048x256) ![0, 1280, 0] ![1, 256, 128] inb_S1x2048x256_S1x256x128_0_1280_0)) (View.ld (Val := Elt Ideal) (e' := .bf16) (keysV x3 x6) (Rect.unit (s := S2x2304x128) ![0, 0, 0] ![1, 2304, 128] inb_S2x2304x128_S1x2304x128_0_0_0)))
      (View.ld (Val := Elt Ideal) (e' := .bf16) (valsV x4 x7) (Rect.unit (s := S2x2304x256) ![0, 0, 0] ![1, 2304, 256] inb_S2x2304x256_S1x2304x256_0_0_0)) x1 (View.ld (Val := Elt Ideal) (e' := .bf16) x5 (Rect.unit (s := S1x2048x256) ![0, 1280, 0] ![1, 256, 128] inb_S1x2048x256_S1x256x128_0_1280_0))) shapeCasts_S256x128_S1x256x128 from rfl) x).trans ?_
    exact fin_read x0 x1 x2 x3 x4 x5 x6 x7 _ 0 1280 0 rfl _ _ _ x R g d h1 (h2.trans (Nat.zero_add _).symm)
      (fun r hR hg j => score_read x2 x3 x6 0 1280 0 rfl _ _ R g r hR hg j)
  case piece11 =>
    refine (congrFun (show _ = shapeCast S1x256x128 (finB (k0_pay21 (F := Ideal) x0) (scoreB (View.ld (Val := Elt Ideal) (e' := .bf16) x2 (Rect.unit (s := S1x2048x256) ![0, 1024, 0] ![1, 256, 128] inb_S1x2048x256_S1x256x128_0_1024_0)) (View.ld (Val := Elt Ideal) (e' := .bf16) (keysV x3 x6) (Rect.unit (s := S2x2304x128) ![0, 0, 0] ![1, 2304, 128] inb_S2x2304x128_S1x2304x128_0_0_0)))
      (View.ld (Val := Elt Ideal) (e' := .bf16) (valsV x4 x7) (Rect.unit (s := S2x2304x256) ![0, 0, 0] ![1, 2304, 256] inb_S2x2304x256_S1x2304x256_0_0_0)) x1 (View.ld (Val := Elt Ideal) (e' := .bf16) x5 (Rect.unit (s := S1x2048x256) ![0, 1024, 0] ![1, 256, 128] inb_S1x2048x256_S1x256x128_0_1024_0))) shapeCasts_S256x128_S1x256x128 from rfl) x).trans ?_
    exact fin_read x0 x1 x2 x3 x4 x5 x6 x7 _ 0 1024 0 rfl _ _ _ x R g d h1 (h2.trans (Nat.zero_add _).symm)
      (fun r hR hg j => score_read x2 x3 x6 0 1024 0 rfl _ _ R g r hR hg j)
  case piece12 =>
    refine (congrFun (show _ = shapeCast S1x256x128 (finB (k0_pay21 (F := Ideal) x0) (scoreB (View.ld (Val := Elt Ideal) (e' := .bf16) x2 (Rect.unit (s := S1x2048x256) ![0, 768, 0] ![1, 256, 128] inb_S1x2048x256_S1x256x128_0_768_0)) (View.ld (Val := Elt Ideal) (e' := .bf16) (keysV x3 x6) (Rect.unit (s := S2x2304x128) ![0, 0, 0] ![1, 2304, 128] inb_S2x2304x128_S1x2304x128_0_0_0)))
      (View.ld (Val := Elt Ideal) (e' := .bf16) (valsV x4 x7) (Rect.unit (s := S2x2304x256) ![0, 0, 0] ![1, 2304, 256] inb_S2x2304x256_S1x2304x256_0_0_0)) x1 (View.ld (Val := Elt Ideal) (e' := .bf16) x5 (Rect.unit (s := S1x2048x256) ![0, 768, 0] ![1, 256, 128] inb_S1x2048x256_S1x256x128_0_768_0))) shapeCasts_S256x128_S1x256x128 from rfl) x).trans ?_
    exact fin_read x0 x1 x2 x3 x4 x5 x6 x7 _ 0 768 0 rfl _ _ _ x R g d h1 (h2.trans (Nat.zero_add _).symm)
      (fun r hR hg j => score_read x2 x3 x6 0 768 0 rfl _ _ R g r hR hg j)
  case piece13 =>
    refine (congrFun (show _ = shapeCast S1x256x128 (finB (k0_pay21 (F := Ideal) x0) (scoreB (View.ld (Val := Elt Ideal) (e' := .bf16) x2 (Rect.unit (s := S1x2048x256) ![0, 512, 0] ![1, 256, 128] inb_S1x2048x256_S1x256x128_0_512_0)) (View.ld (Val := Elt Ideal) (e' := .bf16) (keysV x3 x6) (Rect.unit (s := S2x2304x128) ![0, 0, 0] ![1, 2304, 128] inb_S2x2304x128_S1x2304x128_0_0_0)))
      (View.ld (Val := Elt Ideal) (e' := .bf16) (valsV x4 x7) (Rect.unit (s := S2x2304x256) ![0, 0, 0] ![1, 2304, 256] inb_S2x2304x256_S1x2304x256_0_0_0)) x1 (View.ld (Val := Elt Ideal) (e' := .bf16) x5 (Rect.unit (s := S1x2048x256) ![0, 512, 0] ![1, 256, 128] inb_S1x2048x256_S1x256x128_0_512_0))) shapeCasts_S256x128_S1x256x128 from rfl) x).trans ?_
    exact fin_read x0 x1 x2 x3 x4 x5 x6 x7 _ 0 512 0 rfl _ _ _ x R g d h1 (h2.trans (Nat.zero_add _).symm)
      (fun r hR hg j => score_read x2 x3 x6 0 512 0 rfl _ _ R g r hR hg j)
  case piece14 =>
    refine (congrFun (show _ = shapeCast S1x256x128 (finB (k0_pay21 (F := Ideal) x0) (shapeCast S512x2304 (View.ld (Val := Elt Ideal) (e' := .f32) (initV x2 x3 x6) (Rect.unit (s := S2x512x2304) ![1, 0, 0] ![1, 512, 2304] inb_S2x512x2304_S1x512x2304_1_0_0)) shapeCasts_S1x512x2304_S512x2304)
      (View.ld (Val := Elt Ideal) (e' := .bf16) (valsV x4 x7) (Rect.unit (s := S2x2304x256) ![0, 0, 0] ![1, 2304, 256] inb_S2x2304x256_S1x2304x256_0_0_0)) x1 (View.ld (Val := Elt Ideal) (e' := .bf16) x5 (Rect.unit (s := S1x2048x256) ![0, 256, 0] ![1, 256, 128] inb_S1x2048x256_S1x256x128_0_256_0))) shapeCasts_S256x128_S1x256x128 from rfl) x).trans ?_
    exact fin_read x0 x1 x2 x3 x4 x5 x6 x7 _ 0 256 0 rfl _ _ _ x R g d h1 (h2.trans (Nat.zero_add _).symm)
      (fun r hR hg j => carry_read x2 x3 x6 (initV x2 x3 x6) hxs 1 1 256 rfl rfl _ _ R g r hR hg j)
  case piece15 =>
    refine (congrFun (show _ = shapeCast S1x256x128 (finB (k0_pay21 (F := Ideal) x0) (shapeCast S512x2304 (View.ld (Val := Elt Ideal) (e' := .f32) (initV x2 x3 x6) (Rect.unit (s := S2x512x2304) ![0, 0, 0] ![1, 512, 2304] inb_S2x512x2304_S1x512x2304_0_0_0)) shapeCasts_S1x512x2304_S512x2304)
      (View.ld (Val := Elt Ideal) (e' := .bf16) (valsV x4 x7) (Rect.unit (s := S2x2304x256) ![0, 0, 0] ![1, 2304, 256] inb_S2x2304x256_S1x2304x256_0_0_0)) x1 (View.ld (Val := Elt Ideal) (e' := .bf16) x5 (Rect.unit (s := S1x2048x256) ![0, 0, 0] ![1, 256, 128] inb_S1x2048x256_S1x256x128_0_0_0))) shapeCasts_S256x128_S1x256x128 from rfl) x).trans ?_
    exact fin_read x0 x1 x2 x3 x4 x5 x6 x7 _ 0 0 0 rfl _ _ _ x R g d (h1.trans (Nat.zero_add _).symm) (h2.trans (Nat.zero_add _).symm)
      (fun r hR hg j => carry_read x2 x3 x6 (initV x2 x3 x6) hxs 0 0 0 rfl rfl _ _ R g r hR hg j)

end Cert.KernelIdeal.Attn
-- ==== Proof.Grid.lean ====
module

public import proofs.«01_k».proof.Proof.Step

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

attribute [local irreducible] sout0_A_3 sout0_B_3 out0_A_11 out0_B_11

variable (m : (ℓ : Loc nD τ sig) → Buf (Elt Ideal) ℓ)

/-! ## Where each window stands -/

theorem idx : ∀ t : Fin cfg0.N, win0_0.index t = ![0, 0, 0] ∧ win0_1.index t = ![0, 0, 0] ∧
    win0_2.index t = ![t.val / 4, 0, t.val % 4] ∧ win0_3.index t = ![t.val / 4, 0, 4 + t.val % 4] ∧
    win0_4.index t = ![t.val / 4, 0, t.val % 4] ∧ win0_5.index t = ![t.val / 4, 0, 4 + t.val % 4] ∧
    win0_6.index t = ![t.val / 4, 0, 4 + t.val % 4] ∧ win0_7.index t = ![t.val / 4, 0, 8 + t.val % 4] ∧
    win0_11.index t = ![t.val / 4, 0, t.val % 4] :=
  (by decide +kernel : ∀ t : Fin grid0.N, _)

theorem idxn : ∀ t : Fin cfg0.N, win0_8.index t = ![min (t.val + 1) 63 / 4, 0, min (t.val + 1) 63 % 4 * 2] ∧
    win0_9.index t = ![min (t.val + 1) 63 / 4, 0, 8 + min (t.val + 1) 63 % 4 * 2] ∧
    win0_10.index t = ![min (t.val + 1) 63 / 4, 0, 8 + min (t.val + 1) 63 % 4 * 2] :=
  (by decide +kernel : ∀ t : Fin grid0.N, _)

theorem tlt (t : Fin cfg0.N) : t.val < 64 := t.isLt

/-! ## The windows' blocks, read from the arrays -/

theorem b0 (c : Dev nD) (t : Fin cfg0.N) (a : Fin 4) (b : Fin 64) :
    iblk m c 0 t (ix3 0 a b) = V m c main_arg4 (ix3 0 a b) := by
  blk_ext [iblk, idx t]

theorem b1 (c : Dev nD) (t : Fin cfg0.N) (b : Fin 128) :
    iblk m c 1 t (ix3 0 0 b) = V m c main_v0 (ix3 0 0 b) := by
  blk_ext [iblk, idx t]

theorem b2 (c : Dev nD) (t : Fin cfg0.N) (R : Fin 2048) (x : Fin 256) :
    iblk m c 2 t (ix3 0 R x) = V m c main_v14 (ix3 (⟨t.val / 4, by have := tlt t; omega⟩ : Fin 16) R (⟨256 * (t.val % 4) + x.val, by omega⟩ : Fin 2048)) := by
  blk_ext [iblk, idx t]

theorem b3 (c : Dev nD) (t : Fin cfg0.N) (R : Fin 2048) (x : Fin 256) :
    iblk m c 3 t (ix3 0 R x) = V m c main_v14 (ix3 (⟨t.val / 4, by have := tlt t; omega⟩ : Fin 16) R (⟨1024 + 256 * (t.val % 4) + x.val, by omega⟩ : Fin 2048)) := by
  blk_ext [iblk, idx t]

theorem b4 (c : Dev nD) (t : Fin cfg0.N) (R : Fin 2048) (x : Fin 256) :
    iblk m c 4 t (ix3 0 R x) = V m c main_v22 (ix3 (⟨t.val / 4, by have := tlt t; omega⟩ : Fin 16) R (⟨256 * (t.val % 4) + x.val, by omega⟩ : Fin 11264)) := by
  blk_ext [iblk, idx t]

theorem b5 (c : Dev nD) (t : Fin cfg0.N) (R : Fin 2048) (x : Fin 256) :
    iblk m c 5 t (ix3 0 R x) = V m c main_v22 (ix3 (⟨t.val / 4, by have := tlt t; omega⟩ : Fin 16) R (⟨1024 + 256 * (t.val % 4) + x.val, by omega⟩ : Fin 11264)) := by
  blk_ext [iblk, idx t]

theorem b6 (c : Dev nD) (t : Fin cfg0.N) (R : Fin 256) (x : Fin 256) :
    iblk m c 6 t (ix3 0 R x) = V m c main_v21 (ix3 (⟨t.val / 4, by have := tlt t; omega⟩ : Fin 16) R (⟨1024 + 256 * (t.val % 4) + x.val, by omega⟩ : Fin 13312)) := by
  blk_ext [iblk, idx t]

theorem b7 (c : Dev nD) (t : Fin cfg0.N) (R : Fin 256) (x : Fin 256) :
    iblk m c 7 t (ix3 0 R x) = V m c main_v21 (ix3 (⟨t.val / 4, by have := tlt t; omega⟩ : Fin 16) R (⟨2048 + 256 * (t.val % 4) + x.val, by omega⟩ : Fin 13312)) := by
  blk_ext [iblk, idx t]

theorem b8 (c : Dev nD) (t : Fin cfg0.N) (R : Fin 512) (x : Fin 128) :
    iblk m c 8 t (ix3 0 R x) = V m c main_v14 (ix3 (⟨min (t.val + 1) 63 / 4, by omega⟩ : Fin 16) (⟨R.val, by omega⟩ : Fin 2048) (⟨256 * (min (t.val + 1) 63 % 4) + x.val, by omega⟩ : Fin 2048)) := by
  blk_ext [iblk, idxn t]

theorem b9 (c : Dev nD) (t : Fin cfg0.N) (R : Fin 2048) (x : Fin 128) :
    iblk m c 9 t (ix3 0 R x) = V m c main_v14 (ix3 (⟨min (t.val + 1) 63 / 4, by omega⟩ : Fin 16) R (⟨1024 + 256 * (min (t.val + 1) 63 % 4) + x.val, by omega⟩ : Fin 2048)) := by
  blk_ext [iblk, idxn t]

theorem b10 (c : Dev nD) (t : Fin cfg0.N) (R : Fin 256) (x : Fin 128) :
    iblk m c 10 t (ix3 0 R x) = V m c main_v21 (ix3 (⟨min (t.val + 1) 63 / 4, by omega⟩ : Fin 16) R (⟨1024 + 256 * (min (t.val + 1) 63 % 4) + x.val, by omega⟩ : Fin 13312)) := by
  blk_ext [iblk, idxn t]

/-! ## The scores carried from one point to the next -/

theorem carried (c : Dev nD) (t : Fin cfg0.N) :
    Carried (outsAt0 m c t.val t.isLt).2 (fun R x => iblk m c 8 t (ix3 0 R x))
      (fun j x => rowsCat (fun j => iblk m c 9 t (ix3 0 j x)) (fun j => iblk m c 10 t (ix3 0 j x)) j) := by
  by_cases h0 : t.val % 64 = 0
  · rw [outsAt0_A m c t h0]
    dsimp only
    exact sout_A _ _ _ _ _ _ _ _ _ _ _ _ _ _ _ _ _ _ _ _ _ _ _ _ _ _ _ _ _ _ _ _ _ _ _ _ _ _ _ _ _ _ _ _ _ _
  · rw [outsAt0_B m c t h0]
    dsimp only
    exact sout_B _ _ _ _ _ _ _ _ _ _ _ _ _ _ _ _ _ _ _ _ _ _ _ _ _ _ _ _ _ _ _ _ _ _ _ _ _ _ _ _ _ _ _ _ _ _ _

theorem carried_prev (c : Dev nD) (t : Fin cfg0.N) (h0 : ¬ t.val % 64 = 0) :
    Carried (outsAt0 m c (t.val - 1) (Nat.lt_of_le_of_lt (Nat.sub_le _ _) t.isLt)).2
      (fun R x => qRow (iblk m c 2 t) ⟨R.val, by omega⟩ 0 x) (kRow (iblk m c 3 t) (iblk m c 6 t) 0) := by
  have h := carried m c ⟨t.val - 1, Nat.lt_of_le_of_lt (Nat.sub_le _ _) t.isLt⟩
  have ht := tlt t
  have e : min (t.val - 1 + 1) 63 = t.val := by omega
  have hq : (fun (R : Fin 512) (x : Fin 128) => iblk m c 8 ⟨t.val - 1, Nat.lt_of_le_of_lt (Nat.sub_le _ _) t.isLt⟩ (ix3 0 R x))
      = fun R x => qRow (iblk m c 2 t) ⟨R.val, by omega⟩ 0 x := by
    funext R x
    rw [b8]
    unfold qRow
    rw [b2]
    simp only [e]
    blk_ext [e]
  have hk : (fun (j : Fin 2304) (x : Fin 128) => rowsCat (fun j => iblk m c 9 ⟨t.val - 1, Nat.lt_of_le_of_lt (Nat.sub_le _ _) t.isLt⟩ (ix3 0 j x))
      (fun j => iblk m c 10 ⟨t.val - 1, Nat.lt_of_le_of_lt (Nat.sub_le _ _) t.isLt⟩ (ix3 0 j x)) j)
      = kRow (iblk m c 3 t) (iblk m c 6 t) 0 := by
    funext j x
    unfold kRow
    refine congrArg₂ (fun a b => rowsCat a b j) (funext fun j => ?_) (funext fun j => ?_)
    · rw [b9, b3]
      simp only [e]
      blk_ext [e]
    · rw [b10, b6]
      simp only [e]
      blk_ext [e]
  rw [hq, hk] at h
  exact h

theorem out_at (c : Dev nD) (t : Fin cfg0.N) (R : Fin 2048) (g : Fin 2) (d : Fin 128) :
    (outsAt0 m c t.val t.isLt).1 (ix3 0 R (⟨128 * g.val + d.val, by omega⟩ : Fin 256)) =
      outVal (iblk m c 0 t) (iblk m c 1 t) (iblk m c 2 t) (iblk m c 3 t) (iblk m c 4 t) (iblk m c 5 t) (iblk m c 6 t) (iblk m c 7 t) R g d := by
  by_cases h0 : t.val % 64 = 0
  · rw [outsAt0_A m c t h0]
    dsimp only
    exact out_A _ _ _ _ _ _ _ _ _ _ _ _ _ _ _ _ _ _ _ _ _ _ _ _ _ _ _ _ _ _ _ _ _ _ _ _ _ _ _ _ _ _ _ _ _ _ _ _ _
  · rw [outsAt0_B m c t h0]
    dsimp only
    exact out_B _ _ _ _ _ _ _ _ _ _ _ _ _ _ _ _ _ _ _ _ _ _ _ _ _ _ _ _ _ _ _ _ _ _ _ _ _ _ _ _ _ _ _ _ _ _ _ (carried_prev m c t h0) R g d

/-! ## The result array -/

/-- One head's query row. -/
def kq (c : Dev nD) (b : Fin 16) (h : Fin 8) (R : Fin 2048) (x : Fin 128) : EReal :=
  V m c main_v14 (ix3 b R (⟨128 * h.val + x.val, by omega⟩ : Fin 2048))

/-- One head's rows of keys, latent first. -/
def kk (c : Dev nD) (b : Fin 16) (h : Fin 8) (j : Fin 2304) (x : Fin 128) : EReal :=
  rowsCat (fun j => V m c main_v14 (ix3 b j (⟨1024 + 128 * h.val + x.val, by omega⟩ : Fin 2048)))
    (fun j => V m c main_v21 (ix3 b j (⟨1024 + 128 * h.val + x.val, by omega⟩ : Fin 13312))) j

/-- One head's rows of values with the column of ones behind them. -/
def kv (c : Dev nD) (b : Fin 16) (h : Fin 8) (j : Fin 2304) (x : Fin 256) : EReal :=
  if hx : x.val < 128 then rowsCat (fun j => V m c main_v22 (ix3 b j (⟨128 * h.val + x.val, by omega⟩ : Fin 11264)))
    (fun j => V m c main_v21 (ix3 b j (⟨2048 + 128 * h.val + x.val, by omega⟩ : Fin 13312))) j
  else if x.val = 128 then 1 else 0

/-- The result at batch `b`, row `R`, head `h`, dimension `d`. -/
def kout (c : Dev nD) (b : Fin 16) (h : Fin 8) (R : Fin 2048) (d : Fin 128) : EReal :=
  finRow (lamVal fun a x => V m c main_arg4 (ix3 0 a x)) (row1 (kq m c b h R) (kk m c b h)) (row2 (kq m c b h R) (kk m c b h))
    (kv m c b h) (fun x => V m c main_v0 (ix3 0 0 x)) (V m c main_v22 (ix3 b R (⟨1024 + 128 * h.val + d.val, by omega⟩ : Fin 11264))) d

theorem out_kout (c : Dev nD) (t : Fin cfg0.N) (R : Fin 2048) (g : Fin 2) (d : Fin 128) :
    (outsAt0 m c t.val t.isLt).1 (ix3 0 R (⟨128 * g.val + d.val, by omega⟩ : Fin 256)) =
      kout m c ⟨t.val / 4, by have := tlt t; omega⟩ ⟨2 * (t.val % 4) + g.val, by omega⟩ R d := by
  rw [out_at]
  unfold outVal kout
  have hq : qRow (iblk m c 2 t) R g = kq m c ⟨t.val / 4, by have := tlt t; omega⟩ ⟨2 * (t.val % 4) + g.val, by omega⟩ R := by
    funext x
    unfold qRow kq
    rw [b2]
    blk_ext []
  have hk : kRow (iblk m c 3 t) (iblk m c 6 t) g = kk m c ⟨t.val / 4, by have := tlt t; omega⟩ ⟨2 * (t.val % 4) + g.val, by omega⟩ := by
    funext j x
    unfold kRow kk
    refine congrArg₂ (fun a b => rowsCat a b j) (funext fun j => ?_) (funext fun j => ?_)
    · rw [b3]
      blk_ext []
    · rw [b6]
      blk_ext []
  have hv : vRow (iblk m c 4 t) (iblk m c 7 t) g = kv m c ⟨t.val / 4, by have := tlt t; omega⟩ ⟨2 * (t.val % 4) + g.val, by omega⟩ := by
    funext j x
    unfold vRow kv
    split
    · refine congrArg₂ (fun a b => rowsCat a b j) (funext fun j => ?_) (funext fun j => ?_)
      · rw [b4]
        blk_ext []
      · rw [b7]
        blk_ext []
    · rfl
  have hl : (fun (a : Fin 4) (b : Fin 64) => iblk m c 0 t (ix3 0 a b)) = fun a x => V m c main_arg4 (ix3 0 a x) := by
    funext a b
    exact b0 m c t a b
  have hw : (fun (x : Fin 128) => iblk m c 1 t (ix3 0 0 x)) = fun x => V m c main_v0 (ix3 0 0 x) := by
    funext b
    exact b1 m c t b
  have hz : iblk m c 5 t (ix3 0 R (⟨128 * g.val + d.val, by omega⟩ : Fin 256)) =
      V m c main_v22 (ix3 (⟨t.val / 4, by have := tlt t; omega⟩ : Fin 16) R (⟨1024 + 128 * (2 * (t.val % 4) + g.val) + d.val, by omega⟩ : Fin 11264)) := by
    rw [b5]
    blk_ext []
  rw [hq, hk, hv, hl, hw, hz]

/-- The whole result array. -/
def karr (c : Dev nD) : Vec Ideal S16x2048x1024 .bf16 := fun i =>
  kout m c (show Fin 16 from i 0) ⟨(show Fin 1024 from i 2).val / 128, by omega⟩ (show Fin 2048 from i 1)
    ⟨(show Fin 1024 from i 2).val % 128, by omega⟩

theorem karr_at (c : Dev nD) (b : Fin 16) (R : Fin 2048) (x : Fin 1024) :
    karr m c (ix3 b R x) = kout m c b ⟨x.val / 128, by omega⟩ R ⟨x.val % 128, by omega⟩ := rfl

theorem result_eq (c : Dev nD) : (dats m 0 c).arrAt 11 cfg0.N = karr m c := by
  refine (dats m 0 c).arrAt_eq_of_covers 11 (karr m c) (by decide +kernel) ?_
  intro t hf y
  blk_simp
  rw [after0_11]
  obtain ⟨R, g, d, rfl⟩ : ∃ (R : Fin 2048) (g : Fin 2) (d : Fin 128), y = ix3 0 R (⟨128 * g.val + d.val, by omega⟩ : Fin 256) := by
    idx_vars y
    obtain rfl : y0 = 0 := Subsingleton.elim _ _
    refine ⟨y1, ⟨y2.val / 128, by omega⟩, ⟨y2.val % 128, by omega⟩, ?_⟩
    congr 1
    exact Fin.ext (Nat.div_add_mod _ _).symm
  rw [out_kout]
  have ht := tlt t
  have e : (win0_11.blk t).view.emb (ix3 0 R (⟨128 * g.val + d.val, by omega⟩ : Fin 256)) =
      ix3 (⟨t.val / 4, by omega⟩ : Fin 16) R (⟨256 * (t.val % 4) + (128 * g.val + d.val), by omega⟩ : Fin 1024) := by
    blk_ext [idx t]
  refine Eq.trans ?_ (congrArg (karr m c) e).symm
  refine Eq.trans ?_ (karr_at m c (⟨t.val / 4, by omega⟩ : Fin 16) R ⟨256 * (t.val % 4) + (128 * g.val + d.val), by omega⟩).symm
  have e1 : (⟨2 * (t.val % 4) + g.val, by omega⟩ : Fin 8) = ⟨(256 * (t.val % 4) + (128 * g.val + d.val)) / 128, by omega⟩ := by
    apply Fin.ext; show 2 * (t.val % 4) + g.val = (256 * (t.val % 4) + (128 * g.val + d.val)) / 128; omega
  have e2 : d = ⟨(256 * (t.val % 4) + (128 * g.val + d.val)) % 128, by omega⟩ := by
    apply Fin.ext; show d.val = (256 * (t.val % 4) + (128 * g.val + d.val)) % 128; omega
  exact congrArg₂ (fun h x => kout m c ⟨t.val / 4, by omega⟩ h R x) e1 e2

end Cert.KernelIdeal.Attn

end
-- ==== Proof.Host.lean ====
module

public import proofs.«01_k».proof.Proof.Grid

@[expose] public section

set_option maxRecDepth 16384

noncomputable section

open Idealize.ShloMosaic Idealize.ShloMosaic.TcCoe Idealize.SL.Sem

namespace Cert.KernelIdeal.Attn

open Cert.KernelIdeal Cert.KernelIdeal.Gen Cert.KernelIdeal.Facts

variable (m : (ℓ : Loc nD τ sig) → Buf (Elt Ideal) ℓ)

/-- The query scale the host computes. -/
def qs : EReal := Ideal.div 1 (Ideal.ofBits .f32 0x41000000#32 * Ideal.log (Ideal.ofBits .f32 0x40000000#32))

/-- The head layout of the latent queries and keys. -/
def layL (X : FVec Ideal S16x2048x1024 .f32) : FVec Ideal S16x2048x1024 .f32 :=
  shapeCast _ (transpose S16x2048x8x2x2x2x16 [0, 1, 2, 5, 3, 4, 6] (shapeCast _ X shapeCasts_S16x2048x1024_S16x2048x8x2x2x2x16) transposes_S16x2048x8x2x2x2x16_S16x2048x8x2x2x2x16_0_1_2_5_3_4_6) shapeCasts_S16x2048x8x2x2x2x16_S16x2048x1024

theorem layL_at (X : FVec Ideal S16x2048x1024 .f32) (b : Fin 16) (R : Fin 2048) (h : Fin 8) (p a e : Fin 2) (i : Fin 16) :
    layL X (ix3 b R (⟨128 * h.val + 64 * p.val + 32 * a.val + 16 * e.val + i.val, by omega⟩ : Fin 1024)) =
      X (ix3 b R (⟨128 * h.val + 64 * a.val + 32 * e.val + 16 * p.val + i.val, by omega⟩ : Fin 1024)) := by
  pointwise [layL]
  blk_ext []

theorem v22 (c : Dev nD) : V m c main_v22 = m ((c : Thread nD τ).loc main_arg2) := by
  unfold V
  after_results
  rfl

theorem v0 (c : Dev nD) (x : Fin 128) : V m c main_v0 (ix3 0 0 x) = m ((c : Thread nD τ).loc main_arg5) (ix2 0 x) := by
  unfold V
  after_results
  pointwise

/-- The head layout of the context's queries and keys. -/
def layC (X : FVec Ideal S16x256x2048 .f32) : FVec Ideal S16x256x2048 .f32 :=
  shapeCast _ (transpose S16x256x16x2x2x2x16 [0, 1, 2, 5, 3, 4, 6] (shapeCast _ X shapeCasts_S16x256x2048_S16x256x16x2x2x2x16) transposes_S16x256x16x2x2x2x16_S16x256x16x2x2x2x16_0_1_2_5_3_4_6) shapeCasts_S16x256x16x2x2x2x16_S16x256x2048

theorem layC_at (X : FVec Ideal S16x256x2048 .f32) (b : Fin 16) (R : Fin 256) (h : Fin 16) (p a e : Fin 2) (i : Fin 16) :
    layC X (ix3 b R (⟨128 * h.val + 64 * p.val + 32 * a.val + 16 * e.val + i.val, by omega⟩ : Fin 2048)) =
      X (ix3 b R (⟨128 * h.val + 64 * a.val + 32 * e.val + 16 * p.val + i.val, by omega⟩ : Fin 2048)) := by
  pointwise [layC]
  blk_ext []

theorem v14 (c : Dev nD) : V m c main_v14 = truncf .bf16 (concatenate S16x2048x2048 2
    [⟨S16x2048x1024, mulf (layL (m ((c : Thread nD τ).loc main_arg0))) (broadcastInDim S16x2048x1024 ![] bcast_S_S16x2048x1024
      (Host.divf (constant S_ FTy.f32 1065353216#32) (mulf (constant S_ FTy.f32 1090519040#32) (Host.log (constant S_ FTy.f32 1073741824#32)))))⟩,
     ⟨S16x2048x1024, layL (m ((c : Thread nD τ).loc main_arg1))⟩] concatenates_S16x2048x1024_S16x2048x1024_S16x2048x2048_d2) bitsLt_bf16_f32 := by
  unfold V
  after_results
  rfl

theorem v21 (c : Dev nD) : V m c main_v21 = truncf .bf16 (concatenate S16x256x13312 2
    [⟨S16x256x2048, layC (extractStridedSlice S16x256x2048 ![0, 0, 0] (m ((c : Thread nD τ).loc main_arg3)) slices_S16x256x13312_S16x256x2048_0_0_0)⟩,
     ⟨S16x256x11264, extractStridedSlice S16x256x11264 ![0, 0, 2048] (m ((c : Thread nD τ).loc main_arg3)) slices_S16x256x13312_S16x256x11264_0_0_2048⟩]
    concatenates_S16x256x2048_S16x256x11264_S16x256x13312_d2) bitsLt_bf16_f32 := by
  unfold V
  after_results
  rfl

theorem v14_q (c : Dev nD) (b : Fin 16) (R : Fin 2048) (h : Fin 8) (p a e : Fin 2) (i : Fin 16) :
    V m c main_v14 (ix3 b R (⟨128 * h.val + (64 * p.val + 32 * a.val + 16 * e.val + i.val), by omega⟩ : Fin 2048)) =
      (show EReal from m ((c : Thread nD τ).loc main_arg0) (ix3 b R (⟨128 * h.val + (64 * a.val + (32 * e.val + 16 * p.val + i.val)), by omega⟩ : Fin 1024))) * qs := by
  rw [v14]
  have e1 := layL_at (m ((c : Thread nD τ).loc main_arg0)) b R h p a e i
  pointwise
  rw [dif_pos (by omega)]
  refine congrArg (· * qs) (Eq.trans ?_ (e1.trans ?_)) <;> blk_ext []

theorem v14_k (c : Dev nD) (b : Fin 16) (R : Fin 2048) (h : Fin 8) (p a e : Fin 2) (i : Fin 16) :
    V m c main_v14 (ix3 b R (⟨1024 + 128 * h.val + (64 * p.val + 32 * a.val + 16 * e.val + i.val), by omega⟩ : Fin 2048)) =
      m ((c : Thread nD τ).loc main_arg1) (ix3 b R (⟨128 * h.val + (64 * a.val + (32 * e.val + 16 * p.val + i.val)), by omega⟩ : Fin 1024)) := by
  rw [v14]
  have e1 := layL_at (m ((c : Thread nD τ).loc main_arg1)) b R h p a e i
  pointwise
  rw [dif_neg (by omega)]
  refine Eq.trans ?_ (e1.trans ?_) <;> blk_ext []

theorem v21_k (c : Dev nD) (b : Fin 16) (R : Fin 256) (h : Fin 8) (p a e : Fin 2) (i : Fin 16) :
    V m c main_v21 (ix3 b R (⟨1024 + 128 * h.val + (64 * p.val + 32 * a.val + 16 * e.val + i.val), by omega⟩ : Fin 13312)) =
      m ((c : Thread nD τ).loc main_arg3) (ix3 b R (⟨1024 + (128 * h.val + (64 * a.val + (32 * e.val + 16 * p.val + i.val))), by omega⟩ : Fin 13312)) := by
  rw [v21]
  have e1 := layC_at (extractStridedSlice S16x256x2048 ![0, 0, 0] (m ((c : Thread nD τ).loc main_arg3)) slices_S16x256x13312_S16x256x2048_0_0_0) b R ⟨8 + h.val, by omega⟩ p a e i
  pointwise
  rw [dif_pos (by omega)]
  refine Eq.trans ?_ (e1.trans ?_)
  · blk_ext []
  · pointwise
    blk_ext []

theorem v21_v (c : Dev nD) (b : Fin 16) (R : Fin 256) (x : Fin 1024) :
    V m c main_v21 (ix3 b R (⟨2048 + x.val, by omega⟩ : Fin 13312)) =
      m ((c : Thread nD τ).loc main_arg3) (ix3 b R (⟨2048 + x.val, by omega⟩ : Fin 13312)) := by
  rw [v21]
  pointwise

end Cert.KernelIdeal.Attn

end
-- ==== Proof.Ref.lean ====
module

public import proofs.«01_k».proof.Proof.Gen.ReferenceIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.ReferenceIdeal.Facts

/-- The heads of the latent tokens' queries or keys. -/
def heads (X : FVec Ideal S16x2048x1024 .f32) : FVec Ideal S16x8x2x2048x64 .f32 :=
  transpose S16x8x2x2048x64 [0, 2, 3, 1, 4] (shapeCast _ X shapeCasts_S16x2048x1024_S16x2048x8x2x64) transposes_S16x2048x8x2x64_S16x8x2x2048x64_0_2_3_1_4

theorem heads_at (X : FVec Ideal S16x2048x1024 .f32) (b : Fin 16) (h : Fin 8) (p : Fin 2) (R : Fin 2048) (e : Fin 64) :
    heads X (ix5 b h p R e) = X (ix3 b R (⟨128 * h.val + (64 * p.val + e.val), by omega⟩ : Fin 1024)) := by
  pointwise [heads]
  blk_ext []

/-- The heads of the context's keys. -/
def headsC (X : FVec Ideal S16x256x13312 .f32) : FVec Ideal S16x8x2x256x64 .f32 :=
  transpose S16x8x2x256x64 [0, 2, 3, 1, 4] (shapeCast _ (extractStridedSlice S16x256x1024 ![0, 0, 1024] X slices_S16x256x13312_S16x256x1024_0_0_1024) shapeCasts_S16x256x1024_S16x256x8x2x64) transposes_S16x256x8x2x64_S16x8x2x256x64_0_2_3_1_4

theorem headsC_at (X : FVec Ideal S16x256x13312 .f32) (b : Fin 16) (h : Fin 8) (p : Fin 2) (R : Fin 256) (e : Fin 64) :
    headsC X (ix5 b h p R e) = X (ix3 b R (⟨1024 + (128 * h.val + (64 * p.val + e.val)), by omega⟩ : Fin 13312)) := by
  pointwise [headsC]
  blk_ext []

/-- The scores. -/
def rS (X0 X1 : FVec Ideal S16x2048x1024 .f32) (X3 : FVec Ideal S16x256x13312 .f32) : FVec Ideal S16x8x2x2048x2304 .f32 :=
  Host.divf (Host.dotGeneral dot_S16x8x2x2048x64_S16x8x2x2304x64_S16x8x2x2048x2304_4_4_3_3_012_012 none (heads X0)
    (concatenate S16x8x2x2304x64 3 [⟨S16x8x2x2048x64, heads X1⟩, ⟨S16x8x2x256x64, headsC X3⟩] concatenates_S16x8x2x2048x64_S16x8x2x256x64_S16x8x2x2304x64_d3))
    (broadcastInDim S16x8x2x2048x2304 ![] bcast_S_S16x8x2x2048x2304 (constant S_ .f32 0x41000000#32))

theorem rS_at (X0 X1 : FVec Ideal S16x2048x1024 .f32) (X3 : FVec Ideal S16x256x13312 .f32)
    (b : Fin 16) (h : Fin 8) (p : Fin 2) (R : Fin 2048) (j : Fin 2304) :
    rS X0 X1 X3 (ix5 b h p R j) = Ideal.div (∑ e : Fin 64, heads X0 (ix5 b h p R e) *
      (if hj : j.val < 2048 then heads X1 (ix5 b h p ⟨j.val, hj⟩ e) else headsC X3 (ix5 b h p ⟨j.val - 2048, by omega⟩ e)))
      (Ideal.ofBits .f32 0x41000000#32) := by
  pointwise [rS]

/-- The largest score of each row. -/
def rM (S : FVec Ideal S16x8x2x2048x2304 .f32) : FVec Ideal S16x8x2x2048 .f32 :=
  Host.reduce FloatOps.maximumf S (constant S_ .f32 0xFF800000#32) reducesTo_S16x8x2x2048x2304_S16x8x2x2048_d4 h_S_

theorem rM_at (S : FVec Ideal S16x8x2x2048x2304 .f32) (b : Fin 16) (h : Fin 8) (p : Fin 2) (R : Fin 2048) :
    rM S (ix4 b h p R) = Finset.fold max (Ideal.ofBits .f32 0xFF800000#32) (fun j : Fin 2304 => S (ix5 b h p R j)) Finset.univ := by
  pointwise [rM]

/-- The exponentials of the scores less their row's largest. -/
def rE (S : FVec Ideal S16x8x2x2048x2304 .f32) (M : FVec Ideal S16x8x2x2048 .f32) : FVec Ideal S16x8x2x2048x2304 .f32 :=
  Host.exp (subf S (broadcastInDim S16x8x2x2048x2304 ![0, 1, 2, 3, 4] bcast_S16x8x2x2048x1_S16x8x2x2048x2304_0_1_2_3_4 (broadcastInDim S16x8x2x2048x1 ![0, 1, 2, 3] bcast_S16x8x2x2048_S16x8x2x2048x1_0_1_2_3 (maximumf (broadcastInDim S16x8x2x2048 ![] bcast_S_S16x8x2x2048 (constant S_ .f32 0xFF800000#32)) M))))

theorem rE_at (S : FVec Ideal S16x8x2x2048x2304 .f32) (M : FVec Ideal S16x8x2x2048 .f32) (b : Fin 16) (h : Fin 8) (p : Fin 2) (R : Fin 2048) (j : Fin 2304) :
    rE S M (ix5 b h p R j) = Ideal.exp (S (ix5 b h p R j) - max (Ideal.ofBits .f32 0xFF800000#32) (M (ix4 b h p R))) := by
  pointwise [rE]

/-- The softmax. -/
def rP (E : FVec Ideal S16x8x2x2048x2304 .f32) : FVec Ideal S16x8x2x2048x2304 .f32 :=
  Host.divf E (broadcastInDim S16x8x2x2048x2304 ![0, 1, 2, 3, 4] bcast_S16x8x2x2048x1_S16x8x2x2048x2304_0_1_2_3_4 (broadcastInDim S16x8x2x2048x1 ![0, 1, 2, 3] bcast_S16x8x2x2048_S16x8x2x2048x1_0_1_2_3 (Host.reduceAdd E (constant S_ .f32 0x00000000#32) reducesTo_S16x8x2x2048x2304_S16x8x2x2048_d4 h_S_)))

theorem rP_at (E : FVec Ideal S16x8x2x2048x2304 .f32) (b : Fin 16) (h : Fin 8) (p : Fin 2) (R : Fin 2048) (j : Fin 2304) :
    rP E (ix5 b h p R j) = Ideal.div (E (ix5 b h p R j)) (∑ k : Fin 2304, E (ix5 b h p R k)) := by
  pointwise [rP]

/-- The weight of the second softmax. -/
def rLam (X4 : FVec Ideal S4x4x64 .f32) : FVec Ideal S_ .f32 :=
  (addf (subf (Host.exp (Host.reduceAdd (mulf (shapeCast _ (extractStridedSlice S1x64 ![0, 0] (shapeCast _ (extractStridedSlice S1x4x64 ![0, 0, 0] X4 slices_S4x4x64_S1x4x64_0_0_0) shapeCasts_S1x4x64_S4x64) slices_S4x64_S1x64_0_0) shapeCasts_S1x64_S64) (shapeCast _ (extractStridedSlice S1x64 ![1, 0] (shapeCast _ (extractStridedSlice S1x4x64 ![0, 0, 0] X4 slices_S4x4x64_S1x4x64_0_0_0) shapeCasts_S1x4x64_S4x64) slices_S4x64_S1x64_1_0) shapeCasts_S1x64_S64)) (constant S_ .f32 0x00000000#32) reducesTo_S64_S_d0 h_S_)) (Host.exp (Host.reduceAdd (mulf (shapeCast _ (extractStridedSlice S1x64 ![2, 0] (shapeCast _ (extractStridedSlice S1x4x64 ![0, 0, 0] X4 slices_S4x4x64_S1x4x64_0_0_0) shapeCasts_S1x4x64_S4x64) slices_S4x64_S1x64_2_0) shapeCasts_S1x64_S64) (shapeCast _ (extractStridedSlice S1x64 ![3, 0] (shapeCast _ (extractStridedSlice S1x4x64 ![0, 0, 0] X4 slices_S4x4x64_S1x4x64_0_0_0) shapeCasts_S1x4x64_S4x64) slices_S4x64_S1x64_3_0) shapeCasts_S1x64_S64)) (constant S_ .f32 0x00000000#32) reducesTo_S64_S_d0 h_S_))) (constant S_ .f32 0x3E4CCCCD#32))

theorem rLam_at (X4 : FVec Ideal S4x4x64 .f32) (i : S_.Idx) : rLam X4 i =
    Ideal.exp (∑ x : Fin 64, X4 (ix3 0 0 x) * X4 (ix3 0 1 x)) - Ideal.exp (∑ x : Fin 64, X4 (ix3 0 2 x) * X4 (ix3 0 3 x)) +
      Ideal.ofBits .f32 0x3E4CCCCD#32 := by
  pointwise [rLam]

/-- The heads of the values. -/
def rV (X2 : FVec Ideal S16x2048x11264 .f32) (X3 : FVec Ideal S16x256x13312 .f32) : FVec Ideal S16x8x2304x128 .f32 :=
  concatenate S16x8x2304x128 2 [⟨S16x8x2048x128, (transpose S16x8x2048x128 [0, 2, 1, 3] (shapeCast _ (extractStridedSlice S16x2048x1024 ![0, 0, 0] X2 slices_S16x2048x11264_S16x2048x1024_0_0_0) shapeCasts_S16x2048x1024_S16x2048x8x128) transposes_S16x2048x8x128_S16x8x2048x128_0_2_1_3)⟩, ⟨S16x8x256x128, (transpose S16x8x256x128 [0, 2, 1, 3] (shapeCast _ (extractStridedSlice S16x256x1024 ![0, 0, 2048] X3 slices_S16x256x13312_S16x256x1024_0_0_2048) shapeCasts_S16x256x1024_S16x256x8x128) transposes_S16x256x8x128_S16x8x256x128_0_2_1_3)⟩] concatenates_S16x8x2048x128_S16x8x256x128_S16x8x2304x128_d2

theorem rV_at (X2 : FVec Ideal S16x2048x11264 .f32) (X3 : FVec Ideal S16x256x13312 .f32) (b : Fin 16) (h : Fin 8) (j : Fin 2304) (d : Fin 128) :
    rV X2 X3 (ix4 b h j d) = if hj : j.val < 2048 then X2 (ix3 b (⟨j.val, hj⟩ : Fin 2048) (⟨128 * h.val + d.val, by omega⟩ : Fin 11264))
      else X3 (ix3 b (⟨j.val - 2048, by omega⟩ : Fin 256) (⟨2048 + (128 * h.val + d.val), by omega⟩ : Fin 13312)) := by
  pointwise [rV]
  split <;> blk_ext []

/-- The difference of the two softmaxes applied to the values. -/
def rO (P : FVec Ideal S16x8x2x2048x2304 .f32) (l : FVec Ideal S_ .f32) (W : FVec Ideal S16x8x2304x128 .f32) : FVec Ideal S16x8x2048x128 .f32 :=
  Host.dotGeneral dot_S16x8x2048x2304_S16x8x2304x128_S16x8x2048x128_3_2_2_3_01_01 none (subf (shapeCast _ (extractStridedSlice S16x8x1x2048x2304 ![0, 0, 0, 0, 0] P slices_S16x8x2x2048x2304_S16x8x1x2048x2304_0_0_0_0_0) shapeCasts_S16x8x1x2048x2304_S16x8x2048x2304) (mulf (broadcastInDim S16x8x2048x2304 ![] bcast_S_S16x8x2048x2304 l) (shapeCast _ (extractStridedSlice S16x8x1x2048x2304 ![0, 0, 1, 0, 0] P slices_S16x8x2x2048x2304_S16x8x1x2048x2304_0_0_1_0_0) shapeCasts_S16x8x1x2048x2304_S16x8x2048x2304))) W

theorem rO_at (P : FVec Ideal S16x8x2x2048x2304 .f32) (l : FVec Ideal S_ .f32) (W : FVec Ideal S16x8x2304x128 .f32) (b : Fin 16) (h : Fin 8) (R : Fin 2048) (d : Fin 128) :
    rO P l W (ix4 b h R d) = ∑ j : Fin 2304, (P (ix5 b h 0 R j) - l ix0 * P (ix5 b h 1 R j)) * W (ix4 b h j d) := by
  pointwise [rO]

/-- The heads' normalized outputs. -/
def rN (O : FVec Ideal S16x8x2048x128 .f32) (X5 : FVec Ideal S4x128 .f32) : FVec Ideal S16x8x2048x128 .f32 :=
  mulf (mulf (mulf O (broadcastInDim S16x8x2048x128 ![0, 1, 2, 3] bcast_S16x8x2048x1_S16x8x2048x128_0_1_2_3 (Host.rsqrt (addf (Host.divf (broadcastInDim S16x8x2048x1 ![0, 1, 2] bcast_S16x8x2048_S16x8x2048x1_0_1_2 (Host.reduceAdd (mulf O O) (constant S_ .f32 0x00000000#32) reducesTo_S16x8x2048x128_S16x8x2048_d3 h_S_)) (broadcastInDim S16x8x2048x1 ![] bcast_S_S16x8x2048x1 (constant S_ .f32 0x43000000#32))) (broadcastInDim S16x8x2048x1 ![] bcast_S_S16x8x2048x1 (constant S_ .f32 0x3727C5AC#32)))))) (broadcastInDim S16x8x2048x128 ![0, 1, 2, 3] bcast_S1x1x1x128_S16x8x2048x128_0_1_2_3 (broadcastInDim S1x1x1x128 ![3] bcast_S128_S1x1x1x128_3 (shapeCast _ (extractStridedSlice S1x128 ![0, 0] X5 slices_S4x128_S1x128_0_0) shapeCasts_S1x128_S128)))) (broadcastInDim S16x8x2048x128 ![] bcast_S_S16x8x2048x128 (constant S_ .f32 0x3F4CCCCD#32))

theorem rN_at (O : FVec Ideal S16x8x2048x128 .f32) (X5 : FVec Ideal S4x128 .f32) (b : Fin 16) (h : Fin 8) (R : Fin 2048) (d : Fin 128) :
    rN O X5 (ix4 b h R d) = O (ix4 b h R d) * Ideal.rsqrt (Ideal.div (∑ x : Fin 128, O (ix4 b h R x) * O (ix4 b h R x)) (Ideal.ofBits .f32 0x43000000#32) + Ideal.ofBits .f32 0x3727C5AC#32)
      * X5 (ix2 0 d) * Ideal.ofBits .f32 0x3F4CCCCD#32 := by
  pointwise [rN]

/-- The gated result. -/
def rG (N : FVec Ideal S16x8x2048x128 .f32) (X2 : FVec Ideal S16x2048x11264 .f32) : FVec Ideal S16x2048x1024 .bf16 :=
  truncf .bf16 (mulf (shapeCast _ (transpose S16x2048x8x128 [0, 2, 1, 3] N transposes_S16x8x2048x128_S16x2048x8x128_0_2_1_3) shapeCasts_S16x2048x8x128_S16x2048x1024) (mulf (extractStridedSlice S16x2048x1024 ![0, 0, 1024] X2 slices_S16x2048x11264_S16x2048x1024_0_0_1024) (Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf (extractStridedSlice S16x2048x1024 ![0, 0, 1024] X2 slices_S16x2048x11264_S16x2048x1024_0_0_1024))))))) bitsLt_bf16_f32

theorem rG_at (N : FVec Ideal S16x8x2048x128 .f32) (X2 : FVec Ideal S16x2048x11264 .f32) (b : Fin 16) (R : Fin 2048) (h : Fin 8) (d : Fin 128) :
    rG N X2 (ix3 b R (⟨128 * h.val + d.val, by omega⟩ : Fin 1024)) = N (ix4 b h R d) *
      (X2 (ix3 b R (⟨1024 + (128 * h.val + d.val), by omega⟩ : Fin 11264)) * Ideal.div 1 (1 + Ideal.exp (-X2 (ix3 b R (⟨1024 + (128 * h.val + d.val), by omega⟩ : Fin 11264))))) := by
  pointwise [rG]
  blk_ext []

/-- The reference's result from its arguments. -/
def rOut (X0 X1 : FVec Ideal S16x2048x1024 .f32) (X2 : FVec Ideal S16x2048x11264 .f32) (X3 : FVec Ideal S16x256x13312 .f32)
    (X4 : FVec Ideal S4x4x64 .f32) (X5 : FVec Ideal S4x128 .f32) : FVec Ideal S16x2048x1024 .bf16 :=
  rG (rN (rO (rP (rE (rS X0 X1 X3) (rM (rS X0 X1 X3)))) (rLam X4) (rV X2 X3)) X5) X2

theorem result (m : (ℓ : Loc nD τ sig) → Buf (Elt Ideal) ℓ) (c : Dev nD) : Cert.ReferenceIdeal.Value.res_main_v77 m c =
    rOut (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := rfl

end Cert.ReferenceIdeal.Attn

end
-- ==== Proof.Average.lean ====
module

public import Idealize.ShloMosaic.Lib.Pointwise
public import Mathlib.Analysis.SpecialFunctions.Pow.Real
public import Mathlib.Analysis.SpecialFunctions.Trigonometric.Basic

@[expose] public section

set_option maxRecDepth 16384

noncomputable section

/-! Softmax averages over extended reals that are real numbers. -/

namespace Cert.Avg

open Idealize.ShloMosaic

/-- The average of `v` under the softmax of `s`. -/
def avg {n : ℕ} (s v : Fin n → ℝ) : ℝ := (∑ j, Real.exp (s j) * v j) / ∑ j, Real.exp (s j)

theorem coe_sum {ι : Type} (t : Finset ι) (f : ι → ℝ) : (∑ j ∈ t, (f j : EReal)) = ((∑ j ∈ t, f j : ℝ) : EReal) :=
  (map_sum (⟨⟨Real.toEReal, EReal.coe_zero⟩, EReal.coe_add⟩ : ℝ →+ EReal) f t).symm

theorem ofBits_ninf : Ideal.ofBits .f32 0xFF800000#32 = ⊥ := by
  simp only [Ideal.ofBits, Ideal.ieee]
  rw [if_pos (by decide), if_pos (by decide), if_pos (by decide)]

theorem ofBits_real (b : BitVec 32) (h : (b.extractLsb' 23 8).toNat ≠ 255) : ∃ r : ℝ, Ideal.ofBits .f32 b = (r : EReal) := by
  simp only [Ideal.ofBits, Ideal.ieee]
  rw [if_neg (by simpa using h)]
  split <;> exact ⟨_, rfl⟩

theorem fold_max {ι : Type} (t : Finset ι) (b : EReal) (hb : b = ⊥ ∨ ∃ r : ℝ, b = r) (f : ι → ℝ) :
    t.fold max b (fun k => (f k : EReal)) = ⊥ ∧ t = ∅ ∨ ∃ M : ℝ, t.fold max b (fun k => (f k : EReal)) = (M : EReal) := by
  classical
  induction t using Finset.induction_on with
  | empty => rcases hb with rfl | ⟨r, rfl⟩ <;> simp
  | insert a t ha ih =>
    right
    rw [Finset.fold_insert ha]
    rcases ih with ⟨h, -⟩ | ⟨M, h⟩
    · exact ⟨f a, by rw [h]; simp⟩
    · exact ⟨max (f a) M, by rw [h]; exact (EReal.coe_strictMono.monotone.map_max).symm⟩

theorem fold_max_real {n : ℕ} [NeZero n] (f : Fin n → ℝ) :
    ∃ M : ℝ, Finset.univ.fold max (Ideal.ofBits .f32 0xFF800000#32) (fun k => (f k : EReal)) = (M : EReal) := by
  rcases fold_max Finset.univ (Ideal.ofBits .f32 0xFF800000#32) (.inl ofBits_ninf) f with ⟨-, h⟩ | h
  · exact absurd h (Finset.univ_nonempty (α := Fin n)).ne_empty
  · exact h

theorem exp_pos {n : ℕ} [NeZero n] (s : Fin n → ℝ) : 0 < ∑ j, Real.exp (s j) :=
  Finset.sum_pos (fun _ _ => Real.exp_pos _) Finset.univ_nonempty

theorem div_real (a b : ℝ) (hb : b ≠ 0) : Ideal.div (a : EReal) (b : EReal) = ((a / b : ℝ) : EReal) := by
  rw [Ideal.div_coe hb, ← EReal.coe_mul, mul_one_div]

theorem avg_shift {n : ℕ} (s v : Fin n → ℝ) (M : ℝ) :
    (∑ j, Real.exp (s j - M) * v j) / ∑ j, Real.exp (s j - M) = avg s v := by
  have h (g : Fin n → ℝ) : ∑ j, Real.exp (s j - M) * g j = Real.exp (-M) * ∑ j, Real.exp (s j) * g j := by
    rw [Finset.mul_sum]
    refine Finset.sum_congr rfl fun j _ => ?_
    rw [sub_eq_add_neg, Real.exp_add]; ring
  have h1 : ∑ j, Real.exp (s j - M) = Real.exp (-M) * ∑ j, Real.exp (s j) := by
    have := h fun _ => 1
    simpa using this
  rw [h, h1, avg, mul_div_mul_left _ _ (Real.exp_pos _).ne']

/-- The average as base-two powers of scaled scores less any real number, over the sum of the powers. -/
theorem avg_exp2 {n : ℕ} [NeZero n] (s v : Fin n → ℝ) (c M : ℝ) (hc : c * Real.log 2 = 1) :
    Ideal.div (∑ j, Ideal.exp2 (((s j * c : ℝ) : EReal) - (M : EReal)) * (v j : EReal))
      (∑ j, Ideal.exp2 (((s j * c : ℝ) : EReal) - (M : EReal)) * 1) = (avg s v : EReal) := by
  have he (j : Fin n) : Ideal.exp2 (((s j * c : ℝ) : EReal) - (M : EReal)) = ((Real.exp (s j - M * Real.log 2) : ℝ) : EReal) := by
    rw [← EReal.coe_sub]
    show ((Real.rpow 2 _ : ℝ) : EReal) = _
    congr 1
    rw [Real.rpow_eq_pow, Real.rpow_def_of_pos two_pos]
    congr 1
    linear_combination s j * hc
  simp only [he, mul_one, ← EReal.coe_mul, coe_sum]
  rw [div_real _ _ (exp_pos fun j => s j - M * Real.log 2).ne', avg_shift]

theorem exp_real (x : ℝ) : Ideal.exp (x : EReal) = (Real.exp x : EReal) := rfl

/-- One softmax weight. -/
theorem weight {n : ℕ} [NeZero n] (s : Fin n → ℝ) (M : ℝ) (j : Fin n) :
    Ideal.div (Ideal.exp ((s j : EReal) - (M : EReal))) (∑ k, Ideal.exp ((s k : EReal) - (M : EReal)))
      = ((Real.exp (s j - M) / ∑ k, Real.exp (s k - M) : ℝ) : EReal) := by
  simp only [← EReal.coe_sub, exp_real, coe_sum]
  rw [div_real _ _ (exp_pos fun j => s j - M).ne']

/-- The difference of two softmaxes averaged is the difference of the averages. -/
theorem avg_sub {n : ℕ} [NeZero n] (s t v : Fin n → ℝ) (l M N : ℝ) :
    (∑ j, (Ideal.div (Ideal.exp ((s j : EReal) - (M : EReal))) (∑ k, Ideal.exp ((s k : EReal) - (M : EReal)))
        - (l : EReal) * Ideal.div (Ideal.exp ((t j : EReal) - (N : EReal))) (∑ k, Ideal.exp ((t k : EReal) - (N : EReal)))) * (v j : EReal))
      = ((avg s v - l * avg t v : ℝ) : EReal) := by
  simp only [weight]
  simp only [← EReal.coe_mul, ← EReal.coe_sub, coe_sum]
  congr 1
  rw [← avg_shift s v M, ← avg_shift t v N, Finset.sum_div, Finset.sum_div, Finset.mul_sum, ← Finset.sum_sub_distrib]
  refine Finset.sum_congr rfl fun j _ => ?_
  ring

/-- The gate by the hyperbolic tangent of half the argument is the argument times its logistic function. -/
theorem gate (z : ℝ) (h : EReal) (hh : h = ((1 / 2 : ℝ) : EReal)) :
    h * z * Ideal.tanh (h * z) + h * z = z * Ideal.div 1 (1 + Ideal.exp (-(z : EReal))) := by
  subst hh
  rw [← EReal.coe_mul, ← EReal.coe_neg, exp_real, ← EReal.coe_one, ← EReal.coe_add,
    div_real _ _ (by positivity), ← EReal.coe_mul]
  show ((1 / 2 * z : ℝ) : EReal) * ((Real.tanh (1 / 2 * z) : ℝ) : EReal) + _ = _
  rw [← EReal.coe_mul, ← EReal.coe_add]
  congr 1
  rw [Real.tanh_eq_sinh_div_cosh, Real.sinh_eq, Real.cosh_eq]
  have e : Real.exp (1 / 2 * z) * Real.exp (-(1 / 2 * z)) = 1 := by rw [← Real.exp_add]; simp
  have e2 : Real.exp (-z) = Real.exp (-(1 / 2 * z)) ^ 2 := by rw [← Real.exp_nat_mul]; congr 1; push_cast; ring
  have p1 := Real.exp_pos (1 / 2 * z)
  have p2 := Real.exp_pos (-(1 / 2 * z))
  rw [e2]
  set a := Real.exp (1 / 2 * z)
  set b := Real.exp (-(1 / 2 * z))
  field_simp
  linear_combination (2 * z * b) * e

end Cert.Avg
-- ==== Proof.Join.lean ====
module

public import proofs.«01_k».proof.Proof.Average
public import proofs.«01_k».proof.Proof.Blk

@[expose] public section

set_option maxRecDepth 16384

noncomputable section

open Idealize.ShloMosaic Idealize.SL.Sem

namespace Cert.KernelIdeal.Attn

open Cert.KernelIdeal Cert.Avg

/-- Which map a lane of the head layout belongs to. -/
def lmap (x : Fin 128) : Fin 2 := ⟨x.val % 64 / 32, by omega⟩

/-- Which dimension of its map a lane of the head layout holds. -/
def ldim (x : Fin 128) : Fin 64 := ⟨32 * (x.val % 32 / 16) + 16 * (x.val / 64) + x.val % 16, by omega⟩

theorem lane_map : ∀ (a : Fin 2) (e : Fin 64), (64 * (e.val % 32 / 16) + 32 * a.val + 16 * (e.val / 32) + e.val % 16) % 64 / 32 = a.val := by
  decide

theorem lane_dim : ∀ (a : Fin 2) (e : Fin 64), 32 * ((64 * (e.val % 32 / 16) + 32 * a.val + 16 * (e.val / 32) + e.val % 16) % 32 / 16) +
    16 * ((64 * (e.val % 32 / 16) + 32 * a.val + 16 * (e.val / 32) + e.val % 16) / 64) +
    (64 * (e.val % 32 / 16) + 32 * a.val + 16 * (e.val / 32) + e.val % 16) % 16 = e.val := by
  decide

/-- The lanes of one map, summed, are its dimensions summed. -/
theorem sum_lanes (a : Fin 2) (f : Fin 64 → EReal) :
    (∑ x ∈ Finset.univ.filter (fun x : Fin 128 => lmap x = a), f (ldim x)) = ∑ e, f e := by
  refine Finset.sum_bij' (fun x _ => ldim x)
    (fun e _ => (⟨64 * (e.val % 32 / 16) + 32 * a.val + 16 * (e.val / 32) + e.val % 16, by omega⟩ : Fin 128)) ?_ ?_ ?_ ?_ ?_
  · intro x _; exact Finset.mem_univ _
  · intro e _
    rw [Finset.mem_filter]
    refine ⟨Finset.mem_univ _, Fin.ext ?_⟩
    exact lane_map a e
  · intro x hx
    have h : x.val % 64 / 32 = a.val := congrArg Fin.val (Finset.mem_filter.1 hx).2
    apply Fin.ext
    show 64 * ((32 * (x.val % 32 / 16) + 16 * (x.val / 64) + x.val % 16) % 32 / 16) + 32 * a.val +
      16 * ((32 * (x.val % 32 / 16) + 16 * (x.val / 64) + x.val % 16) / 32) + (32 * (x.val % 32 / 16) + 16 * (x.val / 64) + x.val % 16) % 16 = x.val
    omega
  · intro e _
    apply Fin.ext
    exact lane_dim a e
  · intro x _; rfl

theorem lmap_zero (x : Fin 128) : (x.val % 64 < 32) ↔ lmap x = 0 := by
  constructor
  · intro h; apply Fin.ext; show x.val % 64 / 32 = 0; omega
  · intro h; have : x.val % 64 / 32 = 0 := congrArg Fin.val h; omega

theorem lmap_one (x : Fin 128) : ¬ (x.val % 64 < 32) ↔ lmap x = 1 := by
  constructor
  · intro h; apply Fin.ext; show x.val % 64 / 32 = 1; omega
  · intro h; have : x.val % 64 / 32 = 1 := congrArg Fin.val h; omega

/-- One score, over the reals. -/
def sc (Q : Fin 64 → ℝ) (K : Fin 2304 → Fin 64 → ℝ) (j : Fin 2304) : ℝ := (∑ e, Q e * K j e) / 8

theorem term_real (q k c : ℝ) : ((q : EReal) * (c : EReal)) * (k : EReal) = ((c * (q * k) : ℝ) : EReal) := by
  rw [← EReal.coe_mul, ← EReal.coe_mul]; congr 1; ring

theorem sum_real (Q : Fin 64 → ℝ) (K : Fin 2304 → Fin 64 → ℝ) (j : Fin 2304) (c : ℝ) :
    (∑ e, ((c / 8 * (Q e * K j e) : ℝ) : EReal)) = ((sc Q K j * c : ℝ) : EReal) := by
  rw [coe_sum, ← Finset.mul_sum]; congr 1; unfold sc; ring

section
variable (q : Fin 128 → EReal) (k : Fin 2304 → Fin 128 → EReal) (Q : Fin 2 → Fin 64 → ℝ) (K : Fin 2 → Fin 2304 → Fin 64 → ℝ) (c : ℝ)
  (hq : ∀ x, q x = (Q (lmap x) (ldim x) : EReal) * ((c / 8 : ℝ) : EReal)) (hk : ∀ j x, k j x = (K (lmap x) j (ldim x) : EReal))
include hq hk

theorem lanes_sum (a : Fin 2) (j : Fin 2304) :
    (∑ x : Fin 128, if lmap x = a then q x * k j x else 0) = ((sc (Q a) (K a) j * c : ℝ) : EReal) := by
  rw [← Finset.sum_filter, ← sum_real, ← sum_lanes a]
  refine Finset.sum_congr rfl fun x hx => ?_
  have h := (Finset.mem_filter.1 hx).2
  rw [hq, hk, h, term_real]

theorem row1_real (j : Fin 2304) : row1 q k j = ((sc (Q 0) (K 0) j * c : ℝ) : EReal) := by
  rw [← lanes_sum q k Q K c hq hk 0 j]
  exact Finset.sum_congr rfl fun x _ => if_congr (lmap_zero x) rfl rfl

theorem row2_real (j : Fin 2304) : row2 q k j = ((sc (Q 1) (K 1) j * c : ℝ) : EReal) := by
  rw [← lanes_sum q k Q K c hq hk 1 j]
  refine Finset.sum_congr rfl fun x _ => ?_
  rw [← ite_not]
  exact if_congr (lmap_one x) rfl rfl
end

/-- One softmax average of the kernel, over the reals. -/
theorem rowAvg_real (s : Fin 2304 → EReal) (v : Fin 2304 → Fin 256 → EReal) (S : Fin 2304 → ℝ) (W : Fin 2304 → ℝ) (c : ℝ)
    (hc : c * Real.log 2 = 1) (d : Fin 128) (hs : ∀ j, s j = ((S j * c : ℝ) : EReal)) (hv : ∀ j, v j ⟨d.val, by omega⟩ = (W j : EReal))
    (h1 : ∀ j, v j 128 = 1) : rowAvg s v d = (avg S W : EReal) := by
  obtain rfl : s = fun j => ((S j * c : ℝ) : EReal) := funext hs
  unfold rowAvg
  obtain ⟨M, hM⟩ := fold_max_real (fun j => S j * c)
  rw [show top _ = _ from hM]
  simp only [hv, h1]
  exact avg_exp2 S W c M hc

/-- The reference's difference of two softmaxes applied to a column of values, over the reals. -/
theorem refAvg_real (s t : Fin 2304 → EReal) (S T W : Fin 2304 → ℝ) (l : ℝ) (hs : ∀ j, s j = (S j : EReal)) (ht : ∀ j, t j = (T j : EReal)) :
    (∑ j, (Ideal.div (Ideal.exp (s j - max (Ideal.ofBits .f32 0xFF800000#32) (top s))) (∑ i, Ideal.exp (s i - max (Ideal.ofBits .f32 0xFF800000#32) (top s)))
      - (l : EReal) * Ideal.div (Ideal.exp (t j - max (Ideal.ofBits .f32 0xFF800000#32) (top t))) (∑ i, Ideal.exp (t i - max (Ideal.ofBits .f32 0xFF800000#32) (top t)))) * (W j : EReal))
      = (avg S W : EReal) - (l : EReal) * (avg T W : EReal) := by
  obtain rfl : s = fun j => (S j : EReal) := funext hs
  obtain rfl : t = fun j => (T j : EReal) := funext ht
  obtain ⟨M, hM⟩ := fold_max_real S
  obtain ⟨N, hN⟩ := fold_max_real T
  have e1 : max (Ideal.ofBits .f32 0xFF800000#32) (top fun j => (S j : EReal)) = (M : EReal) := by
    rw [show top _ = _ from hM, ofBits_ninf]; exact max_eq_right bot_le
  have e2 : max (Ideal.ofBits .f32 0xFF800000#32) (top fun j => (T j : EReal)) = (N : EReal) := by
    rw [show top _ = _ from hN, ofBits_ninf]; exact max_eq_right bot_le
  rw [e1, e2, avg_sub, ← EReal.coe_mul, ← EReal.coe_sub]

/-- The factor of the second map is real. -/
theorem lam_real (L : Fin 4 → Fin 64 → EReal) (h : ∀ a x, ∃ r : ℝ, L a x = r) : ∃ r : ℝ, lamVal L = r := by
  choose g hg using h
  obtain ⟨b, hb⟩ := ofBits_real 1045220557#32 (by decide)
  refine ⟨Real.exp (∑ x, g 0 x * g 1 x) - Real.exp (∑ x, g 2 x * g 3 x) + b, ?_⟩
  unfold lamVal
  simp only [hg, hb, ← EReal.coe_mul, coe_sum, exp_real]
  rw [← EReal.coe_sub, ← EReal.coe_add]

theorem bits_eight : Ideal.ofBits .f32 0x41000000#32 = ((8 : ℝ) : EReal) := by
  simp [Ideal.ofBits, Ideal.ieee]; rw [← EReal.coe_mul]; norm_num

theorem bits_two : Ideal.ofBits .f32 0x40000000#32 = ((2 : ℝ) : EReal) := by
  simp [Ideal.ofBits, Ideal.ieee]; rw [← EReal.coe_mul]; norm_num

theorem bits_half : Ideal.ofBits .f32 0x3F000000#32 = ((1 / 2 : ℝ) : EReal) := by
  simp [Ideal.ofBits, Ideal.ieee]; rw [← EReal.coe_mul]; norm_num

/-- The query scale is the reference's eighth times the factor that turns powers of two into exponentials. -/
theorem scale_real : Ideal.div 1 (Ideal.ofBits .f32 0x41000000#32 * Ideal.log (Ideal.ofBits .f32 0x40000000#32)) = ((1 / Real.log 2 / 8 : ℝ) : EReal) := by
  have h2 : Real.log 2 ≠ 0 := (Real.log_pos one_lt_two).ne'
  rw [bits_eight, bits_two, show Ideal.log ((2 : ℝ) : EReal) = ((Real.log 2 : ℝ) : EReal) from
    (if_neg (by norm_num : ¬ (2 : ℝ) ≤ 0) : (if (2 : ℝ) ≤ 0 then (⊥ : EReal) else (Real.log 2 : EReal)) = _), ← EReal.coe_mul, ← EReal.coe_one, div_real _ _ (by positivity)]
  congr 1
  field_simp

theorem rowGate_real (z : EReal) (h : ∃ r : ℝ, z = r) : rowGate z = z * Ideal.div 1 (1 + Ideal.exp (-z)) := by
  obtain ⟨r, rfl⟩ := h
  exact gate r _ bits_half

end Cert.KernelIdeal.Attn

end
-- ==== Proof.Meet.lean ====
module

public import proofs.«01_k».proof.Proof.Host
public import proofs.«01_k».proof.Proof.Ref
public import proofs.«01_k».proof.Proof.Join

@[expose] public section

set_option maxRecDepth 16384

noncomputable section

open Idealize.ShloMosaic Idealize.ShloMosaic.TcCoe Idealize.SL.Sem

namespace Cert.KernelIdeal.Attn

open Cert.KernelIdeal Cert.KernelIdeal.Gen Cert.KernelIdeal.Facts Cert.Avg
open Cert.ReferenceIdeal.Attn (rS rM rE rP rLam rV rO rN rG rOut rS_at rM_at rE_at rP_at rLam_at rV_at rO_at rN_at rG_at heads_at headsC_at)

section
variable (r0 r1 : S16x2048x1024.Idx → ℝ) (r2 : S16x2048x11264.Idx → ℝ) (r3 : S16x256x13312.Idx → ℝ)
  (b : Fin 16) (h : Fin 8) (R : Fin 2048)

/-- One map's real query row. -/
def realQ (a : Fin 2) (e : Fin 64) : ℝ := r0 (ix3 b R (⟨128 * h.val + (64 * a.val + e.val), by omega⟩ : Fin 1024))

/-- One map's real key rows. -/
def realK (a : Fin 2) (j : Fin 2304) (e : Fin 64) : ℝ :=
  if hj : j.val < 2048 then r1 (ix3 b (⟨j.val, hj⟩ : Fin 2048) (⟨128 * h.val + (64 * a.val + e.val), by omega⟩ : Fin 1024))
  else r3 (ix3 b (⟨j.val - 2048, by omega⟩ : Fin 256) (⟨1024 + (128 * h.val + (64 * a.val + e.val)), by omega⟩ : Fin 13312))

/-- One real column of values. -/
def realV (d : Fin 128) (j : Fin 2304) : ℝ :=
  if hj : j.val < 2048 then r2 (ix3 b (⟨j.val, hj⟩ : Fin 2048) (⟨128 * h.val + d.val, by omega⟩ : Fin 11264))
  else r3 (ix3 b (⟨j.val - 2048, by omega⟩ : Fin 256) (⟨2048 + (128 * h.val + d.val), by omega⟩ : Fin 13312))

/-- One map's real scores. -/
def realS (a : Fin 2) : Fin 2304 → ℝ := sc (realQ r0 b h R a) (realK r1 r3 b h a)
end

section
variable {X0 X1 : FVec Ideal S16x2048x1024 .f32} {X2 : FVec Ideal S16x2048x11264 .f32} {X3 : FVec Ideal S16x256x13312 .f32}
  {X4 : FVec Ideal S4x4x64 .f32} (X5 : FVec Ideal S4x128 .f32)
  {r0 r1 : S16x2048x1024.Idx → ℝ} {r2 : S16x2048x11264.Idx → ℝ} {r3 : S16x256x13312.Idx → ℝ}
  (h0 : ∀ i, X0 i = (r0 i : EReal)) (h1 : ∀ i, X1 i = (r1 i : EReal)) (h2 : ∀ i, X2 i = (r2 i : EReal)) (h3 : ∀ i, X3 i = (r3 i : EReal))
  (b : Fin 16) (h : Fin 8) (R : Fin 2048)

include h0 h1 h3 in
theorem rS_real (a : Fin 2) (j : Fin 2304) : rS X0 X1 X3 (ix5 b h a R j) = (realS r0 r1 r3 b h R a j : EReal) := by
  rw [rS_at, bits_eight]
  have e : ∀ e : Fin 64, Cert.ReferenceIdeal.Attn.heads X0 (ix5 b h a R e) * (if hj : j.val < 2048 then Cert.ReferenceIdeal.Attn.heads X1 (ix5 b h a ⟨j.val, hj⟩ e)
      else Cert.ReferenceIdeal.Attn.headsC X3 (ix5 b h a ⟨j.val - 2048, by omega⟩ e)) = ((realQ r0 b h R a e * realK r1 r3 b h a j e : ℝ) : EReal) := by
    intro e
    rw [heads_at, h0, EReal.coe_mul]
    refine congrArg₂ (· * ·) rfl ?_
    unfold realK
    split
    · rw [heads_at, h1]
    · rw [headsC_at, h3]
  rw [Finset.sum_congr rfl (fun x _ => e x), coe_sum, div_real _ _ (by norm_num)]
  rfl

include h2 h3 in
theorem rV_real (d : Fin 128) (j : Fin 2304) : rV X2 X3 (ix4 b h j d) = (realV r2 r3 b h d j : EReal) := by
  rw [rV_at]
  unfold realV
  split
  · rw [h2]
  · rw [h3]

include h0 h1 h2 h3 in
/-- The reference's attended value, over the reals. -/
theorem rO_real (l : ℝ) (hl : lamVal (fun a x => X4 (ix3 0 a x)) = (l : EReal)) (d : Fin 128) :
    rO (rP (rE (rS X0 X1 X3) (rM (rS X0 X1 X3)))) (rLam X4) (rV X2 X3) (ix4 b h R d) =
      (avg (realS r0 r1 r3 b h R 0) (realV r2 r3 b h d) : EReal) - (l : EReal) * (avg (realS r0 r1 r3 b h R 1) (realV r2 r3 b h d) : EReal) := by
  rw [rO_at]
  have hl' : rLam X4 ix0 = (l : EReal) := by rw [rLam_at]; exact hl
  rw [← refAvg_real (fun j => rS X0 X1 X3 (ix5 b h 0 R j)) (fun j => rS X0 X1 X3 (ix5 b h 1 R j)) _ _ _ l
    (fun j => rS_real h0 h1 h3 b h R 0 j) (fun j => rS_real h0 h1 h3 b h R 1 j)]
  refine Finset.sum_congr rfl fun j _ => ?_
  rw [hl', rV_real h2 h3]
  simp only [rP_at, rE_at, rM_at]
  rfl

include h0 h1 h2 h3 in
/-- One element of the reference, once its attended values are the kernel's. -/
theorem rOut_row (o : Fin 128 → EReal)
    (ho : ∀ d, rO (rP (rE (rS X0 X1 X3) (rM (rS X0 X1 X3)))) (rLam X4) (rV X2 X3) (ix4 b h R d) = o d) (d : Fin 128) :
    rOut X0 X1 X2 X3 X4 X5 (ix3 b R (⟨128 * h.val + d.val, by omega⟩ : Fin 1024)) =
      rowNorm o (fun x => X5 (ix2 0 x)) d * rowGate (X2 (ix3 b R (⟨1024 + (128 * h.val + d.val), by omega⟩ : Fin 11264))) := by
  unfold rOut
  rw [rG_at, rN_at, rowGate_real _ ⟨_, h2 _⟩]
  simp only [ho]
  rfl
end

section
variable (m : (ℓ : Loc nD τ sig) → Buf (Elt Ideal) ℓ) (c : Dev nD)
  {r0 r1 : S16x2048x1024.Idx → ℝ} {r2 : S16x2048x11264.Idx → ℝ} {r3 : S16x256x13312.Idx → ℝ}
  (h0 : ∀ i, m ((c : Thread nD τ).loc main_arg0) i = (r0 i : EReal)) (h1 : ∀ i, m ((c : Thread nD τ).loc main_arg1) i = (r1 i : EReal))
  (h2 : ∀ i, m ((c : Thread nD τ).loc main_arg2) i = (r2 i : EReal)) (h3 : ∀ i, m ((c : Thread nD τ).loc main_arg3) i = (r3 i : EReal))
  (b : Fin 16) (h : Fin 8) (R : Fin 2048)

include h0 in
theorem kq_real (x : Fin 128) : kq m c b h R x = (realQ r0 b h R (lmap x) (ldim x) : EReal) * ((1 / Real.log 2 / 8 : ℝ) : EReal) := by
  have e := v14_q m c b R h ⟨x.val / 64, by omega⟩ ⟨x.val % 64 / 32, by omega⟩ ⟨x.val % 32 / 16, by omega⟩ ⟨x.val % 16, by omega⟩
  have hx : (⟨128 * h.val + x.val, by omega⟩ : Fin 2048) =
      ⟨128 * h.val + (64 * (x.val / 64) + 32 * (x.val % 64 / 32) + 16 * (x.val % 32 / 16) + x.val % 16), by omega⟩ := Fin.ext (by dsimp only; omega)
  unfold kq
  rw [hx]
  refine e.trans (congrArg₂ (· * ·) (h0 _) scale_real)

include h1 h3 in
theorem kk_real (j : Fin 2304) (x : Fin 128) : kk m c b h j x = (realK r1 r3 b h (lmap x) j (ldim x) : EReal) := by
  unfold kk rowsCat realK
  split
  · rename_i hj
    have e := v14_k m c b ⟨j.val, hj⟩ h ⟨x.val / 64, by omega⟩ ⟨x.val % 64 / 32, by omega⟩ ⟨x.val % 32 / 16, by omega⟩ ⟨x.val % 16, by omega⟩
    have hx : (⟨1024 + 128 * h.val + x.val, by omega⟩ : Fin 2048) =
        ⟨1024 + 128 * h.val + (64 * (x.val / 64) + 32 * (x.val % 64 / 32) + 16 * (x.val % 32 / 16) + x.val % 16), by omega⟩ := Fin.ext (by dsimp only; omega)
    rw [hx]
    exact e.trans (h1 _)
  · have e := v21_k m c b ⟨j.val - 2048, by omega⟩ h ⟨x.val / 64, by omega⟩ ⟨x.val % 64 / 32, by omega⟩ ⟨x.val % 32 / 16, by omega⟩ ⟨x.val % 16, by omega⟩
    have hx : (⟨1024 + 128 * h.val + x.val, by omega⟩ : Fin 13312) =
        ⟨1024 + 128 * h.val + (64 * (x.val / 64) + 32 * (x.val % 64 / 32) + 16 * (x.val % 32 / 16) + x.val % 16), by omega⟩ := Fin.ext (by dsimp only; omega)
    rw [hx]
    exact e.trans (h3 _)

include h2 h3 in
theorem kv_real (d : Fin 128) (j : Fin 2304) : kv m c b h j ⟨d.val, by omega⟩ = (realV r2 r3 b h d j : EReal) := by
  unfold kv
  rw [dif_pos d.isLt]
  unfold rowsCat realV
  split
  · rw [v22]; exact h2 _
  · have e := v21_v m c b ⟨j.val - 2048, by omega⟩ ⟨128 * h.val + d.val, by omega⟩
    have hx : (⟨2048 + 128 * h.val + d.val, by omega⟩ : Fin 13312) = ⟨2048 + (128 * h.val + d.val), by omega⟩ := Fin.ext (by dsimp only; omega)
    rw [hx]
    exact e.trans (h3 _)

theorem kv_one (j : Fin 2304) : kv m c b h j 128 = 1 := by
  unfold kv
  rw [dif_neg (by decide), if_pos (by decide)]

include h0 h1 h2 h3 in
theorem kout_eq (h4 : ∀ i, ∃ r : ℝ, m ((c : Thread nD τ).loc main_arg4) i = (r : EReal)) (d : Fin 128) :
    kout m c b h R d = rOut (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (ix3 b R (⟨128 * h.val + d.val, by omega⟩ : Fin 1024)) := by
  obtain ⟨l, hl⟩ := lam_real (fun a x => m ((c : Thread nD τ).loc main_arg4) (ix3 0 a x)) (fun a x => h4 _)
  have hc : 1 / Real.log 2 * Real.log 2 = 1 := one_div_mul_cancel (Real.log_pos one_lt_two).ne'
  have e1 : ∀ d, rowAvg (row1 (kq m c b h R) (kk m c b h)) (kv m c b h) d = (avg (realS r0 r1 r3 b h R 0) (realV r2 r3 b h d) : EReal) := fun d =>
    rowAvg_real _ _ _ _ _ hc d (row1_real _ _ (realQ r0 b h R) (realK r1 r3 b h) _ (kq_real m c h0 b h R) (kk_real m c h1 h3 b h))
      (kv_real m c h2 h3 b h d) (kv_one m c b h)
  have e2 : ∀ d, rowAvg (row2 (kq m c b h R) (kk m c b h)) (kv m c b h) d = (avg (realS r0 r1 r3 b h R 1) (realV r2 r3 b h d) : EReal) := fun d =>
    rowAvg_real _ _ _ _ _ hc d (row2_real _ _ (realQ r0 b h R) (realK r1 r3 b h) _ (kq_real m c h0 b h R) (kk_real m c h1 h3 b h))
      (kv_real m c h2 h3 b h d) (kv_one m c b h)
  rw [rOut_row _ h0 h1 h2 h3 b h R (fun d => (avg (realS r0 r1 r3 b h R 0) (realV r2 r3 b h d) : EReal) - (l : EReal) * (avg (realS r0 r1 r3 b h R 1) (realV r2 r3 b h d) : EReal))
    (fun d => rO_real h0 h1 h2 h3 b h R l hl d)]
  unfold kout finRow
  have hl2 : lamVal (fun a x => V m c main_arg4 (ix3 0 a x)) = (l : EReal) :=
    (congrArg lamVal (funext fun a => funext fun x => congrFun (V_main_arg4 m c) _)).trans hl
  have hw : (fun x : Fin 128 => V m c main_v0 (ix3 0 0 x)) = fun x => m ((c : Thread nD τ).loc main_arg5) (ix2 0 x) := funext fun x => v0 m c x
  have ez : V m c main_v22 (ix3 b R (⟨1024 + 128 * h.val + d.val, by omega⟩ : Fin 11264)) =
      m ((c : Thread nD τ).loc main_arg2) (ix3 b R (⟨1024 + 128 * h.val + d.val, by omega⟩ : Fin 11264)) := congrFun (v22 m c) _
  rw [hl2, hw, ez]
  simp only [e1, e2]
  have hx : (⟨1024 + 128 * h.val + d.val, by omega⟩ : Fin 11264) = ⟨1024 + (128 * h.val + d.val), by omega⟩ := Fin.ext (by dsimp only; omega)
  rw [hx]
end

/-- The kernel's array is the reference's. -/
theorem karr_eq (m : (ℓ : Loc nD τ sig) → Buf (Elt Ideal) ℓ) (c : Dev nD)
    (h0 : ∀ i, ∃ r : ℝ, m ((c : Thread nD τ).loc main_arg0) i = (r : EReal)) (h1 : ∀ i, ∃ r : ℝ, m ((c : Thread nD τ).loc main_arg1) i = (r : EReal))
    (h2 : ∀ i, ∃ r : ℝ, m ((c : Thread nD τ).loc main_arg2) i = (r : EReal)) (h3 : ∀ i, ∃ r : ℝ, m ((c : Thread nD τ).loc main_arg3) i = (r : EReal))
    (h4 : ∀ i, ∃ r : ℝ, m ((c : Thread nD τ).loc main_arg4) i = (r : EReal)) :
    karr m c = rOut (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  choose r0 h0 using h0
  choose r1 h1 using h1
  choose r2 h2 using h2
  choose r3 h3 using h3
  funext y
  obtain ⟨b, R, x, rfl⟩ : ∃ (b : Fin 16) (R : Fin 2048) (x : Fin 1024), y = ix3 b R x := ⟨y 0, y 1, y 2, by funext i; fin_cases i <;> rfl⟩
  rw [karr_at, kout_eq m c h0 h1 h2 h3 _ _ _ h4]
  have hx : x = ⟨128 * (x.val / 128) + x.val % 128, by omega⟩ := Fin.ext (by dsimp only; omega)
  conv_rhs => rw [hx]
end Cert.KernelIdeal.Attn

end
-- ==== Proof.Scatter.lean ====
module

public import Idealize.ShloMosaic.Lib.Routing.OpsSet
public import Idealize.ShloMosaic.Lib.Routing.OpsOne

@[expose] public section

/-! # Writing the leading columns of a stack of matrices

`x.at[:, :, :U].set(u)` is a scatter of one window that starts at column zero: the first `U` columns
of every matrix are `u`, the others those of `x`. -/

namespace Cert.Scatter

open Idealize.ShloMosaic Idealize.ShloMosaic.ValueIdx Idealize.ShloMosaic.Routing

variable {A B N U : Nat} (d : ScatterDims (shape3 A B N) (shape1 1) (shape3 A B U))

theorem lands (huw : d.updateWindowDims = [0, 1, 2]) (hiw : d.insertedWindowDims = [])
    (hsd : d.scatterDimsToOperandDims = [2]) (idx : IVec (shape1 1) 32) (h0 : ∀ i, idx i = 0#32)
    (k : (shape3 A B U).Idx) (a : Fin 3) :
    d.start k idx a + (d.window k a : Int) = ((k a).val : Int) := by
  have hs : d.start k idx a = 0 := by
    unfold ScatterDims.start
    split
    · rw [h0]; rfl
    · rfl
  have hkept : d.sKept = [0, 1, 2] := by
    show (shape3 A B N).kept d.insertedWindowDims = _
    rw [hiw]
    rfl
  have hw : d.window k a = (k a).val := by
    obtain ⟨uw, iw, sd, iv, wf⟩ := d
    subst huw hiw hsd
    unfold ScatterDims.window
    match a with
    | ⟨0, _⟩ => exact (dif_pos (by decide : (0 : Fin 3) ∈ List.finRange 3)).trans rfl
    | ⟨1, _⟩ => exact (dif_pos (by decide : (1 : Fin 3) ∈ List.finRange 3)).trans rfl
    | ⟨2, _⟩ => exact (dif_pos (by decide : (2 : Fin 3) ∈ List.finRange 3)).trans rfl
  rw [hs, hw, Int.zero_add]

/-- A column behind the window keeps the operand's entry. -/
theorem kept {α : Type} (huw : d.updateWindowDims = [0, 1, 2]) (hiw : d.insertedWindowDims = [])
    (hsd : d.scatterDimsToOperandDims = [2]) (x0 : (shape3 A B N).Idx → α) (idx : IVec (shape1 1) 32)
    (h0 : ∀ i, idx i = 0#32) (upd : (shape3 A B U).Idx → α) (a : Fin A) (b : Fin B) (n : Fin N) (hn : U ≤ n.val) :
    Host.scatter d (fun _ b => b) x0 idx upd (ix3 a b n) = x0 (ix3 a b n) :=
  scatter_set_miss d x0 idx upd _ fun k hk => by
    have h := (resultIdx?_eq_some d k idx _).1 hk 2
    rw [lands d huw hiw hsd idx h0 k 2] at h
    have h2 : (k 2).val = n.val := Int.ofNat.inj h
    have := (k 2).isLt
    have : (k 2).val < U := this
    omega

/-- A column of the window holds the update. -/
theorem written {α : Type} (huw : d.updateWindowDims = [0, 1, 2]) (hiw : d.insertedWindowDims = [])
    (hsd : d.scatterDimsToOperandDims = [2]) (x0 : (shape3 A B N).Idx → α) (idx : IVec (shape1 1) 32)
    (h0 : ∀ i, idx i = 0#32) (upd : (shape3 A B U).Idx → α) (a : Fin A) (b : Fin B) (n : Fin N) (u : Fin U) (hn : n.val = u.val) :
    Host.scatter d (fun _ b => b) x0 idx upd (ix3 a b n) = upd (ix3 a b u) := by
  have at_ (k : (shape3 A B U).Idx) : d.resultIdx? k idx = some (ix3 a b n) ↔ k = ix3 a b u := by
    rw [resultIdx?_eq_some]
    simp only [lands d huw hiw hsd idx h0 k]
    constructor
    · intro h
      funext i
      match i with
      | ⟨0, _⟩ => exact Fin.ext (Int.ofNat.inj (h 0))
      | ⟨1, _⟩ => exact Fin.ext (Int.ofNat.inj (h 1))
      | ⟨2, _⟩ => exact Fin.ext ((Int.ofNat.inj (h 2)).trans hn)
    · rintro rfl i
      match i with
      | ⟨0, _⟩ => rfl
      | ⟨1, _⟩ => rfl
      | ⟨2, _⟩ => exact congrArg Int.ofNat hn.symm
  exact scatter_set_hit d x0 idx upd _ _ (fun k hk => congrArg upd ((at_ k).1 hk)) _ ((at_ _).2 rfl)

end Cert.Scatter
-- ==== Proof.Rest.lean ====
module

public import proofs.«01_k».proof.Proof.Scatter
public import proofs.«01_k».proof.Proof.Gen.Kernel2Ideal.Value
public import proofs.«01_k».proof.Proof.Gen.Reference2Ideal.Run
public import Idealize.ShloMosaic.Lib.Pipeline.ValueKit

@[expose] public section

set_option maxRecDepth 16384

/-! # The columns of the projection behind the queries and keys

Every block of the call is one product of a batch's rows with a kilocolumn of the layer's weights. -/

noncomputable section

open Idealize.ShloMosaic Idealize.ShloMosaic.TcCoe Idealize.SL.Sem
open Idealize.ShloMosaic.Pipeline (Dat)

namespace Cert.Kernel2Ideal.Rest

open Cert.Kernel2Ideal Cert.Kernel2Ideal.Gen Cert.Kernel2Ideal.Facts₀ Cert.Kernel2Ideal.Facts

/-- An entry of the product. -/
def prod (h : FVec Ideal S16x2048x1024 .f32) (w : FVec Ideal S4x1024x13312 .f32) (b : Fin 16) (R : Fin 2048) (x : Fin 11264) : EReal :=
  ∑ k : Fin 1024, (show EReal from h (ix3 b R k)) * (show EReal from w (ix3 1 k (⟨2048 + x.val, by omega⟩ : Fin 13312)))

theorem ref_at (h : FVec Ideal S16x2048x1024 .f32) (w : FVec Ideal S4x1024x13312 .f32) (b : Fin 16) (R : Fin 2048) (x : Fin 11264) :
    (truncf .bf16 (extractStridedSlice Cert.Reference2Ideal.S16x2048x11264 ![0, 0, 2048] (Host.dotGeneral (F := Ideal) Cert.Reference2Ideal.dot_S16x2048x1024_S1024x13312_S16x2048x13312_2_0_01_1_n_n none h (shapeCast _ (extractStridedSlice Cert.Reference2Ideal.S1x1024x13312 ![1, 0, 0] w Cert.Reference2Ideal.Facts₀.slices_S4x1024x13312_S1x1024x13312_1_0_0) Cert.Reference2Ideal.Facts₀.shapeCasts_S1x1024x13312_S1024x13312)) Cert.Reference2Ideal.Facts₀.slices_S16x2048x13312_S16x2048x11264_0_0_2048) Cert.Reference2Ideal.Facts₀.bitsLt_bf16_f32 : FVec Ideal S16x2048x11264 .bf16) (ix3 b R x) = prod h w b R x := by
  pointwise [prod]

variable (m : (ℓ : Loc nD τ sig) → Buf (Elt Ideal) ℓ)

theorem idx : ∀ t : Fin cfg0.N, win0_0.index t = ![t.val / 11, 0, 0] ∧ win0_1.index t = ![1, 0, t.val % 11 + 2] ∧
    win0_2.index t = ![t.val / 11, 0, t.val % 11] :=
  (by decide +kernel : ∀ t : Fin grid0.N, _)

theorem tlt (t : Fin cfg0.N) : t.val < 176 := t.isLt

theorem b0 (c : Dev nD) (t : Fin cfg0.N) (R : Fin 2048) (k : Fin 1024) :
    iblk m c 0 t (ix3 0 R k) = V m c main_v7 (ix3 (⟨t.val / 11, by have := tlt t; omega⟩ : Fin 16) R k) := by
  blk_ext [iblk, idx t]

theorem read1 (W : Vec Ideal S4x1024x13312 .bf16) (t : Fin cfg0.N) (k x : Fin 1024) :
    (win0_1.blk t).view.read (Elt Ideal) W (ix3 0 k x) = W (ix3 1 k (⟨2048 + (1024 * (t.val % 11) + x.val), by omega⟩ : Fin 13312)) := by
  blk_ext [idx t]

theorem b1 (c : Dev nD) (t : Fin cfg0.N) (k x : Fin 1024) :
    iblk m c 1 t (ix3 0 k x) = V m c main_v6 (ix3 1 k (⟨2048 + (1024 * (t.val % 11) + x.val), by omega⟩ : Fin 13312)) :=
  read1 (V m c main_v6) t k x

theorem hidden (c : Dev nD) (b : Fin 16) (R : Fin 2048) (k : Fin 1024) :
    V m c main_v7 (ix3 b R k) = m ((c : Thread nD τ).loc main_arg0) (ix3 b R k) := by
  unfold V
  after_results
  rfl

theorem weights (c : Dev nD) (k : Fin 1024) (x : Fin 11264) :
    V m c main_v6 (ix3 1 k (⟨2048 + x.val, by omega⟩ : Fin 13312)) = m ((c : Thread nD τ).loc main_arg1) (ix3 1 k (⟨2048 + x.val, by omega⟩ : Fin 13312)) := by
  unfold V
  after_results
  exact Cert.Scatter.kept scatter_S4x1024x13312_S1_S4x1024x2048_012_n_2_0 rfl rfl rfl _ _ (fun _ => rfl) _ _ _ _ (Nat.le_add_right _ _)

theorem block (x0 : Vec Ideal S1x2048x1024 .bf16) (x1 : Vec Ideal S1x1024x1024 .bf16) (R : Fin 2048) (x : Fin 1024) :
    out0_2 (F := Ideal) x0 x1 (ix3 0 R x) = ∑ k : Fin 1024, (show EReal from x0 (ix3 0 R k)) * (show EReal from x1 (ix3 0 k x)) := by
  frame_out
  pointwise [k0_pay1]

/-- The array the call leaves. -/
def arr (c : Dev nD) : Vec Ideal S16x2048x11264 .bf16 := fun i =>
  prod (m ((c : Thread nD τ).loc main_arg0)) (m ((c : Thread nD τ).loc main_arg1)) (i 0) (i 1) (i 2)

theorem result_eq (c : Dev nD) : (dats m 0 c).arrAt 2 cfg0.N = arr m c := by
  refine (dats m 0 c).arrAt_eq_of_covers 2 (arr m c) (by decide +kernel) ?_
  intro t hf y
  blk_simp
  rw [after0_2]
  obtain ⟨R, x, rfl⟩ : ∃ (R : Fin 2048) (x : Fin 1024), y = ix3 0 R x := by
    idx_vars y
    obtain rfl : y0 = 0 := Subsingleton.elim _ _
    exact ⟨y1, y2, rfl⟩
  have ht := tlt t
  rw [block]
  have e : (win0_2.blk t).view.emb (ix3 0 R x) =
      ix3 (⟨t.val / 11, by omega⟩ : Fin 16) R (⟨1024 * (t.val % 11) + x.val, by omega⟩ : Fin 11264) := by
    blk_ext [idx t]
  refine Eq.trans ?_ (congrArg (arr m c) e).symm
  show _ = prod _ _ (⟨t.val / 11, by omega⟩ : Fin 16) R (⟨1024 * (t.val % 11) + x.val, by omega⟩ : Fin 11264)
  unfold prod
  refine Finset.sum_congr rfl fun k _ => congrArg₂ (fun p q : EReal => p * q) ?_ ?_
  · exact (b0 m c t R k).trans (hidden m c _ R k)
  · exact (b1 m c t k x).trans (weights m c k ⟨1024 * (t.val % 11) + x.val, by omega⟩)

end Cert.Kernel2Ideal.Rest

end
-- ==== Proof.PreGate.lean ====
module

public import proofs.«01_k».proof.Proof.Pre

@[expose] public section

set_option maxRecDepth 16384

noncomputable section

open Idealize.ShloMosaic

namespace Cert.Pre_finite_gate.Read

open Cert.Pre_finite_gate

/-- The precondition's side conditions. -/
instance facts : Cert.Pre_finite_gate.Facts where
  slices_S16x2048x11264_S16x2048x1024_0_0_5120 := by decide
  bcast_S_S16x2048x1024 := by decide
  reducesTo_S16x2048x1024_S_d0_1_2 := by decide
  h_S_ := by decide

instance : Subsingleton S_.Idx := ⟨fun a b => funext fun i => i.elim0⟩

/-- Under the precondition the convolution's gate reads real numbers. -/
theorem reals (X0 : FVec Ideal S16x2048x1024 .f32) (X1 : FVec Ideal S16x2048x11264 .f32) (X2 X3 : FVec Ideal S16x2048x1024 .f32) (X4 : FVec Ideal S24x3072 .f32)
    (X5 : FVec Ideal S4x3x1024 .f32) (X6 X7 X8 X9 : FVec Ideal S4x1024x1024 .f32) (X10 : FVec Ideal S1024 .f32)
    (h : Cert.Pre_finite_gate.fn (F := Ideal) X0 X1 X2 X3 X4 X5 X6 X7 X8 X9 X10 = fun _ => 1#1) (b : Fin 16) (R : Fin 2048) (k : Fin 1024) :
    ∃ r : ℝ, X1 (ix3 b R (⟨5120 + k.val, by omega⟩ : Fin 11264)) = r := by
  obtain ⟨r, hr⟩ := Cert.Pre_finite.Read.real_of _ (Host.reduce_andi_all _ _ _ _ _ (congrFun h ix0) (ix3 b R k))
  refine ⟨r, Eq.trans ?_ hr⟩
  pointwise

end Cert.Pre_finite_gate.Read

end
-- ==== Proof.Branch.lean ====
module

public import proofs.«01_k».proof.Proof.Gen.Reference3Ideal.Run
public import Idealize.ShloMosaic.Lib.Pipeline.ValueKit

@[expose] public section

set_option maxRecDepth 16384

/-! # The merge of the branches, entry by entry

The values of one row of the last layer's output: the convolution over the row and its two neighbours, the three
gated branches, the output projection, the residual, the final norm. -/

noncomputable section

open Idealize.ShloMosaic Idealize.ShloMosaic.TcCoe Idealize.SL.Sem Idealize.ShloMosaic.StableHlo

namespace Cert.Merge

open Cert.Reference3Ideal Cert.Reference3Ideal.Gen

variable (x : FVec Ideal S16x2048x1024 .f32) (p : FVec Ideal S16x2048x11264 .f32) (ya yf : FVec Ideal S16x2048x1024 .f32)
  (md : FVec Ideal S24x3072 .f32) (cw : FVec Ideal S4x3x1024 .f32) (wa wc wf wo : FVec Ideal S4x1024x1024 .f32) (fw : FVec Ideal S1024 .f32)

/-- An entry of the projection, read as a number. -/
def col (n : ℕ) (hn : n + 1024 ≤ 11264) (b : Fin 16) (R : Fin 2048) (k : Fin 1024) : EReal :=
  p (ix3 b R (⟨n + k.val, by omega⟩ : Fin 11264))

/-- The logistic function. -/
def sg (z : EReal) : EReal := Ideal.div 1 (1 + Ideal.exp (-z))

/-- The operand of the convolution. -/
def uv (b : Fin 16) (R : Fin 2048) (k : Fin 1024) : EReal :=
  col p 4096 (by omega) b R k * col p 2048 (by omega) b R k

/-- The operand one row before, zero before the first row. -/
def before (b : Fin 16) (R : Fin 2048) (k : Fin 1024) : EReal :=
  if R.val = 0 then 0 else uv p b ⟨R.val - 1, by omega⟩ k

/-- The operand one row behind, zero behind the last row. -/
def behind (b : Fin 16) (R : Fin 2048) (k : Fin 1024) : EReal :=
  if h : R.val + 1 < 2048 then uv p b ⟨R.val + 1, h⟩ k else 0

/-- The convolution branch's row. -/
def yc (b : Fin 16) (R : Fin 2048) (k : Fin 1024) : EReal :=
  (col p 3072 (by omega) b R k * (((show EReal from cw (ix3 3 0 k)) * before p b R k + (show EReal from cw (ix3 3 1 k)) * uv p b R k)
    + (show EReal from cw (ix3 3 2 k)) * behind p b R k)) * (col p 5120 (by omega) b R k * sg (col p 5120 (by omega) b R k))

/-- A row times the last layer's matrix. -/
def through (v : Fin 1024 → EReal) (w : FVec Ideal S4x1024x1024 .f32) (k : Fin 1024) : EReal :=
  ∑ j : Fin 1024, v j * (show EReal from w (ix3 3 j k))

/-- The merged row. -/
def mg (b : Fin 16) (R : Fin 2048) (k : Fin 1024) : EReal :=
  (sg (col p 8192 (by omega) b R k) * through (fun j => ya (ix3 b R j)) wa k
    + sg (col p 9216 (by omega) b R k) * through (yc p cw b R) wc k)
    + sg (col p 10240 (by omega) b R k) * through (fun j => yf (ix3 b R j)) wf k

/-- The residual's row. -/
def xo (b : Fin 16) (R : Fin 2048) (k : Fin 1024) : EReal :=
  (show EReal from x (ix3 b R k)) + (show EReal from md (ix2 (⟨b.val, by omega⟩ : Fin 24) (⟨2048 + k.val, by omega⟩ : Fin 3072))) * through (mg p ya yf cw wa wc wf b R) wo k

/-- A row over its root mean square, times a weight. -/
def normed (v : Fin 1024 → EReal) (k : Fin 1024) (w : EReal) : EReal :=
  v k * Ideal.rsqrt (Ideal.div (∑ j : Fin 1024, v j * v j) (Ideal.ofBits .f32 0x44800000#32) + Ideal.ofBits .f32 0x358637BD#32) * w

/-! ## The reference's stages -/

/-- The three branches' logistic gates. -/
def gates (p : FVec Ideal S16x2048x11264 .f32) : FVec Ideal S16x2048x3072 .f32 :=
  Host.divf (broadcastInDim S16x2048x3072 ![] bcast_S_S16x2048x3072 (constant S_ .f32 0x3F800000#32)) (addf (broadcastInDim S16x2048x3072 ![] bcast_S_S16x2048x3072 (constant S_ .f32 0x3F800000#32)) (Host.exp (Host.negf (extractStridedSlice S16x2048x3072 ![0, 0, 8192] p slices_S16x2048x11264_S16x2048x3072_0_0_8192))))

/-- The convolution's operand with a row of zeros before and behind. -/
def padded (p : FVec Ideal S16x2048x11264 .f32) : FVec Ideal S16x2050x1024 .f32 :=
  pad S16x2050x1024 ![0, 1, 0] ![0, 1, 0] ![0, 0, 0] (mulf (extractStridedSlice S16x2048x1024 ![0, 0, 4096] p slices_S16x2048x11264_S16x2048x1024_0_0_4096) (extractStridedSlice S16x2048x1024 ![0, 0, 2048] p slices_S16x2048x11264_S16x2048x1024_0_0_2048)) (sitofp .f32 (constantI S_ 32 0#32)) pads_S16x2048x1024_S16x2050x1024_000_110_000 h_S_

/-- The convolution branch's gate. -/
def swish (p : FVec Ideal S16x2048x11264 .f32) : FVec Ideal S16x2048x1024 .f32 :=
  mulf (extractStridedSlice S16x2048x1024 ![0, 0, 5120] p slices_S16x2048x11264_S16x2048x1024_0_0_5120) (Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf (extractStridedSlice S16x2048x1024 ![0, 0, 5120] p slices_S16x2048x11264_S16x2048x1024_0_0_5120)))))

/-- The convolution branch. -/
def conv (p : FVec Ideal S16x2048x11264 .f32) (cw : FVec Ideal S4x3x1024 .f32) : FVec Ideal S16x2048x1024 .f32 :=
  mulf (mulf (extractStridedSlice S16x2048x1024 ![0, 0, 3072] p slices_S16x2048x11264_S16x2048x1024_0_0_3072) (addf (addf (mulf (broadcastInDim S16x2048x1024 ![0, 1, 2] bcast_S1x1x1024_S16x2048x1024_0_1_2 (broadcastInDim S1x1x1024 ![2] bcast_S1024_S1x1x1024_2 (shapeCast S1024 (extractStridedSlice S1x1024 ![0, 0] (shapeCast S3x1024 (extractStridedSlice S1x3x1024 ![3, 0, 0] cw slices_S4x3x1024_S1x3x1024_3_0_0) shapeCasts_S1x3x1024_S3x1024) slices_S3x1024_S1x1024_0_0) shapeCasts_S1x1024_S1024))) (extractStridedSlice S16x2048x1024 ![0, 0, 0] (padded p) slices_S16x2050x1024_S16x2048x1024_0_0_0)) (mulf (broadcastInDim S16x2048x1024 ![0, 1, 2] bcast_S1x1x1024_S16x2048x1024_0_1_2 (broadcastInDim S1x1x1024 ![2] bcast_S1024_S1x1x1024_2 (shapeCast S1024 (extractStridedSlice S1x1024 ![1, 0] (shapeCast S3x1024 (extractStridedSlice S1x3x1024 ![3, 0, 0] cw slices_S4x3x1024_S1x3x1024_3_0_0) shapeCasts_S1x3x1024_S3x1024) slices_S3x1024_S1x1024_1_0) shapeCasts_S1x1024_S1024))) (extractStridedSlice S16x2048x1024 ![0, 1, 0] (padded p) slices_S16x2050x1024_S16x2048x1024_0_1_0))) (mulf (broadcastInDim S16x2048x1024 ![0, 1, 2] bcast_S1x1x1024_S16x2048x1024_0_1_2 (broadcastInDim S1x1x1024 ![2] bcast_S1024_S1x1x1024_2 (shapeCast S1024 (extractStridedSlice S1x1024 ![2, 0] (shapeCast S3x1024 (extractStridedSlice S1x3x1024 ![3, 0, 0] cw slices_S4x3x1024_S1x3x1024_3_0_0) shapeCasts_S1x3x1024_S3x1024) slices_S3x1024_S1x1024_2_0) shapeCasts_S1x1024_S1024))) (extractStridedSlice S16x2048x1024 ![0, 2, 0] (padded p) slices_S16x2050x1024_S16x2048x1024_0_2_0)))) (swish p)

/-- The three gated branches added up. -/
def merged (p : FVec Ideal S16x2048x11264 .f32) (ya : FVec Ideal S16x2048x1024 .f32) (yf : FVec Ideal S16x2048x1024 .f32) (cw : FVec Ideal S4x3x1024 .f32) (wa : FVec Ideal S4x1024x1024 .f32) (wc : FVec Ideal S4x1024x1024 .f32) (wf : FVec Ideal S4x1024x1024 .f32) : FVec Ideal S16x2048x1024 .f32 :=
  addf (addf (mulf (extractStridedSlice S16x2048x1024 ![0, 0, 0] (gates p) slices_S16x2048x3072_S16x2048x1024_0_0_0) (Host.dotGeneral dot_S16x2048x1024_S1024x1024_S16x2048x1024_2_0_01_1_n_n none (φ₁ := .f32) (φ₂ := .f32) ya (shapeCast S1024x1024 (extractStridedSlice S1x1024x1024 ![3, 0, 0] wa slices_S4x1024x1024_S1x1024x1024_3_0_0) shapeCasts_S1x1024x1024_S1024x1024))) (mulf (extractStridedSlice S16x2048x1024 ![0, 0, 1024] (gates p) slices_S16x2048x3072_S16x2048x1024_0_0_1024) (Host.dotGeneral dot_S16x2048x1024_S1024x1024_S16x2048x1024_2_0_01_1_n_n none (conv p cw) (shapeCast S1024x1024 (extractStridedSlice S1x1024x1024 ![3, 0, 0] wc slices_S4x1024x1024_S1x1024x1024_3_0_0) shapeCasts_S1x1024x1024_S1024x1024)))) (mulf (extractStridedSlice S16x2048x1024 ![0, 0, 2048] (gates p) slices_S16x2048x3072_S16x2048x1024_0_0_2048) (Host.dotGeneral dot_S16x2048x1024_S1024x1024_S16x2048x1024_2_0_01_1_n_n none (φ₁ := .f32) (φ₂ := .f32) yf (shapeCast S1024x1024 (extractStridedSlice S1x1024x1024 ![3, 0, 0] wf slices_S4x1024x1024_S1x1024x1024_3_0_0) shapeCasts_S1x1024x1024_S1024x1024)))

/-- The residual after the layer. -/
def stepped (x : FVec Ideal S16x2048x1024 .f32) (p : FVec Ideal S16x2048x11264 .f32) (ya : FVec Ideal S16x2048x1024 .f32) (yf : FVec Ideal S16x2048x1024 .f32) (md : FVec Ideal S24x3072 .f32) (cw : FVec Ideal S4x3x1024 .f32) (wa : FVec Ideal S4x1024x1024 .f32) (wc : FVec Ideal S4x1024x1024 .f32) (wf : FVec Ideal S4x1024x1024 .f32) (wo : FVec Ideal S4x1024x1024 .f32) : FVec Ideal S16x2048x1024 .f32 :=
  addf x (mulf (broadcastInDim S16x2048x1024 ![0, 1, 2] bcast_S16x1x1024_S16x2048x1024_0_1_2 (broadcastInDim S16x1x1024 ![0, 2] bcast_S16x1024_S16x1x1024_0_2 (extractStridedSlice S16x1024 ![0, 2048] md slices_S24x3072_S16x1024_0_2048))) (Host.dotGeneral dot_S16x2048x1024_S1024x1024_S16x2048x1024_2_0_01_1_n_n none (merged p ya yf cw wa wc wf) (shapeCast S1024x1024 (extractStridedSlice S1x1024x1024 ![3, 0, 0] wo slices_S4x1024x1024_S1x1024x1024_3_0_0) shapeCasts_S1x1024x1024_S1024x1024)))

/-- The final norm. -/
def final (x : FVec Ideal S16x2048x1024 .f32) (p : FVec Ideal S16x2048x11264 .f32) (ya : FVec Ideal S16x2048x1024 .f32) (yf : FVec Ideal S16x2048x1024 .f32) (md : FVec Ideal S24x3072 .f32) (cw : FVec Ideal S4x3x1024 .f32) (wa : FVec Ideal S4x1024x1024 .f32) (wc : FVec Ideal S4x1024x1024 .f32) (wf : FVec Ideal S4x1024x1024 .f32) (wo : FVec Ideal S4x1024x1024 .f32) (fw : FVec Ideal S1024 .f32) : FVec Ideal S16x2048x1024 .f32 :=
  mulf (mulf (stepped x p ya yf md cw wa wc wf wo) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (stepped x p ya yf md cw wa wc wf wo) (stepped x p ya yf md cw wa wc wf wo)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 fw))

theorem gates_at (n : ℕ) (hn : n + 1024 ≤ 3072) (b : Fin 16) (R : Fin 2048) (k : Fin 1024) :
    gates p (ix3 b R (⟨n + k.val, by omega⟩ : Fin 3072)) = sg (col p (8192 + n) (by omega) b R k) := by
  pointwise [gates, sg, col]
  refine congrArg (fun z : EReal => Ideal.div 1 (1 + Ideal.exp (-z))) ?_
  blk_ext []

theorem swish_at (b : Fin 16) (R : Fin 2048) (k : Fin 1024) :
    swish p (ix3 b R k) = col p 5120 (by omega) b R k * sg (col p 5120 (by omega) b R k) := by
  pointwise [swish, sg, col]

theorem padded_at (b : Fin 16) (R : Fin 2050) (k : Fin 1024) :
    padded p (ix3 b R k) = if h : 1 ≤ R.val ∧ R.val - 1 < 2048 then uv p b ⟨R.val - 1, h.2⟩ k else 0 := by
  pointwise [padded, uv, col]
  refine dite_congr rfl (fun _ => rfl) fun _ => ?_
  show ((((0#32 : BitVec 32).toInt : ℤ) : ℝ) : EReal) = 0
  simp

theorem padded_before (b : Fin 16) (R : Fin 2048) (k : Fin 1024) :
    padded p (ix3 b (⟨R.val, by omega⟩ : Fin 2050) k) = before p b R k := by
  rw [padded_at, before]
  by_cases h : R.val = 0
  · rw [dif_neg (by show ¬ (1 ≤ R.val ∧ _); omega), if_pos h]
  · rw [dif_pos (by show 1 ≤ R.val ∧ R.val - 1 < 2048; omega), if_neg h]

theorem padded_here (b : Fin 16) (R : Fin 2048) (k : Fin 1024) :
    padded p (ix3 b (⟨1 + R.val, by omega⟩ : Fin 2050) k) = uv p b R k := by
  rw [padded_at, dif_pos (by show 1 ≤ 1 + R.val ∧ 1 + R.val - 1 < 2048; omega)]
  exact congrArg (fun r => uv p b r k) (Fin.ext (Nat.add_sub_cancel_left 1 R.val))

theorem padded_behind (b : Fin 16) (R : Fin 2048) (k : Fin 1024) :
    padded p (ix3 b (⟨2 + R.val, by omega⟩ : Fin 2050) k) = behind p b R k := by
  rw [padded_at, behind]
  by_cases h : R.val + 1 < 2048
  · rw [dif_pos (by show 1 ≤ 2 + R.val ∧ 2 + R.val - 1 < 2048; omega), dif_pos h]
    exact congrArg (fun r => uv p b r k) (Fin.ext (by show 2 + R.val - 1 = R.val + 1; omega))
  · rw [dif_neg (by show ¬ (1 ≤ 2 + R.val ∧ 2 + R.val - 1 < 2048); omega), dif_neg h]

theorem conv_at (b : Fin 16) (R : Fin 2048) (k : Fin 1024) : conv p cw (ix3 b R k) = yc p cw b R k := by
  pointwise [conv]
  rw [padded_before, padded_here, padded_behind, swish_at]
  rfl

theorem merged_at (b : Fin 16) (R : Fin 2048) (k : Fin 1024) :
    merged p ya yf cw wa wc wf (ix3 b R k) = mg p ya yf cw wa wc wf b R k := by
  pointwise [merged]
  have h0 := gates_at p 0 (by omega) b R k
  have e0 : (⟨0 + k.val, by omega⟩ : Fin 3072) = ⟨k.val, by omega⟩ := Fin.ext (Nat.zero_add _)
  rw [e0] at h0
  rw [h0, gates_at p 1024 (by omega), gates_at p 2048 (by omega)]
  simp only [conv_at]
  rfl

theorem stepped_at (b : Fin 16) (R : Fin 2048) (k : Fin 1024) :
    stepped x p ya yf md cw wa wc wf wo (ix3 b R k) = xo x p ya yf md cw wa wc wf wo b R k := by
  pointwise [stepped]
  simp only [merged_at]
  rfl

theorem final_at (b : Fin 16) (R : Fin 2048) (k : Fin 1024) :
    final x p ya yf md cw wa wc wf wo fw (ix3 b R k) = normed (xo x p ya yf md cw wa wc wf wo b R) k (fw (ix1 k)) := by
  pointwise [final]
  simp only [stepped_at]
  rfl

theorem res_eq (m : (ℓ : Loc nD τ sig) → Buf (Elt Ideal) ℓ) (c : Dev nD) :
    Cert.Reference3Ideal.Value.res_main_v75 m c = final (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) := rfl

end Cert.Merge

end
-- ==== Proof.Merge.lean ====
module

public import proofs.«01_k».proof.Proof.Branch
public import proofs.«01_k».proof.Proof.Average
public import proofs.«01_k».proof.Proof.Gen.Kernel3Ideal.Value
public import Idealize.ShloMosaic.Lib.Pipeline.ValueKit

@[expose] public section

set_option maxRecDepth 16384

/-! # The merge's block

What one grid point of the merge computes of its blocks, entry by entry. -/

noncomputable section

open Idealize.ShloMosaic Idealize.ShloMosaic.TcCoe Idealize.SL.Sem
open Idealize.ShloMosaic.Pipeline (Dat)

namespace Cert.Kernel3Ideal.Merge

open Cert.Kernel3Ideal Cert.Kernel3Ideal.Gen
open Cert.Merge

theorem bits_half : Ideal.ofBits .f32 0x3F000000#32 = ((1 / 2 : ℝ) : EReal) := by
  simp [Ideal.ofBits, Ideal.ieee]
  rw [← EReal.coe_mul]; norm_num

/-- The logistic function by the hyperbolic tangent of half the argument. -/
theorem half (z : EReal) : Ideal.ofBits .f32 0x3F000000#32 * Ideal.tanh (Ideal.ofBits .f32 0x3F000000#32 * z) + Ideal.ofBits .f32 0x3F000000#32 = sg z := by
  rw [bits_half, sg]
  have hp : (0 : EReal) < ((1 / 2 : ℝ) : EReal) := by exact_mod_cast (by norm_num : (0 : ℝ) < 1 / 2)
  induction z using EReal.rec with
  | bot =>
    rw [EReal.coe_mul_bot_of_pos (by norm_num)]
    show ((1 / 2 : ℝ) : EReal) * (-1) + _ = Ideal.div 1 (1 + Ideal.exp (-⊥))
    rw [EReal.neg_bot]
    show _ = Ideal.div 1 (1 + ⊤)
    rw [show (1 : EReal) + ⊤ = ⊤ from EReal.add_top_of_ne_bot (by decide)]
    rw [Ideal.div, if_neg (by decide), EReal.inv_top, mul_zero]
    rw [← EReal.coe_one, ← EReal.coe_neg, ← EReal.coe_mul, ← EReal.coe_add]
    norm_num
  | coe z =>
    rw [← EReal.coe_mul, ← EReal.coe_neg, Cert.Avg.exp_real, ← EReal.coe_one, ← EReal.coe_add, Cert.Avg.div_real _ _ (by positivity)]
    show ((1 / 2 : ℝ) : EReal) * ((Real.tanh (1 / 2 * z) : ℝ) : EReal) + _ = _
    rw [← EReal.coe_mul, ← EReal.coe_add]
    congr 1
    rw [Real.tanh_eq_sinh_div_cosh, Real.sinh_eq, Real.cosh_eq]
    have e : Real.exp (1 / 2 * z) * Real.exp (-(1 / 2 * z)) = 1 := by rw [← Real.exp_add]; simp
    have e2 : Real.exp (-z) = Real.exp (-(1 / 2 * z)) ^ 2 := by rw [← Real.exp_nat_mul]; congr 1; push_cast; ring
    have p1 := Real.exp_pos (1 / 2 * z)
    have p2 := Real.exp_pos (-(1 / 2 * z))
    rw [e2]
    set a := Real.exp (1 / 2 * z)
    set b := Real.exp (-(1 / 2 * z))
    field_simp
    linear_combination (2 * b) * e
  | top =>
    rw [EReal.coe_mul_top_of_pos (by norm_num)]
    show ((1 / 2 : ℝ) : EReal) * 1 + _ = Ideal.div 1 (1 + Ideal.exp (-⊤))
    rw [EReal.neg_top]
    show _ = Ideal.div 1 (1 + 0)
    rw [add_zero, ← EReal.coe_one, Cert.Avg.div_real _ _ (by norm_num), ← EReal.coe_mul, ← EReal.coe_add]
    norm_num

variable (x0 x2 x3 x4 x5 x6 x7 x8 : Vec Ideal S1x512x1024 .bf16) (x1 : Vec Ideal S1x1x1x512x1024 .bf16)
  (x16 x17 x18 x19 : Vec Ideal S1x1024x1024 .bf16)

/-- An entry of a block of rows, read as a number. -/
def at_ (x : Vec Ideal S1x512x1024 .bf16) (r : Fin 512) (k : Fin 1024) : EReal := x (ix3 0 r k)

/-- A row times a block's matrix. -/
def thru (v : Fin 1024 → EReal) (w : Vec Ideal S1x1024x1024 .bf16) (k : Fin 1024) : EReal :=
  ∑ j : Fin 1024, v j * (show EReal from w (ix3 0 j k))

theorem two_at (r : Fin 512) (k : Fin 1024) :
    k0_pay7 (F := Ideal) (k0_pay3 x0 x16 x6) (k0_pay4 x1 x18) (k0_pay5 x8) k0_pay6 (ix2 r k) =
      sg (at_ x6 r k) * thru (at_ x0 r) x16 k + sg (at_ x8 r k) * thru (fun j => x1 (ix5 0 0 0 r j)) x18 k := by
  rw [← half, ← half]
  pointwise [k0_pay7, k0_pay2, k0_pay3, k0_pay4, k0_pay5, k0_pay6, at_, thru]

/-- A choice between two values by the equality of two words. -/
theorem sel (n c : ℕ) (hn : n < 2 ^ 32) (hc : c < 2 ^ 32) (a b : EReal) :
    Scalar.select (IntOp.cmpi .eq (BitVec.ofNat 32 n) (BitVec.ofNat 32 c)) a b = if n = c then a else b := by
  rw [WordCmp.cmpi_eq_eq_toNat, BitVec.toNat_ofNat, BitVec.toNat_ofNat, Nat.mod_eq_of_lt hn, Nat.mod_eq_of_lt hc]
  by_cases h : n = c <;> simp [h, Scalar.select]

/-- A row of a batch, by its block and the row in it. -/
def row (q : Fin 4) (r : Fin 512) : Fin 2048 := ⟨512 * q.val + r.val, by omega⟩

variable (p : FVec Ideal S16x2048x11264 .f32) (cw : FVec Ideal S4x3x1024 .f32) (b : Fin 16) (q : Fin 4)

theorem before_at (a0 a1 : EReal) (r : Fin 512) (k : Fin 1024)
    (h4 : ∀ r, at_ x4 r k = col p 4096 (by omega) b (row q r) k) (h2 : ∀ r, at_ x2 r k = col p 2048 (by omega) b (row q r) k)
    (h0 : ∀ h : 0 < q.val, a0 * a1 = uv p b ⟨512 * q.val - 1, by omega⟩ k) :
    (if r.val = 0 then (if q.val = 0 then 0 else a0 * a1) else
      at_ x4 ⟨(r.val + 512 - 1) % 512, by omega⟩ k * at_ x2 ⟨(r.val + 512 - 1) % 512, by omega⟩ k) = before p b (row q r) k := by
  unfold before
  by_cases hr : r.val = 0
  · rw [if_pos hr]
    by_cases hq : q.val = 0
    · rw [if_pos hq, if_pos (by show 512 * q.val + r.val = 0; omega)]
    · rw [if_neg hq, if_neg (by show ¬ 512 * q.val + r.val = 0; omega), h0 (by omega)]
      exact congrArg (fun R => uv p b R k) (Fin.ext (by show 512 * q.val - 1 = 512 * q.val + r.val - 1; omega))
  · rw [if_neg hr, if_neg (by show ¬ 512 * q.val + r.val = 0; omega), h4, h2]
    exact congrArg (fun R => uv p b R k) (Fin.ext (by show 512 * q.val + (r.val + 512 - 1) % 512 = 512 * q.val + r.val - 1; omega))

theorem behind_at (a0 a1 : EReal) (r : Fin 512) (k : Fin 1024)
    (h4 : ∀ r, at_ x4 r k = col p 4096 (by omega) b (row q r) k) (h2 : ∀ r, at_ x2 r k = col p 2048 (by omega) b (row q r) k)
    (h0 : ∀ h : q.val < 3, a0 * a1 = uv p b ⟨512 * (q.val + 1), by omega⟩ k) :
    (if r.val = 511 then (if q.val = 3 then 0 else a0 * a1) else
      at_ x4 ⟨(r.val + 512 - 511) % 512, by omega⟩ k * at_ x2 ⟨(r.val + 512 - 511) % 512, by omega⟩ k) = behind p b (row q r) k := by
  unfold behind
  by_cases hr : r.val = 511
  · rw [if_pos hr]
    by_cases hq : q.val = 3
    · rw [if_pos hq, dif_neg (by show ¬ 512 * q.val + r.val + 1 < 2048; omega)]
    · rw [if_neg hq, dif_pos (by show 512 * q.val + r.val + 1 < 2048; omega), h0 (by omega)]
      exact congrArg (fun R => uv p b R k) (Fin.ext (by show 512 * (q.val + 1) = 512 * q.val + r.val + 1; omega))
  · rw [if_neg hr, dif_pos (by show 512 * q.val + r.val + 1 < 2048; omega), h4, h2]
    exact congrArg (fun R => uv p b R k) (Fin.ext (by show 512 * q.val + (r.val + 512 - 511) % 512 = 512 * q.val + r.val + 1; omega))

theorem silu_at (z : EReal) (hz : ∃ r : ℝ, z = r) : Ideal.ofBits .f32 0x3F000000#32 * z * Ideal.tanh (Ideal.ofBits .f32 0x3F000000#32 * z) +
    Ideal.ofBits .f32 0x3F000000#32 * z = z * sg z := by
  obtain ⟨r, rfl⟩ := hz
  exact Cert.Avg.gate r _ bits_half

theorem conv_at (u0 u1 u2 u3 : Vec Ideal S1x1x1024 .bf16) (x15 : Vec Ideal S1x3x1024 .f32) (r : Fin 512) (k : Fin 1024)
    (h2 : ∀ r, at_ x2 r k = col p 2048 (by omega) b (row q r) k) (h3 : at_ x3 r k = col p 3072 (by omega) b (row q r) k)
    (h4 : ∀ r, at_ x4 r k = col p 4096 (by omega) b (row q r) k) (h5 : at_ x5 r k = col p 5120 (by omega) b (row q r) k)
    (h01 : ∀ h : 0 < q.val, (show EReal from u0 (ix3 0 0 k)) * (show EReal from u1 (ix3 0 0 k)) = uv p b ⟨512 * q.val - 1, by omega⟩ k)
    (h23 : ∀ h : q.val < 3, (show EReal from u2 (ix3 0 0 k)) * (show EReal from u3 (ix3 0 0 k)) = uv p b ⟨512 * (q.val + 1), by omega⟩ k)
    (h15 : ∀ j : Fin 3, x15 (ix3 0 j k) = cw (ix3 3 j k)) (hz : ∃ z : ℝ, col p 5120 (by omega) b (row q r) k = z) :
    k0_pay12 (F := Ideal) k0_pay8 (k0_pay9 x4 x2) (k0_pay10 (BitVec.ofNat 32 q.val) u0 u1) (k0_pay11 (BitVec.ofNat 32 q.val) u2 u3)
      x15 x3 x5 (ix2 r k) = yc p cw b (row q r) k := by
  have hs := silu_at _ hz
  have hb := before_at x2 x4 p b q _ _ r k h4 h2 h01
  have hf := behind_at x2 x4 p b q _ _ r k h4 h2 h23
  rw [← sel _ _ (by omega) (by norm_num), ← sel _ _ (by omega) (by norm_num)] at hb hf
  rw [← h5] at hs
  unfold yc
  rw [← hb, ← hf, ← h3, ← h5, ← hs, ← h15, ← h15, ← h15]
  unfold uv
  rw [← h2, ← h4]
  pointwise [k0_pay12, k0_pay8, k0_pay9, k0_pay10, k0_pay11, at_]
  rfl

/-- The merge's row, of a block's values. -/
def out (v c : Fin 1024 → EReal) (x7 : Vec Ideal S1x512x1024 .bf16) (x17 x19 : Vec Ideal S1x1024x1024 .bf16) (x13 : Vec Ideal S1x512x1024 .f32)
    (x14 : Vec Ideal S1x1x1024 .f32) (r : Fin 512) (k : Fin 1024) : EReal :=
  (show EReal from x13 (ix3 0 r k)) + (show EReal from x14 (ix3 0 0 k)) * thru (fun j => v j + sg (at_ x7 r j) * thru c x17 j) x19 k

theorem last_at (v : FVec Ideal S512x1024 .f32) (y : FVec Ideal S512x1024 .bf16) (x13 : Vec Ideal S1x512x1024 .f32) (x14 : Vec Ideal S1x1x1024 .f32)
    (x20 : Vec Ideal S1x1024 .f32) (r : Fin 512) (k : Fin 1024) :
    k0_pay1 (F := Ideal) (k0_pay13 v y x17 x7 x19 x13 x14) x20 (ix3 0 r k) =
      normed (out (fun j => v (ix2 r j)) (fun j => y (ix2 r j)) x7 x17 x19 x13 x14 r) k (x20 (ix2 0 k)) := by
  unfold normed out
  simp only [← half]
  pointwise [k0_pay1, k0_pay13, at_, thru]

theorem thru_eq (v v' : Fin 1024 → EReal) (w : Vec Ideal S1x1024x1024 .bf16) (W : FVec Ideal S4x1024x1024 .f32) (k : Fin 1024)
    (hv : ∀ j, v j = v' j) (hw : ∀ j k, w (ix3 0 j k) = W (ix3 3 j k)) : thru v w k = through v' W k :=
  Finset.sum_congr rfl fun j _ => congrArg₂ (fun p q : EReal => p * q) (hv j) (hw j k)

variable (x ya yf : FVec Ideal S16x2048x1024 .f32) (md : FVec Ideal S24x3072 .f32) (wa wc wf wo : FVec Ideal S4x1024x1024 .f32) (fw : FVec Ideal S1024 .f32)

/-- A block of the result is the merge of the arrays its input blocks are cut from. -/
theorem block (i : grid0.Coords) (hi : (i 1).val = q.val) (x9 x10 x11 x12 : Vec Ideal S1x8x1024 .bf16) (x13 : Vec Ideal S1x512x1024 .f32)
    (x14 : Vec Ideal S1x1x1024 .f32) (x15 : Vec Ideal S1x3x1024 .f32) (x20 : Vec Ideal S1x1024 .f32)
    (h0 : ∀ r k, at_ x0 r k = ya (ix3 b (row q r) k)) (h1 : ∀ r k, x1 (ix5 0 0 0 r k) = yf (ix3 b (row q r) k))
    (h2 : ∀ r k, at_ x2 r k = col p 2048 (by omega) b (row q r) k) (h3 : ∀ r k, at_ x3 r k = col p 3072 (by omega) b (row q r) k)
    (h4 : ∀ r k, at_ x4 r k = col p 4096 (by omega) b (row q r) k) (h5 : ∀ r k, at_ x5 r k = col p 5120 (by omega) b (row q r) k)
    (h6 : ∀ r k, at_ x6 r k = col p 8192 (by omega) b (row q r) k) (h7 : ∀ r k, at_ x7 r k = col p 9216 (by omega) b (row q r) k)
    (h8 : ∀ r k, at_ x8 r k = col p 10240 (by omega) b (row q r) k)
    (h9 : ∀ (_ : 0 < q.val) k, x9 (ix3 0 7 k) = col p 2048 (by omega) b ⟨512 * q.val - 1, by omega⟩ k)
    (h10 : ∀ (_ : 0 < q.val) k, x10 (ix3 0 7 k) = col p 4096 (by omega) b ⟨512 * q.val - 1, by omega⟩ k)
    (h11 : ∀ (_ : q.val < 3) k, x11 (ix3 0 0 k) = col p 2048 (by omega) b ⟨512 * (q.val + 1), by omega⟩ k)
    (h12 : ∀ (_ : q.val < 3) k, x12 (ix3 0 0 k) = col p 4096 (by omega) b ⟨512 * (q.val + 1), by omega⟩ k)
    (h13 : ∀ r k, x13 (ix3 0 r k) = x (ix3 b (row q r) k))
    (h14 : ∀ k : Fin 1024, x14 (ix3 0 0 k) = md (ix2 (⟨b.val, by omega⟩ : Fin 24) (⟨2048 + k.val, by omega⟩ : Fin 3072)))
    (h15 : ∀ j k, x15 (ix3 0 j k) = cw (ix3 3 j k)) (h16 : ∀ j k, x16 (ix3 0 j k) = wa (ix3 3 j k)) (h17 : ∀ j k, x17 (ix3 0 j k) = wc (ix3 3 j k))
    (h18 : ∀ j k, x18 (ix3 0 j k) = wf (ix3 3 j k)) (h19 : ∀ j k, x19 (ix3 0 j k) = wo (ix3 3 j k)) (h20 : ∀ k, x20 (ix2 0 k) = fw (ix1 k))
    (hz : ∀ r k, ∃ z : ℝ, col p 5120 (by omega) b (row q r) k = z) (r : Fin 512) (k : Fin 1024) :
    out0_21 (F := Ideal) i x0 x1 x2 x3 x4 x5 x6 x7 x8 x9 x10 x11 x12 x13 x14 x15 x16 x17 x18 x19 x20 (ix3 0 r k) =
      normed (xo x p ya yf md cw wa wc wf wo b (row q r)) k (fw (ix1 k)) := by
  frame_out
  rw [hi]
  refine (last_at _ _ _ _ _ _ _ _ _ _).trans ?_
  rw [h20]
  refine congrArg (fun v => normed v k (fw (ix1 k))) (funext fun k => ?_)
  unfold out xo
  refine congrArg₂ (fun p q : EReal => p + q) (h13 r k) (congrArg₂ (fun p q : EReal => p * q) (h14 k) (thru_eq _ _ _ _ _ (fun j => ?_) h19))
  beta_reduce
  rw [two_at, h6, h7, h8]
  unfold mg
  rw [thru_eq _ (fun j => ya (ix3 b (row q r) j)) _ wa _ (fun j => h0 r j) h16,
    thru_eq _ (fun j => yf (ix3 b (row q r) j)) _ wf _ (fun j => h1 r j) h18, add_right_comm]
  refine congrArg₂ (fun p q : EReal => p + q) (congrArg₂ (fun p q : EReal => p + q) rfl (congrArg₂ (fun p q : EReal => p * q) rfl (thru_eq _ _ _ _ _ (fun j => ?_) h17))) rfl
  refine conv_at x2 x3 x4 x5 p cw b q _ _ _ _ x15 r j (fun r => h2 r j) (h3 r j) (fun r => h4 r j) (h5 r j) (fun h => ?_) (fun h => ?_) (fun a => h15 a j) (hz r j)
  · refine congrArg₂ (fun p q : EReal => p * q) (Eq.trans ?_ (h10 h j)) (Eq.trans ?_ (h9 h j))
    · exact View.ld_unit_apply_of _ _ _ _ _ _ fun a => by fin_cases a <;> simp [ix3]
    · exact View.ld_unit_apply_of _ _ _ _ _ _ fun a => by fin_cases a <;> simp [ix3]
  · refine congrArg₂ (fun p q : EReal => p * q) (Eq.trans ?_ (h12 h j)) (Eq.trans ?_ (h11 h j))
    · exact View.ld_unit_apply_of _ _ _ _ _ _ fun a => by fin_cases a <;> simp [ix3]
    · exact View.ld_unit_apply_of _ _ _ _ _ _ fun a => by fin_cases a <;> simp [ix3]

end Cert.Kernel3Ideal.Merge

end
-- ==== Proof.Gather.lean ====
module

public import proofs.«01_k».proof.Proof.Merge

@[expose] public section

set_option maxRecDepth 16384

/-! # The arrays the merge's blocks are cut from

Every input block of a grid point, read from the arguments; the array the merge leaves. -/

noncomputable section

open Idealize.ShloMosaic Idealize.ShloMosaic.TcCoe Idealize.SL.Sem
open Idealize.ShloMosaic.Pipeline (Dat)

namespace Cert.Kernel3Ideal.Merge

open Cert.Kernel3Ideal Cert.Kernel3Ideal.Gen
open Cert.Merge

theorem idx_rows : ∀ t : Fin cfg0.N, win0_0.index t = ![t.val / 4, t.val % 4, 0] ∧ win0_13.index t = ![t.val / 4, t.val % 4, 0] ∧
    win0_21.index t = ![t.val / 4, t.val % 4, 0] ∧ win0_14.index t = ![t.val / 4, 0, 2] ∧
    win0_1.index t = ![t.val / 4, if t.val % 4 < 2 then t.val % 4 else 3 - t.val % 4, if t.val % 4 < 2 then 0 else 1, 0, 0] :=
  (by decide +kernel : ∀ t : Fin grid0.N, _)

theorem idx_cols : ∀ t : Fin cfg0.N, win0_2.index t = ![t.val / 4, t.val % 4, 2] ∧ win0_3.index t = ![t.val / 4, t.val % 4, 3] ∧
    win0_4.index t = ![t.val / 4, t.val % 4, 4] ∧ win0_5.index t = ![t.val / 4, t.val % 4, 5] ∧ win0_6.index t = ![t.val / 4, t.val % 4, 8] ∧
    win0_7.index t = ![t.val / 4, t.val % 4, 9] ∧ win0_8.index t = ![t.val / 4, t.val % 4, 10] :=
  (by decide +kernel : ∀ t : Fin grid0.N, _)

theorem idx_edge : ∀ t : Fin cfg0.N, win0_9.index t = ![t.val / 4, 64 * (t.val % 4) - 1, 2] ∧ win0_10.index t = ![t.val / 4, 64 * (t.val % 4) - 1, 4] ∧
    win0_11.index t = ![t.val / 4, min (64 * (t.val % 4 + 1)) 255, 2] ∧ win0_12.index t = ![t.val / 4, min (64 * (t.val % 4 + 1)) 255, 4] :=
  (by decide +kernel : ∀ t : Fin grid0.N, _)

theorem idx_whole : ∀ t : Fin cfg0.N, win0_15.index t = ![3, 0, 0] ∧ win0_16.index t = ![3, 0, 0] ∧ win0_17.index t = ![3, 0, 0] ∧
    win0_18.index t = ![3, 0, 0] ∧ win0_19.index t = ![3, 0, 0] ∧ win0_20.index t = ![0, 0] :=
  (by decide +kernel : ∀ t : Fin grid0.N, _)

theorem tlt (t : Fin cfg0.N) : t.val < 64 := t.isLt

/-- The batch of a grid point. -/
def bt (t : Fin cfg0.N) : Fin 16 := ⟨t.val / 4, by have := tlt t; omega⟩

/-- The block of rows of a grid point. -/
def qt (t : Fin cfg0.N) : Fin 4 := ⟨t.val % 4, by omega⟩

section Reads

variable (t : Fin cfg0.N) (r : Fin 512) (k : Fin 1024) (W : Vec Ideal S16x2048x11264 .bf16) (X : Vec Ideal S16x2048x1024 .bf16)

theorem read0 : (win0_0.blk t).view.read (Elt Ideal) X (ix3 0 r k) = X (ix3 (bt t) (row (qt t) r) k) := by
  blk_ext [idx_rows t, bt, qt, row]

theorem read2 : (win0_2.blk t).view.read (Elt Ideal) W (ix3 0 r k) = W (ix3 (bt t) (row (qt t) r) (⟨2048 + k.val, by omega⟩ : Fin 11264)) := by
  blk_ext [idx_cols t, bt, qt, row]

theorem read3 : (win0_3.blk t).view.read (Elt Ideal) W (ix3 0 r k) = W (ix3 (bt t) (row (qt t) r) (⟨3072 + k.val, by omega⟩ : Fin 11264)) := by
  blk_ext [idx_cols t, bt, qt, row]

theorem read4 : (win0_4.blk t).view.read (Elt Ideal) W (ix3 0 r k) = W (ix3 (bt t) (row (qt t) r) (⟨4096 + k.val, by omega⟩ : Fin 11264)) := by
  blk_ext [idx_cols t, bt, qt, row]

theorem read5 : (win0_5.blk t).view.read (Elt Ideal) W (ix3 0 r k) = W (ix3 (bt t) (row (qt t) r) (⟨5120 + k.val, by omega⟩ : Fin 11264)) := by
  blk_ext [idx_cols t, bt, qt, row]

theorem read6 : (win0_6.blk t).view.read (Elt Ideal) W (ix3 0 r k) = W (ix3 (bt t) (row (qt t) r) (⟨8192 + k.val, by omega⟩ : Fin 11264)) := by
  blk_ext [idx_cols t, bt, qt, row]

theorem read7 : (win0_7.blk t).view.read (Elt Ideal) W (ix3 0 r k) = W (ix3 (bt t) (row (qt t) r) (⟨9216 + k.val, by omega⟩ : Fin 11264)) := by
  blk_ext [idx_cols t, bt, qt, row]

theorem read8 : (win0_8.blk t).view.read (Elt Ideal) W (ix3 0 r k) = W (ix3 (bt t) (row (qt t) r) (⟨10240 + k.val, by omega⟩ : Fin 11264)) := by
  blk_ext [idx_cols t, bt, qt, row]

theorem read9 (h : 0 < (qt t).val) : (win0_9.blk t).view.read (Elt Ideal) W (ix3 0 7 k) =
    W (ix3 (bt t) (⟨512 * (qt t).val - 1, by omega⟩ : Fin 2048) (⟨2048 + k.val, by omega⟩ : Fin 11264)) := by
  have h' : 0 < t.val % 4 := h
  blk_ext [idx_edge t, bt, qt]

theorem read10 (h : 0 < (qt t).val) : (win0_10.blk t).view.read (Elt Ideal) W (ix3 0 7 k) =
    W (ix3 (bt t) (⟨512 * (qt t).val - 1, by omega⟩ : Fin 2048) (⟨4096 + k.val, by omega⟩ : Fin 11264)) := by
  have h' : 0 < t.val % 4 := h
  blk_ext [idx_edge t, bt, qt]

theorem read11 (h : (qt t).val < 3) : (win0_11.blk t).view.read (Elt Ideal) W (ix3 0 0 k) =
    W (ix3 (bt t) (⟨512 * ((qt t).val + 1), by omega⟩ : Fin 2048) (⟨2048 + k.val, by omega⟩ : Fin 11264)) := by
  have h' : t.val % 4 < 3 := h
  blk_ext [idx_edge t, bt, qt]

theorem read12 (h : (qt t).val < 3) : (win0_12.blk t).view.read (Elt Ideal) W (ix3 0 0 k) =
    W (ix3 (bt t) (⟨512 * ((qt t).val + 1), by omega⟩ : Fin 2048) (⟨4096 + k.val, by omega⟩ : Fin 11264)) := by
  have h' : t.val % 4 < 3 := h
  blk_ext [idx_edge t, bt, qt]

theorem read13 (X : Vec Ideal S16x2048x1024 .f32) : (win0_13.blk t).view.read (Elt Ideal) X (ix3 0 r k) = X (ix3 (bt t) (row (qt t) r) k) := by
  blk_ext [idx_rows t, bt, qt, row]

theorem read14 (X : Vec Ideal S24x1x3072 .f32) : (win0_14.blk t).view.read (Elt Ideal) X (ix3 0 0 k) =
    X (ix3 (⟨(bt t).val, by omega⟩ : Fin 24) 0 (⟨2048 + k.val, by omega⟩ : Fin 3072)) := by
  blk_ext [idx_rows t, bt]

theorem read1 (X : Vec Ideal S16x2x2x512x1024 .bf16) : (win0_1.blk t).view.read (Elt Ideal) X (ix5 0 0 0 r k) =
    X (ix5 (bt t) (⟨if t.val % 4 < 2 then t.val % 4 else 3 - t.val % 4, by split <;> omega⟩ : Fin 2)
      (⟨if t.val % 4 < 2 then 0 else 1, by split <;> omega⟩ : Fin 2) r k) := by
  blk_ext [idx_rows t, bt]

theorem read15 (X : Vec Ideal S4x3x1024 .f32) (j : Fin 3) : (win0_15.blk t).view.read (Elt Ideal) X (ix3 0 j k) = X (ix3 3 j k) := by
  blk_ext [idx_whole t]

theorem read16 (X : Vec Ideal S4x1024x1024 .bf16) (j : Fin 1024) : (win0_16.blk t).view.read (Elt Ideal) X (ix3 0 j k) = X (ix3 3 j k) := by
  blk_ext [idx_whole t]

theorem read17 (X : Vec Ideal S4x1024x1024 .bf16) (j : Fin 1024) : (win0_17.blk t).view.read (Elt Ideal) X (ix3 0 j k) = X (ix3 3 j k) := by
  blk_ext [idx_whole t]

theorem read18 (X : Vec Ideal S4x1024x1024 .bf16) (j : Fin 1024) : (win0_18.blk t).view.read (Elt Ideal) X (ix3 0 j k) = X (ix3 3 j k) := by
  blk_ext [idx_whole t]

theorem read19 (X : Vec Ideal S4x1024x1024 .bf16) (j : Fin 1024) : (win0_19.blk t).view.read (Elt Ideal) X (ix3 0 j k) = X (ix3 3 j k) := by
  blk_ext [idx_whole t]

theorem read20 (X : Vec Ideal S1x1024 .f32) : (win0_20.blk t).view.read (Elt Ideal) X (ix2 0 k) = X (ix2 0 k) := by
  blk_ext [idx_whole t]

theorem emb21 : (win0_21.blk t).view.emb (ix3 0 r k) = ix3 (bt t) (row (qt t) r) k := by
  blk_ext [idx_rows t, bt, qt, row]

end Reads

variable (m : (ℓ : Loc nD τ sig) → Buf (Elt Ideal) ℓ) (c : Dev nD)

theorem projected (b : Fin 16) (R : Fin 2048) (n : Fin 11264) : V m c main_v15 (ix3 b R n) = m ((c : Thread nD τ).loc main_arg1) (ix3 b R n) := by
  unfold V
  after_results
  rfl

theorem attended (b : Fin 16) (R : Fin 2048) (k : Fin 1024) : V m c main_v16 (ix3 b R k) = m ((c : Thread nD τ).loc main_arg2) (ix3 b R k) := by
  unfold V
  after_results
  rfl

theorem modulation (b : Fin 24) (n : Fin 3072) : V m c main_v0 (ix3 b 0 n) = m ((c : Thread nD τ).loc main_arg4) (ix2 b n) := by
  unfold V
  after_results
  pointwise

theorem weight1 (l : Fin 4) (j k : Fin 1024) : V m c main_v1 (ix3 l j k) = m ((c : Thread nD τ).loc main_arg6) (ix3 l j k) := by
  unfold V
  after_results
  rfl

theorem weight2 (l : Fin 4) (j k : Fin 1024) : V m c main_v2 (ix3 l j k) = m ((c : Thread nD τ).loc main_arg7) (ix3 l j k) := by
  unfold V
  after_results
  rfl

theorem weight3 (l : Fin 4) (j k : Fin 1024) : V m c main_v3 (ix3 l j k) = m ((c : Thread nD τ).loc main_arg8) (ix3 l j k) := by
  unfold V
  after_results
  rfl

theorem weight4 (l : Fin 4) (j k : Fin 1024) : V m c main_v4 (ix3 l j k) = m ((c : Thread nD τ).loc main_arg9) (ix3 l j k) := by
  unfold V
  after_results
  rfl

theorem normw (k : Fin 1024) : V m c main_v17 (ix2 0 k) = m ((c : Thread nD τ).loc main_arg10) (ix1 k) := by
  unfold V
  after_results
  pointwise

theorem mixed (b : Fin 16) (i s : Fin 2) (r : Fin 512) (k : Fin 1024) : V m c main_v14 (ix5 b i s r k) =
    m ((c : Thread nD τ).loc main_arg3) (ix3 b (⟨if s.val = 0 then 512 * i.val + r.val else 1024 + 512 * (1 - i.val) + r.val, by split <;> omega⟩ : Fin 2048) k) := by
  unfold V
  after_results
  pointwise
  by_cases hs : s.val < 1
  · rw [dif_pos hs]
    refine congrArg (fun R => m ((c : Thread nD τ).loc main_arg3) (ix3 b R k)) (Fin.ext ?_)
    show i.val * 512 + r.val = if s.val = 0 then 512 * i.val + r.val else 1024 + 512 * (1 - i.val) + r.val
    rw [if_pos (by omega)]
    omega
  · rw [dif_neg hs]
    refine congrArg (fun R => m ((c : Thread nD τ).loc main_arg3) (ix3 b R k)) (Fin.ext ?_)
    show 1024 + i.rev.val * 512 + r.val = if s.val = 0 then 512 * i.val + r.val else 1024 + 512 * (1 - i.val) + r.val
    rw [if_neg (by omega), Fin.val_rev]
    omega

theorem fourier (t : Fin cfg0.N) (r : Fin 512) (k : Fin 1024) : iblk m c 1 t (ix5 0 0 0 r k) =
    m ((c : Thread nD τ).loc main_arg3) (ix3 (bt t) (row (qt t) r) k) := by
  refine (read1 t r k (V m c main_v14)).trans ((mixed m c _ _ _ r k).trans ?_)
  refine congrArg (fun R => m ((c : Thread nD τ).loc main_arg3) (ix3 (bt t) R k)) (Fin.ext ?_)
  show (if (if t.val % 4 < 2 then 0 else 1) = 0 then 512 * (if t.val % 4 < 2 then t.val % 4 else 3 - t.val % 4) + r.val else
    1024 + 512 * (1 - (if t.val % 4 < 2 then t.val % 4 else 3 - t.val % 4)) + r.val) = 512 * (t.val % 4) + r.val
  by_cases h : t.val % 4 < 2
  · simp [h]
  · simp only [h, if_false]
    rw [if_neg (by omega)]
    omega

/-- The array the merge leaves. -/
def arr : Vec Ideal S16x2048x1024 .f32 := fun i =>
  normed (xo (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (i 0) (i 1)) (i 2) (m ((c : Thread nD τ).loc main_arg10) (ix1 (i 2)))

theorem point : ∀ t : Fin cfg0.N, ((grid0.coords t) 1).val = t.val % 4 :=
  (by decide +kernel : ∀ t : Fin grid0.N, _)

theorem result_eq (hz : ∀ b R k, ∃ z : ℝ, col (m ((c : Thread nD τ).loc main_arg1)) 5120 (by omega) b R k = z) :
    (dats m 0 c).arrAt 21 cfg0.N = arr m c := by
  refine (dats m 0 c).arrAt_eq_of_covers 21 (arr m c) (by decide +kernel) ?_
  intro t hf y
  blk_simp
  rw [after0_21]
  obtain ⟨r, k, rfl⟩ : ∃ (r : Fin 512) (k : Fin 1024), y = ix3 0 r k := by
    idx_vars y
    obtain rfl : y0 = 0 := Subsingleton.elim _ _
    exact ⟨y1, y2, rfl⟩
  refine Eq.trans ?_ (congrArg (arr m c) (emb21 t r k)).symm
  exact block (iblk m c 0 t) (iblk m c 2 t) (iblk m c 3 t) (iblk m c 4 t) (iblk m c 5 t) (iblk m c 6 t) (iblk m c 7 t) (iblk m c 8 t) (iblk m c 1 t)
    (iblk m c 16 t) (iblk m c 17 t) (iblk m c 18 t) (iblk m c 19 t) (m ((c : Thread nD τ).loc main_arg1)) (m ((c : Thread nD τ).loc main_arg5)) (bt t) (qt t)
    (m ((c : Thread nD τ).loc main_arg0)) (m ((c : Thread nD τ).loc main_arg2)) (m ((c : Thread nD τ).loc main_arg3)) (m ((c : Thread nD τ).loc main_arg4))
    (m ((c : Thread nD τ).loc main_arg6)) (m ((c : Thread nD τ).loc main_arg7)) (m ((c : Thread nD τ).loc main_arg8)) (m ((c : Thread nD τ).loc main_arg9))
    (m ((c : Thread nD τ).loc main_arg10)) (grid0.coords t) (point t) (iblk m c 9 t) (iblk m c 10 t)
    (iblk m c 11 t) (iblk m c 12 t) (iblk m c 13 t) (iblk m c 14 t) (iblk m c 15 t) (iblk m c 20 t)
    (fun r k => (read0 t r k (V m c main_v16)).trans (attended m c _ _ _)) (fourier m c t)
    (fun r k => (read2 t r k (V m c main_v15)).trans (projected m c _ _ _)) (fun r k => (read3 t r k (V m c main_v15)).trans (projected m c _ _ _))
    (fun r k => (read4 t r k (V m c main_v15)).trans (projected m c _ _ _)) (fun r k => (read5 t r k (V m c main_v15)).trans (projected m c _ _ _))
    (fun r k => (read6 t r k (V m c main_v15)).trans (projected m c _ _ _)) (fun r k => (read7 t r k (V m c main_v15)).trans (projected m c _ _ _))
    (fun r k => (read8 t r k (V m c main_v15)).trans (projected m c _ _ _))
    (fun h k => (read9 t k (V m c main_v15) h).trans (projected m c _ _ _)) (fun h k => (read10 t k (V m c main_v15) h).trans (projected m c _ _ _))
    (fun h k => (read11 t k (V m c main_v15) h).trans (projected m c _ _ _)) (fun h k => (read12 t k (V m c main_v15) h).trans (projected m c _ _ _))
    (fun r k => (read13 t r k (V m c main_arg0)).trans (congrFun (V_main_arg0 m c) _)) (fun k => (read14 t k (V m c main_v0)).trans (modulation m c _ _))
    (fun j k => (read15 t k (V m c main_arg5) j).trans (congrFun (V_main_arg5 m c) _))
    (fun j k => (read16 t k (V m c main_v1) j).trans (weight1 m c 3 j k)) (fun j k => (read17 t k (V m c main_v2) j).trans (weight2 m c 3 j k))
    (fun j k => (read18 t k (V m c main_v3) j).trans (weight3 m c 3 j k)) (fun j k => (read19 t k (V m c main_v4) j).trans (weight4 m c 3 j k))
    (fun k => (read20 t k (V m c main_v17)).trans (normw m c k)) (fun r k => hz _ _ _) r k

end Cert.Kernel3Ideal.Merge

end
-- ==== Proof.Rope.lean ====
module

public import proofs.«01_k».proof.Proof.Gen.Reference4Ideal.Run
public import Idealize.ShloMosaic.Lib.Pipeline.ValueKit

@[expose] public section

set_option maxRecDepth 16384

/-! # The rotated queries and keys, entry by entry

A pair of a head's dimensions, sixteen apart, is turned by the angle of the token's row or column. -/

noncomputable section

open Idealize.ShloMosaic Idealize.ShloMosaic.TcCoe Idealize.SL.Sem Idealize.ShloMosaic.StableHlo

namespace Cert.Rope

open Cert.Reference4Ideal Cert.Reference4Ideal.Gen

/-- The frequencies of an axis. -/
def freq : FVec Ideal S16 .f32 :=
  Host.powf (broadcastInDim S16 ![] bcast_S_S16 (constant S_ .f32 0x461C4000#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32)))

/-- The angles of the tokens' rows. -/
def angR : FVec Ideal S2048x16 .f32 :=
  mulf (broadcastInDim S2048x16 ![0, 1] bcast_S2048x1_S2048x16_0_1 (broadcastInDim S2048x1 ![0] bcast_S2048_S2048x1_0 (sitofp .f32 (shapeCast S2048 (broadcastInDim S32x64 ![0] bcast_S32_S32x64_0 (iotaInDim S32 32 0)) shapeCasts_S32x64_S2048)))) (broadcastInDim S2048x16 ![0, 1] bcast_S1x16_S2048x16_0_1 (broadcastInDim S1x16 ![1] bcast_S16_S1x16_1 freq))

/-- The angles of the tokens' columns. -/
def angC : FVec Ideal S2048x16 .f32 :=
  mulf (broadcastInDim S2048x16 ![0, 1] bcast_S2048x1_S2048x16_0_1 (broadcastInDim S2048x1 ![0] bcast_S2048_S2048x1_0 (sitofp .f32 (shapeCast S2048 (broadcastInDim S32x64 ![0, 1] bcast_S1x64_S32x64_0_1 (shapeCast S1x64 (iotaInDim S64 32 0) shapeCasts_S64_S1x64)) shapeCasts_S32x64_S2048)))) (broadcastInDim S2048x16 ![0, 1] bcast_S1x16_S2048x16_0_1 (broadcastInDim S1x16 ![1] bcast_S16_S1x16_1 freq))

/-- A table of angles, for every head. -/
def spread (g : FVec Ideal S2048x16 .f32) : FVec Ideal S16x8x2x2048x16 .f32 :=
  broadcastInDim S16x8x2x2048x16 ![0, 1, 2, 3, 4] bcast_S1x1x1x2048x16_S16x8x2x2048x16_0_1_2_3_4 (broadcastInDim S1x1x1x2048x16 ![3, 4] bcast_S2048x16_S1x1x1x2048x16_3_4 g)

/-- The rotation of an axis' dimensions. -/
def rot (x : FVec Ideal S16x8x2x2048x32 .f32) (g : FVec Ideal S2048x16 .f32) : FVec Ideal S16x8x2x2048x32 .f32 :=
  concatenate S16x8x2x2048x32 4
    [⟨S16x8x2x2048x16, subf (mulf (extractStridedSlice S16x8x2x2048x16 ![0, 0, 0, 0, 0] x slices_S16x8x2x2048x32_S16x8x2x2048x16_0_0_0_0_0) (spread (Host.cos g))) (mulf (extractStridedSlice S16x8x2x2048x16 ![0, 0, 0, 0, 16] x slices_S16x8x2x2048x32_S16x8x2x2048x16_0_0_0_0_16) (spread (Host.sin g)))⟩,
     ⟨S16x8x2x2048x16, addf (mulf (extractStridedSlice S16x8x2x2048x16 ![0, 0, 0, 0, 16] x slices_S16x8x2x2048x32_S16x8x2x2048x16_0_0_0_0_16) (spread (Host.cos g))) (mulf (extractStridedSlice S16x8x2x2048x16 ![0, 0, 0, 0, 0] x slices_S16x8x2x2048x32_S16x8x2x2048x16_0_0_0_0_0) (spread (Host.sin g)))⟩]
    concatenates_S16x8x2x2048x16_S16x8x2x2048x16_S16x8x2x2048x32_d4

/-- The rotation of a head's dimensions. -/
def rope (t : FVec Ideal S16x8x2x2048x64 .f32) : FVec Ideal S16x8x2x2048x64 .f32 :=
  concatenate S16x8x2x2048x64 4
    [⟨S16x8x2x2048x32, rot (extractStridedSlice S16x8x2x2048x32 ![0, 0, 0, 0, 0] t slices_S16x8x2x2048x64_S16x8x2x2048x32_0_0_0_0_0) angR⟩,
     ⟨S16x8x2x2048x32, rot (extractStridedSlice S16x8x2x2048x32 ![0, 0, 0, 0, 32] t slices_S16x8x2x2048x64_S16x8x2x2048x32_0_0_0_0_32) angC⟩]
    concatenates_S16x8x2x2048x32_S16x8x2x2048x32_S16x8x2x2048x64_d4

/-- The heads of a kilocolumn. -/
def heads (p : FVec Ideal S16x2048x1024 .f32) : FVec Ideal S16x8x2x2048x64 .f32 :=
  transpose S16x8x2x2048x64 [0, 2, 3, 1, 4] (shapeCast S16x2048x8x2x64 p shapeCasts_S16x2048x1024_S16x2048x8x2x64) transposes_S16x2048x8x2x64_S16x8x2x2048x64_0_2_3_1_4

/-- The order of a head's dimensions in the result. -/
def lanes (t : FVec Ideal S16x8x2x2048x64 .f32) : FVec Ideal S16x2048x1024 .f32 :=
  shapeCast S16x2048x1024 (transpose S16x2048x8x2x2x2x16 [0, 3, 1, 5, 2, 4, 6] (shapeCast S16x8x2x2048x2x2x16 t shapeCasts_S16x8x2x2048x64_S16x8x2x2048x2x2x16) transposes_S16x8x2x2048x2x2x16_S16x2048x8x2x2x2x16_0_3_1_5_2_4_6) shapeCasts_S16x2048x8x2x2x2x16_S16x2048x1024

variable (h : FVec Ideal S16x2048x1024 .f32) (w : FVec Ideal S4x1024x13312 .f32)

/-- The projection. -/
def prod : FVec Ideal S16x2048x13312 .f32 :=
  Host.dotGeneral dot_S16x2048x1024_S1024x13312_S16x2048x13312_2_0_01_1_n_n none (φ₁ := .f32) (φ₂ := .f32) h (shapeCast S1024x13312 (extractStridedSlice S1x1024x13312 ![1, 0, 0] w slices_S4x1024x13312_S1x1024x13312_1_0_0) shapeCasts_S1x1024x13312_S1024x13312)

/-- The queries, with the scores' factor. -/
def queries : FVec Ideal S16x2048x1024 .f32 :=
  lanes (mulf (rope (heads (extractStridedSlice S16x2048x1024 ![0, 0, 0] (prod h w) slices_S16x2048x13312_S16x2048x1024_0_0_0))) (broadcastInDim S16x8x2x2048x64 ![] bcast_S_S16x8x2x2048x64 (constant S_ .f32 0x3E38AA3B#32)))

/-- The keys. -/
def keys : FVec Ideal S16x2048x1024 .f32 :=
  lanes (rope (heads (extractStridedSlice S16x2048x1024 ![0, 0, 1024] (prod h w) slices_S16x2048x13312_S16x2048x1024_0_0_1024)))

/-- Both. -/
def both : FVec Ideal S16x2048x2048 .bf16 :=
  truncf .bf16 (concatenate S16x2048x2048 2 [⟨S16x2048x1024, queries h w⟩, ⟨S16x2048x1024, keys h w⟩] concatenates_S16x2048x1024_S16x2048x1024_S16x2048x2048_d2) bitsLt_bf16_f32

theorem res_eq (m : (ℓ : Loc nD τ sig) → Buf (Elt Ideal) ℓ) (c : Dev nD) :
    Cert.Reference4Ideal.Value.res_main_v147 m c = both (m ((c.tc : Thread nD τ).loc main_arg0)) (m ((c.tc : Thread nD τ).loc main_arg1)) := rfl

/-- An entry of the projection. -/
def colv (b : Fin 16) (R : Fin 2048) (x : Fin 13312) : EReal :=
  ∑ k : Fin 1024, (show EReal from h (ix3 b R k)) * (show EReal from w (ix3 1 k x))

/-- The first (`e = 0`) or second dimension of a pair. -/
def pair (n : ℕ) (hn : n ≤ 1024) (b : Fin 16) (R : Fin 2048) (H : Fin 8) (g a e : Fin 2) (i : Fin 16) : EReal :=
  colv h w b R (⟨n + (128 * H.val + (64 * g.val + (32 * a.val + 16 * e.val + i.val))), by omega⟩ : Fin 13312)

/-- The angles of an axis. -/
def ang (a : Fin 2) : FVec Ideal S2048x16 .f32 := if a = 0 then angR else angC

/-- An entry of the rotated projection. -/
def turned (n : ℕ) (hn : n ≤ 1024) (b : Fin 16) (R : Fin 2048) (H : Fin 8) (g a e : Fin 2) (i : Fin 16) : EReal :=
  if e = 0 then pair h w n hn b R H g a 0 i * Ideal.cos (ang a (ix2 R i)) - pair h w n hn b R H g a 1 i * Ideal.sin (ang a (ix2 R i))
  else pair h w n hn b R H g a 1 i * Ideal.cos (ang a (ix2 R i)) + pair h w n hn b R H g a 0 i * Ideal.sin (ang a (ix2 R i))

theorem lanes_at (t : FVec Ideal S16x8x2x2048x64 .f32) (b : Fin 16) (R : Fin 2048) (H : Fin 8) (e g a : Fin 2) (i : Fin 16) :
    lanes t (ix3 b R (⟨128 * H.val + (64 * e.val + 32 * g.val + 16 * a.val + i.val), by omega⟩ : Fin 1024)) =
      t (ix5 b H g R (⟨32 * a.val + 16 * e.val + i.val, by omega⟩ : Fin 64)) := by
  pointwise [lanes]
  blk_ext []

theorem heads_at (p : FVec Ideal S16x2048x1024 .f32) (b : Fin 16) (R : Fin 2048) (H : Fin 8) (g : Fin 2) (x : Fin 64) :
    heads p (ix5 b H g R x) = p (ix3 b R (⟨128 * H.val + (64 * g.val + x.val), by omega⟩ : Fin 1024)) := by
  pointwise [heads]
  blk_ext []

theorem rot_lo (x : FVec Ideal S16x8x2x2048x32 .f32) (t : FVec Ideal S2048x16 .f32) (b : Fin 16) (R : Fin 2048) (H : Fin 8) (g : Fin 2) (i : Fin 16) :
    rot x t (ix5 b H g R (⟨i.val, by omega⟩ : Fin 32)) =
      (show EReal from x (ix5 b H g R (⟨i.val, by omega⟩ : Fin 32))) * Ideal.cos (t (ix2 R i)) -
        (show EReal from x (ix5 b H g R (⟨16 + i.val, by omega⟩ : Fin 32))) * Ideal.sin (t (ix2 R i)) := by
  pointwise [rot, spread]

theorem rot_hi (x : FVec Ideal S16x8x2x2048x32 .f32) (t : FVec Ideal S2048x16 .f32) (b : Fin 16) (R : Fin 2048) (H : Fin 8) (g : Fin 2) (i : Fin 16) :
    rot x t (ix5 b H g R (⟨16 + i.val, by omega⟩ : Fin 32)) =
      (show EReal from x (ix5 b H g R (⟨16 + i.val, by omega⟩ : Fin 32))) * Ideal.cos (t (ix2 R i)) +
        (show EReal from x (ix5 b H g R (⟨i.val, by omega⟩ : Fin 32))) * Ideal.sin (t (ix2 R i)) := by
  pointwise [rot, spread]

theorem rope_lo (t : FVec Ideal S16x8x2x2048x64 .f32) (b : Fin 16) (R : Fin 2048) (H : Fin 8) (g : Fin 2) (x : Fin 32) :
    rope t (ix5 b H g R (⟨x.val, by omega⟩ : Fin 64)) =
      rot (extractStridedSlice S16x8x2x2048x32 ![0, 0, 0, 0, 0] t slices_S16x8x2x2048x64_S16x8x2x2048x32_0_0_0_0_0) angR (ix5 b H g R x) := by
  pointwise [rope]

theorem rope_hi (t : FVec Ideal S16x8x2x2048x64 .f32) (b : Fin 16) (R : Fin 2048) (H : Fin 8) (g : Fin 2) (x : Fin 32) :
    rope t (ix5 b H g R (⟨32 + x.val, by omega⟩ : Fin 64)) =
      rot (extractStridedSlice S16x8x2x2048x32 ![0, 0, 0, 0, 32] t slices_S16x8x2x2048x64_S16x8x2x2048x32_0_0_0_0_32) angC (ix5 b H g R x) := by
  pointwise [rope]

theorem prod_at (b : Fin 16) (R : Fin 2048) (x : Fin 13312) : prod h w (ix3 b R x) = colv h w b R x := by
  pointwise [prod, colv]

/-- A rotated head, entry by entry. -/
def spin (t : FVec Ideal S16x8x2x2048x64 .f32) (b : Fin 16) (R : Fin 2048) (H : Fin 8) (g a e : Fin 2) (i : Fin 16) : EReal :=
  if e = 0 then (show EReal from t (ix5 b H g R (⟨32 * a.val + i.val, by omega⟩ : Fin 64))) * Ideal.cos (ang a (ix2 R i)) -
      (show EReal from t (ix5 b H g R (⟨32 * a.val + 16 + i.val, by omega⟩ : Fin 64))) * Ideal.sin (ang a (ix2 R i))
  else (show EReal from t (ix5 b H g R (⟨32 * a.val + 16 + i.val, by omega⟩ : Fin 64))) * Ideal.cos (ang a (ix2 R i)) +
      (show EReal from t (ix5 b H g R (⟨32 * a.val + i.val, by omega⟩ : Fin 64))) * Ideal.sin (ang a (ix2 R i))

theorem rope_at (t : FVec Ideal S16x8x2x2048x64 .f32) (b : Fin 16) (R : Fin 2048) (H : Fin 8) (g a e : Fin 2) (i : Fin 16) :
    rope t (ix5 b H g R (⟨32 * a.val + 16 * e.val + i.val, by omega⟩ : Fin 64)) = spin t b R H g a e i := by
  have ea : a = 0 ∨ a = 1 := by omega
  have ee : e = 0 ∨ e = 1 := by omega
  rcases ea with rfl | rfl <;> rcases ee with rfl | rfl
  · refine Eq.trans ?_ ((rope_lo t b R H g (⟨i.val, by omega⟩ : Fin 32)).trans ((rot_lo _ _ b R H g i).trans ?_))
    · blk_ext []
    · pointwise [spin, ang]
  · refine Eq.trans ?_ ((rope_lo t b R H g (⟨16 + i.val, by omega⟩ : Fin 32)).trans ((rot_hi _ _ b R H g i).trans ?_))
    · blk_ext []
    · pointwise [spin, ang]
  · refine Eq.trans ?_ ((rope_hi t b R H g (⟨i.val, by omega⟩ : Fin 32)).trans ((rot_lo _ _ b R H g i).trans ?_))
    · blk_ext []
    · have e48 : 32 + (16 + i.val) = 48 + i.val := by omega
      pointwise [spin, ang]
      simp only [e48]
  · refine Eq.trans ?_ ((rope_hi t b R H g (⟨16 + i.val, by omega⟩ : Fin 32)).trans ((rot_hi _ _ b R H g i).trans ?_))
    · blk_ext []
    · have e48 : 32 + (16 + i.val) = 48 + i.val := by omega
      pointwise [spin, ang]
      simp only [e48]

theorem spin_q (b : Fin 16) (R : Fin 2048) (H : Fin 8) (g a e : Fin 2) (i : Fin 16) :
    spin (heads (extractStridedSlice S16x2048x1024 ![0, 0, 0] (prod h w) slices_S16x2048x13312_S16x2048x1024_0_0_0)) b R H g a e i =
      turned h w 0 (by omega) b R H g a e i := by
  have e1 (x : Fin 64) : heads (extractStridedSlice S16x2048x1024 ![0, 0, 0] (prod h w) slices_S16x2048x13312_S16x2048x1024_0_0_0) (ix5 b H g R x) =
      colv h w b R (⟨0 + (128 * H.val + (64 * g.val + x.val)), by omega⟩ : Fin 13312) := by
    rw [heads_at, ← prod_at]
    pointwise
    blk_ext []
  simp only [spin, turned, pair, e1]
  rfl

theorem spin_k (b : Fin 16) (R : Fin 2048) (H : Fin 8) (g a e : Fin 2) (i : Fin 16) :
    spin (heads (extractStridedSlice S16x2048x1024 ![0, 0, 1024] (prod h w) slices_S16x2048x13312_S16x2048x1024_0_0_1024)) b R H g a e i =
      turned h w 1024 (by omega) b R H g a e i := by
  have e1 (x : Fin 64) : heads (extractStridedSlice S16x2048x1024 ![0, 0, 1024] (prod h w) slices_S16x2048x13312_S16x2048x1024_0_0_1024) (ix5 b H g R x) =
      colv h w b R (⟨1024 + (128 * H.val + (64 * g.val + x.val)), by omega⟩ : Fin 13312) := by
    rw [heads_at, ← prod_at]
    pointwise
  simp only [spin, turned, pair, e1]
  rfl

/-- The scores' factor. -/
def qs : EReal := Ideal.ofBits .f32 0x3E38AA3B#32

theorem both_q (b : Fin 16) (R : Fin 2048) (H : Fin 8) (e g a : Fin 2) (i : Fin 16) :
    both h w (ix3 b R (⟨128 * H.val + (64 * e.val + 32 * g.val + 16 * a.val + i.val), by omega⟩ : Fin 2048)) =
      turned h w 0 (by omega) b R H g a e i * qs := by
  rw [← spin_q, ← rope_at]
  have e1 := lanes_at (mulf (rope (heads (extractStridedSlice S16x2048x1024 ![0, 0, 0] (prod h w) slices_S16x2048x13312_S16x2048x1024_0_0_0))) (broadcastInDim S16x8x2x2048x64 ![] bcast_S_S16x8x2x2048x64 (constant S_ .f32 0x3E38AA3B#32))) b R H e g a i
  pointwise [both]
  rw [dif_pos (by omega)]
  unfold queries
  refine e1.trans ?_
  pointwise [qs]

theorem both_k (b : Fin 16) (R : Fin 2048) (H : Fin 8) (e g a : Fin 2) (i : Fin 16) :
    both h w (ix3 b R (⟨1024 + (128 * H.val + (64 * e.val + 32 * g.val + 16 * a.val + i.val)), by omega⟩ : Fin 2048)) =
      turned h w 1024 (by omega) b R H g a e i := by
  rw [← spin_k, ← rope_at]
  have e1 := lanes_at (rope (heads (extractStridedSlice S16x2048x1024 ![0, 0, 1024] (prod h w) slices_S16x2048x13312_S16x2048x1024_0_0_1024))) b R H e g a i
  pointwise [both]
  unfold keys
  exact e1

end Cert.Rope

end
-- ==== Proof.Turn.lean ====
module

public import proofs.«01_k».proof.Proof.Rope
public import proofs.«01_k».proof.Proof.Scatter
public import proofs.«01_k».proof.Proof.Gen.Kernel4Ideal.Value
public import Idealize.ShloMosaic.Lib.Pipeline.ValueKit

@[expose] public section

set_option maxRecDepth 16384

/-! # The call that projects and rotates queries and keys

A block is a batch's product with a kilocolumn of the reordered weights, turned by the tables. -/

noncomputable section

open Idealize.ShloMosaic Idealize.ShloMosaic.TcCoe Idealize.SL.Sem
open Idealize.ShloMosaic.Pipeline (Dat)

namespace Cert.Kernel4Ideal.Turn

open Cert.Kernel4Ideal Cert.Kernel4Ideal.Gen
open Cert.Rope (ang angR angC qs pair turned colv)

/-! ## The block -/

/-- An entry of the block's product. -/
def dot (x0 : Vec Ideal S1x2048x1024 .bf16) (x1 : Vec Ideal S1x1024x1024 .bf16) (R : Fin 2048) (x : Fin 1024) : EReal :=
  ∑ k : Fin 1024, (show EReal from x0 (ix3 0 R k)) * (show EReal from x1 (ix3 0 k x))

/-- A head of the block, turned by the tables. -/
def turn (A : FVec Ideal S2048x1024 .f32) (C S : FVec Ideal S2048x128 .f32) (n : ℕ) (hn : n ≤ 896) (R : Fin 2048) (l : Fin 128) : EReal :=
  (show EReal from A (ix2 R (⟨n + l.val, by omega⟩ : Fin 1024))) * (show EReal from C (ix2 R l)) +
    (show EReal from A (ix2 R (⟨n + (l.val + 128 - 64) % 128, by omega⟩ : Fin 1024))) * (show EReal from S (ix2 R l))

theorem pay6_at (x0 : Vec Ideal S1x2048x1024 .bf16) (x1 : Vec Ideal S1x1024x1024 .bf16) (x2 x3 : Vec Ideal S1x2048x128 .f32) (u : Fin 1) (R : Fin 2048) (l : Fin 128) :
    k0_pay6 x0 x1 x2 x3 (ix3 u R l) = turn (k0_pay3 x0 x1) (k0_pay4 x2) (k0_pay5 x3) 0 (by omega) R l := by
  pointwise [k0_pay6, turn]

theorem pay7_at (x0 : Vec Ideal S1x2048x1024 .bf16) (x1 : Vec Ideal S1x1024x1024 .bf16) (x2 x3 : Vec Ideal S1x2048x128 .f32) (u : Fin 1) (R : Fin 2048) (l : Fin 128) :
    k0_pay7 x0 x1 x2 x3 (ix3 u R l) = turn (k0_pay3 x0 x1) (k0_pay4 x2) (k0_pay5 x3) 128 (by omega) R l := by
  pointwise [k0_pay7, turn]

theorem pay8_at (x0 : Vec Ideal S1x2048x1024 .bf16) (x1 : Vec Ideal S1x1024x1024 .bf16) (x2 x3 : Vec Ideal S1x2048x128 .f32) (u : Fin 1) (R : Fin 2048) (l : Fin 128) :
    k0_pay9 (k0_pay8 x0 x1 x2 x3) (ix3 u R l) = turn (k0_pay3 x0 x1) (k0_pay4 x2) (k0_pay5 x3) 256 (by omega) R l := by
  pointwise [k0_pay9, k0_pay8, turn]

theorem pay10_at (A : FVec Ideal S2048x1024 .f32) (C S : FVec Ideal S2048x128 .f32) (u : Fin 1) (R : Fin 2048) (l : Fin 128) :
    k0_pay10 A C S (ix3 u R l) = turn A C S 384 (by omega) R l := by
  pointwise [k0_pay10, turn]

theorem pay11_at (A : FVec Ideal S2048x1024 .f32) (C S : FVec Ideal S2048x128 .f32) (u : Fin 1) (R : Fin 2048) (l : Fin 128) :
    k0_pay11 A C S (ix3 u R l) = turn A C S 512 (by omega) R l := by
  pointwise [k0_pay11, turn]

theorem pay12_at (A : FVec Ideal S2048x1024 .f32) (C S : FVec Ideal S2048x128 .f32) (u : Fin 1) (R : Fin 2048) (l : Fin 128) :
    k0_pay12 A C S (ix3 u R l) = turn A C S 640 (by omega) R l := by
  pointwise [k0_pay12, turn]

theorem pay13_at (A : FVec Ideal S2048x1024 .f32) (C S : FVec Ideal S2048x128 .f32) (u : Fin 1) (R : Fin 2048) (l : Fin 128) :
    k0_pay1 (k0_pay13 A C S) (ix3 u R l) = turn A C S 768 (by omega) R l := by
  pointwise [k0_pay1, k0_pay13, turn]

theorem pay2_at (A : FVec Ideal S2048x1024 .f32) (C S : FVec Ideal S2048x128 .f32) (u : Fin 1) (R : Fin 2048) (l : Fin 128) :
    k0_pay2 A C S (ix3 u R l) = turn A C S 896 (by omega) R l := by
  pointwise [k0_pay2, turn]

variable (x0 : Vec Ideal S1x2048x1024 .bf16) (x1 : Vec Ideal S1x1024x1024 .bf16) (x2 x3 : Vec Ideal S1x2048x128 .f32)

theorem acc_at (R : Fin 2048) (x : Fin 1024) : k0_pay14 x0 x1 x2 x3 (ix2 R x) = dot x0 x1 R x := by
  unfold k0_pay14
  frame_out
  pointwise [k0_pay3, dot]

theorem cos_at (R : Fin 2048) (l : Fin 128) : k0_pay15 x0 x1 x2 x3 (ix2 R l) = x2 (ix3 0 R l) := by
  unfold k0_pay15
  frame_out
  pointwise [k0_pay4]

theorem sin_at (R : Fin 2048) (l : Fin 128) : k0_pay16 x0 x1 x2 x3 (ix2 R l) = x3 (ix3 0 R l) := by
  unfold k0_pay16
  frame_out
  pointwise [k0_pay5]

theorem turn_eq (R : Fin 2048) (H : Fin 8) (l : Fin 128) (n : ℕ) (hn : n ≤ 896) (he : 128 * H.val = n) (l' : Fin 128) (R' : Fin 2048) (hl : l'.val = l.val) (hR : R'.val = R.val) :
    turn (k0_pay14 x0 x1 x2 x3) (k0_pay15 x0 x1 x2 x3) (k0_pay16 x0 x1 x2 x3) n hn R' l' =
      dot x0 x1 R ⟨128 * H.val + l.val, by omega⟩ * (show EReal from x2 (ix3 0 R l)) +
        dot x0 x1 R ⟨128 * H.val + (l.val + 128 - 64) % 128, by omega⟩ * (show EReal from x3 (ix3 0 R l)) := by
  subst he
  obtain rfl := Fin.ext hl
  obtain rfl := Fin.ext hR
  unfold turn
  rw [acc_at, acc_at, cos_at, sin_at]

set_option backward.isDefEq.respectTransparency false in
theorem block (R : Fin 2048) (H : Fin 8) (l : Fin 128) :
    out0_4 (F := Ideal) x0 x1 x2 x3 (ix3 0 R (⟨128 * H.val + l.val, by omega⟩ : Fin 1024)) =
      dot x0 x1 R ⟨128 * H.val + l.val, by omega⟩ * (show EReal from x2 (ix3 0 R l)) +
        dot x0 x1 R ⟨128 * H.val + (l.val + 128 - 64) % 128, by omega⟩ * (show EReal from x3 (ix3 0 R l)) := by
  unfold out0_4
  canon_tiles y h using View.cover_of_tiledBy _ ![1, 2048, 128] (by sl_kernel_rfl) _
  case piece0 =>
    have e1 : R.val = (y 1).val := h1
    have e2 : 128 * H.val + l.val = 896 + (y 2).val := h2
    obtain ⟨u, r, s, rfl⟩ : ∃ u r s, y = ix3 u r s := ⟨y 0, y 1, y 2, by funext a; fin_cases a <;> rfl⟩
    have e3 : R.val = r.val := e1
    have e4 : 128 * H.val + l.val = 896 + s.val := e2
    exact (pay2_at _ _ _ u r s).trans (turn_eq x0 x1 x2 x3 R H l 896 (by omega) (by omega) s r (by omega) e3.symm)
  case piece1 =>
    have e1 : R.val = (y 1).val := h1
    have e2 : 128 * H.val + l.val = 768 + (y 2).val := h2
    obtain ⟨u, r, s, rfl⟩ : ∃ u r s, y = ix3 u r s := ⟨y 0, y 1, y 2, by funext a; fin_cases a <;> rfl⟩
    have e3 : R.val = r.val := e1
    have e4 : 128 * H.val + l.val = 768 + s.val := e2
    exact (pay13_at _ _ _ u r s).trans (turn_eq x0 x1 x2 x3 R H l 768 (by omega) (by omega) s r (by omega) e3.symm)
  case piece2 =>
    have e1 : R.val = (y 1).val := h1
    have e2 : 128 * H.val + l.val = 640 + (y 2).val := h2
    obtain ⟨u, r, s, rfl⟩ : ∃ u r s, y = ix3 u r s := ⟨y 0, y 1, y 2, by funext a; fin_cases a <;> rfl⟩
    have e3 : R.val = r.val := e1
    have e4 : 128 * H.val + l.val = 640 + s.val := e2
    exact (pay12_at _ _ _ u r s).trans (turn_eq x0 x1 x2 x3 R H l 640 (by omega) (by omega) s r (by omega) e3.symm)
  case piece3 =>
    have e1 : R.val = (y 1).val := h1
    have e2 : 128 * H.val + l.val = 512 + (y 2).val := h2
    obtain ⟨u, r, s, rfl⟩ : ∃ u r s, y = ix3 u r s := ⟨y 0, y 1, y 2, by funext a; fin_cases a <;> rfl⟩
    have e3 : R.val = r.val := e1
    have e4 : 128 * H.val + l.val = 512 + s.val := e2
    exact (pay11_at _ _ _ u r s).trans (turn_eq x0 x1 x2 x3 R H l 512 (by omega) (by omega) s r (by omega) e3.symm)
  case piece4 =>
    have e1 : R.val = (y 1).val := h1
    have e2 : 128 * H.val + l.val = 384 + (y 2).val := h2
    obtain ⟨u, r, s, rfl⟩ : ∃ u r s, y = ix3 u r s := ⟨y 0, y 1, y 2, by funext a; fin_cases a <;> rfl⟩
    have e3 : R.val = r.val := e1
    have e4 : 128 * H.val + l.val = 384 + s.val := e2
    exact (pay10_at _ _ _ u r s).trans (turn_eq x0 x1 x2 x3 R H l 384 (by omega) (by omega) s r (by omega) e3.symm)
  case piece5 =>
    have e1 : R.val = (y 1).val := h1
    have e2 : 128 * H.val + l.val = 256 + (y 2).val := h2
    obtain ⟨u, r, s, rfl⟩ : ∃ u r s, y = ix3 u r s := ⟨y 0, y 1, y 2, by funext a; fin_cases a <;> rfl⟩
    have e3 : R.val = r.val := e1
    have e4 : 128 * H.val + l.val = 256 + s.val := e2
    exact (pay8_at _ _ _ _ u r s).trans (turn_eq x0 x1 x2 x3 R H l 256 (by omega) (by omega) s r (by omega) e3.symm)
  case piece6 =>
    have e1 : R.val = (y 1).val := h1
    have e2 : 128 * H.val + l.val = 128 + (y 2).val := h2
    obtain ⟨u, r, s, rfl⟩ : ∃ u r s, y = ix3 u r s := ⟨y 0, y 1, y 2, by funext a; fin_cases a <;> rfl⟩
    have e3 : R.val = r.val := e1
    have e4 : 128 * H.val + l.val = 128 + s.val := e2
    exact (pay7_at _ _ _ _ u r s).trans (turn_eq x0 x1 x2 x3 R H l 128 (by omega) (by omega) s r (by omega) e3.symm)
  case piece7 =>
    have e1 : R.val = (y 1).val := h1
    have e2 : 128 * H.val + l.val = (y 2).val := h2
    obtain ⟨u, r, s, rfl⟩ : ∃ u r s, y = ix3 u r s := ⟨y 0, y 1, y 2, by funext a; fin_cases a <;> rfl⟩
    have e3 : R.val = r.val := e1
    have e4 : 128 * H.val + l.val = s.val := e2
    exact (pay6_at _ _ _ _ u r s).trans (turn_eq x0 x1 x2 x3 R H l 0 (by omega) (by omega) s r (by omega) e3.symm)

/-! ## The host's arrays -/

variable (m : (ℓ : Loc nD τ sig) → Buf (Elt Ideal) ℓ)

theorem idx : ∀ t : Fin cfg0.N, win0_0.index t = ![t.val / 2, 0, 0] ∧ win0_1.index t = ![1, 0, t.val % 2] ∧
    win0_2.index t = ![t.val % 2, 0, 0] ∧ win0_3.index t = ![t.val % 2, 0, 0] ∧ win0_4.index t = ![t.val / 2, 0, t.val % 2] :=
  (by decide +kernel : ∀ t : Fin grid0.N, _)

theorem tlt (t : Fin cfg0.N) : t.val < 32 := t.isLt

theorem b0 (c : Dev nD) (t : Fin cfg0.N) (R : Fin 2048) (k : Fin 1024) :
    iblk m c 0 t (ix3 0 R k) = V m c main_v7 (ix3 (⟨t.val / 2, by have := tlt t; omega⟩ : Fin 16) R k) := by
  blk_ext [iblk, idx t]

theorem read1 (W : Vec Ideal S4x1024x13312 .bf16) (t : Fin cfg0.N) (k x : Fin 1024) :
    (win0_1.blk t).view.read (Elt Ideal) W (ix3 0 k x) = W (ix3 1 k (⟨1024 * (t.val % 2) + x.val, by omega⟩ : Fin 13312)) := by
  blk_ext [idx t]

theorem b1 (c : Dev nD) (t : Fin cfg0.N) (k x : Fin 1024) :
    iblk m c 1 t (ix3 0 k x) = V m c main_v6 (ix3 1 k (⟨1024 * (t.val % 2) + x.val, by omega⟩ : Fin 13312)) :=
  read1 (V m c main_v6) t k x

theorem read2 (W : Vec Ideal S2x2048x128 .f32) (t : Fin cfg0.N) (R : Fin 2048) (l : Fin 128) :
    (win0_2.blk t).view.read (Elt Ideal) W (ix3 0 R l) = W (ix3 (⟨t.val % 2, by omega⟩ : Fin 2) R l) := by
  blk_ext [idx t]

theorem read3 (W : Vec Ideal S2x2048x128 .f32) (t : Fin cfg0.N) (R : Fin 2048) (l : Fin 128) :
    (win0_3.blk t).view.read (Elt Ideal) W (ix3 0 R l) = W (ix3 (⟨t.val % 2, by omega⟩ : Fin 2) R l) := by
  blk_ext [idx t]

theorem b2 (c : Dev nD) (t : Fin cfg0.N) (R : Fin 2048) (l : Fin 128) :
    iblk m c 2 t (ix3 0 R l) = V m c main_v52 (ix3 (⟨t.val % 2, by omega⟩ : Fin 2) R l) := read2 (V m c main_v52) t R l

theorem b3 (c : Dev nD) (t : Fin cfg0.N) (R : Fin 2048) (l : Fin 128) :
    iblk m c 3 t (ix3 0 R l) = V m c main_v57 (ix3 (⟨t.val % 2, by omega⟩ : Fin 2) R l) := read3 (V m c main_v57) t R l

theorem hidden (c : Dev nD) (b : Fin 16) (R : Fin 2048) (k : Fin 1024) :
    V m c main_v7 (ix3 b R k) = m ((c : Thread nD τ).loc main_arg0) (ix3 b R k) := by
  unfold V
  simp only [hostOps0, hostOps0_1, hostOps0_2, List.flatten_cons, List.flatten_nil, List.append_nil, List.cons_append, List.nil_append]
  after_results
  rfl

/-- The head layout of the weights' columns. -/
def layW (X : FVec Ideal S4x1024x2048 .bf16) : FVec Ideal S4x1024x2048 .bf16 :=
  shapeCast S4x1024x2048 (transpose S4x1024x16x2x2x2x16 [0, 1, 2, 5, 3, 4, 6] (shapeCast S4x1024x16x2x2x2x16 X shapeCasts_S4x1024x2048_S4x1024x16x2x2x2x16) transposes_S4x1024x16x2x2x2x16_S4x1024x16x2x2x2x16_0_1_2_5_3_4_6) shapeCasts_S4x1024x16x2x2x2x16_S4x1024x2048

theorem layW_at (X : FVec Ideal S4x1024x2048 .bf16) (d : Fin 4) (k : Fin 1024) (h : Fin 16) (p a e : Fin 2) (i : Fin 16) :
    layW X (ix3 d k (⟨128 * h.val + 64 * p.val + 32 * a.val + 16 * e.val + i.val, by omega⟩ : Fin 2048)) =
      X (ix3 d k (⟨128 * h.val + 64 * a.val + 32 * e.val + 16 * p.val + i.val, by omega⟩ : Fin 2048)) := by
  pointwise [layW]
  blk_ext []

theorem front_at (W : FVec Ideal S4x1024x13312 .f32) (d : Fin 4) (k : Fin 1024) (x : Fin 2048) :
    (extractStridedSlice S4x1024x2048 ![0, 0, 0] (truncf .bf16 W bitsLt_bf16_f32) slices_S4x1024x13312_S4x1024x2048_0_0_0 : FVec Ideal S4x1024x2048 .bf16) (ix3 d k x) =
      W (ix3 d k (⟨x.val, by omega⟩ : Fin 13312)) := by
  pointwise

theorem weights (c : Dev nD) (k : Fin 1024) (h : Fin 16) (p a e : Fin 2) (i : Fin 16) :
    V m c main_v6 (ix3 1 k (⟨128 * h.val + 64 * p.val + 32 * a.val + 16 * e.val + i.val, by omega⟩ : Fin 13312)) =
      m ((c : Thread nD τ).loc main_arg1) (ix3 1 k (⟨128 * h.val + 64 * a.val + 32 * e.val + 16 * p.val + i.val, by omega⟩ : Fin 13312)) := by
  refine Eq.trans ?_ ((layW_at (extractStridedSlice S4x1024x2048 ![0, 0, 0] (truncf .bf16 (m ((c : Thread nD τ).loc main_arg1)) bitsLt_bf16_f32) slices_S4x1024x13312_S4x1024x2048_0_0_0) 1 k h p a e i).trans (front_at (m ((c : Thread nD τ).loc main_arg1)) 1 k _))
  unfold V
  simp only [hostOps0, hostOps0_1, hostOps0_2, List.flatten_cons, List.flatten_nil, List.append_nil, List.cons_append, List.nil_append]
  after_results
  exact Cert.Scatter.written scatter_S4x1024x13312_S1_S4x1024x2048_012_n_2_0 rfl rfl rfl _ _ (fun _ => rfl) _ _ _ _ _ rfl

/-- The angle of every lane. -/
def tab : FVec Ideal S2048x128 .f32 :=
  concatenate S2048x128 1 [⟨S2048x16, angR⟩, ⟨S2048x16, angC⟩, ⟨S2048x16, angR⟩, ⟨S2048x16, angC⟩, ⟨S2048x16, angR⟩, ⟨S2048x16, angC⟩, ⟨S2048x16, angR⟩, ⟨S2048x16, angC⟩]
    concatenates_S2048x16_S2048x16_S2048x16_S2048x16_S2048x16_S2048x16_S2048x16_S2048x16_S2048x128_d1

theorem tab_at (R : Fin 2048) (e g a : Fin 2) (i : Fin 16) :
    tab (ix2 R (⟨64 * e.val + 32 * g.val + 16 * a.val + i.val, by omega⟩ : Fin 128)) = ang a (ix2 R i) := by
  have ea : a = 0 ∨ a = 1 := by omega
  have ee : e = 0 ∨ e = 1 := by omega
  have eg : g = 0 ∨ g = 1 := by omega
  rcases ea with rfl | rfl <;> rcases ee with rfl | rfl <;> rcases eg with rfl | rfl <;> pointwise [tab, ang]
  all_goals repeat rw [dif_neg (by omega)]
  all_goals try rw [dif_pos (by omega)]
  all_goals blk_ext []

/-- The sign of every lane's sine. -/
def sgn : FVec Ideal S128 .f32 :=
  select (cmpi .slt (iotaInDim S128 32 0) (broadcastInDim S128 ![] bcast_S_S128 (constantI S_ 32 64#32))) (broadcastInDim S128 ![] bcast_S_S128 (constant S_ .f32 0xBF800000#32)) (broadcastInDim S128 ![] bcast_S_S128 (constant S_ .f32 0x3F800000#32))

theorem sgn_at (l : Fin 128) : sgn (ix1 l) = if l.val < 64 then (-1 : EReal) else 1 := by
  have e1 : Ideal.ofBits .f32 0xBF800000#32 = -1 := by
    have e2 : Ideal.ofBits .f32 0xBF800000#32 = ((-(8388608 * (2 ^ 23)⁻¹) : ℝ) : EReal) := by
      simp [Ideal.ofBits, Ideal.ieee]
    rw [e2]
    norm_num
  pointwise [sgn]
  rw [WordCmp.cmpi_slt_ofNat (by omega) (by omega), e1]
  by_cases hl : l.val < 64 <;> simp [hl, Scalar.select]

/-- The signed sines. -/
def sinT : FVec Ideal S2048x128 .f32 :=
  mulf (Host.sin tab) (broadcastInDim S2048x128 ![0, 1] bcast_S1x128_S2048x128_0_1 (broadcastInDim S1x128 ![1] bcast_S128_S1x128_1 sgn))

/-- A table with the queries' factor and one without. -/
def two (t : FVec Ideal S2048x128 .f32) : FVec Ideal S2x2048x128 .f32 :=
  concatenate S2x2048x128 0
    [⟨S1x2048x128, broadcastInDim S1x2048x128 ![1, 2] bcast_S2048x128_S1x2048x128_1_2 (mulf t (broadcastInDim S2048x128 ![] bcast_S_S2048x128 (constant S_ .f32 0x3E38AA3B#32)))⟩,
     ⟨S1x2048x128, broadcastInDim S1x2048x128 ![1, 2] bcast_S2048x128_S1x2048x128_1_2 t⟩] concatenates_S1x2048x128_S1x2048x128_S2x2048x128_d0

theorem two_q (t : FVec Ideal S2048x128 .f32) (R : Fin 2048) (l : Fin 128) : two t (ix3 0 R l) = (show EReal from t (ix2 R l)) * qs := by
  pointwise [two, qs]

theorem two_k (t : FVec Ideal S2048x128 .f32) (R : Fin 2048) (l : Fin 128) : two t (ix3 1 R l) = t (ix2 R l) := by
  pointwise [two]

theorem sinT_at (R : Fin 2048) (l : Fin 128) : sinT (ix2 R l) = Ideal.sin (tab (ix2 R l)) * (if l.val < 64 then (-1 : EReal) else 1) := by
  rw [← sgn_at]
  pointwise [sinT]

theorem v52 (c : Dev nD) : V m c main_v52 = two (Host.cos tab) := by
  unfold V
  simp only [hostOps0, hostOps0_1, hostOps0_2, List.flatten_cons, List.flatten_nil, List.append_nil, List.cons_append, List.nil_append]
  after_results
  rfl

theorem v57 (c : Dev nD) : V m c main_v57 = two sinT := by
  unfold V
  simp only [hostOps0, hostOps0_1, hostOps0_2, List.flatten_cons, List.flatten_nil, List.append_nil, List.cons_append, List.nil_append]
  after_results
  rfl

/-! ## Turning with the factor in the tables -/

theorem qs_pos : 0 ≤ qs ∧ qs ≠ ⊤ := by
  have e1 : qs = ((12102203 * (2 ^ 26)⁻¹ : ℝ) : EReal) := by
    simp [qs, Ideal.ofBits, Ideal.ieee]
  rw [e1]
  exact ⟨EReal.coe_nonneg.mpr (by positivity), EReal.coe_ne_top _⟩

theorem scaled (x y c s : EReal) : x * (c * qs) + y * (s * qs) = (x * c + y * s) * qs := by
  rw [EReal.right_distrib_of_nonneg_of_ne_top qs_pos.1 qs_pos.2, mul_assoc, mul_assoc]

theorem minus (x y c s : EReal) : x * c + y * (s * (-1)) = x * c - y * s := by
  rw [mul_neg, mul_one, mul_neg, sub_eq_add_neg]

/-! ## The result -/

theorem split (x : Fin 1024) : ∃ (H : Fin 8) (e g a : Fin 2) (i : Fin 16),
    x = ⟨128 * H.val + (64 * e.val + 32 * g.val + 16 * a.val + i.val), by omega⟩ :=
  ⟨⟨x.val / 128, by omega⟩, ⟨x.val / 64 % 2, by omega⟩, ⟨x.val / 32 % 2, by omega⟩, ⟨x.val / 16 % 2, by omega⟩, ⟨x.val % 16, by omega⟩,
    Fin.ext (by show x.val = 128 * (x.val / 128) + (64 * (x.val / 64 % 2) + 32 * (x.val / 32 % 2) + 16 * (x.val / 16 % 2) + x.val % 16); omega)⟩

variable (c : Dev nD) (t : Fin cfg0.N)

/-- The block's product is the projection's dimension of a pair. -/
theorem dot_eq (R : Fin 2048) (H : Fin 8) (e g a : Fin 2) (i : Fin 16) (x : Fin 1024)
    (hx : x.val = 128 * H.val + (64 * e.val + 32 * g.val + 16 * a.val + i.val)) :
    dot (iblk m c 0 t) (iblk m c 1 t) R x =
      pair (m ((c : Thread nD τ).loc main_arg0)) (m ((c : Thread nD τ).loc main_arg1)) (1024 * (t.val % 2)) (by omega)
        (⟨t.val / 2, by have := tlt t; omega⟩ : Fin 16) R H g a e i := by
  unfold dot pair colv
  refine Finset.sum_congr rfl fun k _ => congrArg₂ (fun p q : EReal => p * q) ((b0 m c t R k).trans (hidden m c _ R k)) ?_
  refine (b1 m c t k x).trans (Eq.trans ?_ ((weights m c k (⟨8 * (t.val % 2) + H.val, by omega⟩ : Fin 16) e g a i).trans ?_))
  · exact congrArg (fun z => V m c main_v6 (ix3 1 k z)) (Fin.ext (by show 1024 * (t.val % 2) + x.val = _; simp only [hx]; omega))
  · exact congrArg (fun z => m ((c : Thread nD τ).loc main_arg1) (ix3 1 k z)) (Fin.ext (by simp only []; omega))

theorem cos_blk (R : Fin 2048) (l : Fin 128) (j : Fin 2) (hj : t.val % 2 = j.val) : iblk m c 2 t (ix3 0 R l) = two (Host.cos tab) (ix3 j R l) := by
  rw [b2, v52]
  exact congrArg (fun z : Fin 2 => two (Host.cos tab) (ix3 z R l)) (Fin.ext hj)

theorem sin_blk (R : Fin 2048) (l : Fin 128) (j : Fin 2) (hj : t.val % 2 = j.val) : iblk m c 3 t (ix3 0 R l) = two sinT (ix3 j R l) := by
  rw [b3, v57]
  exact congrArg (fun z : Fin 2 => two sinT (ix3 z R l)) (Fin.ext hj)

variable (h : FVec Ideal S16x2048x1024 .f32) (w : FVec Ideal S4x1024x13312 .f32)

/-- The turn of a pair, its second sine signed. -/
theorem turned_eq (n n' : ℕ) (hn : n ≤ 1024) (hn' : n' ≤ 1024) (en : n = n') (b : Fin 16) (R : Fin 2048) (H : Fin 8) (e g a : Fin 2) (i : Fin 16) (l : ℕ)
    (hl : l = 64 * e.val + 32 * g.val + 16 * a.val + i.val) :
    pair h w n hn b R H g a e i * Ideal.cos (ang a (ix2 R i)) +
        pair h w n hn b R H g a (⟨1 - e.val, by omega⟩ : Fin 2) i * (Ideal.sin (ang a (ix2 R i)) * (if l < 64 then (-1 : EReal) else 1)) =
      turned h w n' hn' b R H g a e i := by
  subst en
  have ee : e = 0 ∨ e = 1 := by omega
  rcases ee with rfl | rfl
  · have hlt : l < 64 := by simp only [Fin.val_zero] at hl; omega
    rw [if_pos hlt, minus]
    rfl
  · have hlt : ¬ l < 64 := by simp only [Fin.val_one] at hl; omega
    rw [if_neg hlt, mul_one]
    rfl

theorem parts {x y u v p q r s : EReal} (h1 : x = u) (h2 : y = v) (h3 : p = q) (h4 : r = s) : x * y + p * r = u * v + q * s := by
  rw [h1, h2, h3, h4]

theorem result_eq (c : Dev nD) : (dats m 0 c).arrAt 4 cfg0.N =
    Cert.Rope.both (m ((c : Thread nD τ).loc main_arg0)) (m ((c : Thread nD τ).loc main_arg1)) := by
  refine (dats m 0 c).arrAt_eq_of_covers 4 (Cert.Rope.both (m ((c : Thread nD τ).loc main_arg0)) (m ((c : Thread nD τ).loc main_arg1))) (by decide +kernel) ?_
  intro t hf y
  blk_simp
  rw [after0_4]
  obtain ⟨R, x, rfl⟩ : ∃ (R : Fin 2048) (x : Fin 1024), y = ix3 0 R x := by
    idx_vars y
    obtain rfl : y0 = 0 := Subsingleton.elim _ _
    exact ⟨y1, y2, rfl⟩
  obtain ⟨H, e, g, a, i, rfl⟩ := split x
  have ht := tlt t
  refine (block (iblk m c 0 t) (iblk m c 1 t) (iblk m c 2 t) (iblk m c 3 t) R H (⟨64 * e.val + 32 * g.val + 16 * a.val + i.val, by omega⟩ : Fin 128)).trans ?_
  have em : (win0_4.blk t).view.emb (ix3 0 R (⟨128 * H.val + (64 * e.val + 32 * g.val + 16 * a.val + i.val), by omega⟩ : Fin 1024)) =
      ix3 (⟨t.val / 2, by omega⟩ : Fin 16) R (⟨1024 * (t.val % 2) + (128 * H.val + (64 * e.val + 32 * g.val + 16 * a.val + i.val)), by omega⟩ : Fin 2048) := by
    blk_ext [idx t]
  refine Eq.trans ?_ (congrArg (Cert.Rope.both (m ((c : Thread nD τ).loc main_arg0)) (m ((c : Thread nD τ).loc main_arg1))) em).symm
  have d0 := dot_eq m c t R H e g a i ⟨128 * H.val + (64 * e.val + 32 * g.val + 16 * a.val + i.val), by omega⟩ rfl
  have d1 := dot_eq m c t R H ⟨1 - e.val, by omega⟩ g a i ⟨128 * H.val + ((64 * e.val + 32 * g.val + 16 * a.val + i.val) + 128 - 64) % 128, by omega⟩
    (by show 128 * H.val + ((64 * e.val + 32 * g.val + 16 * a.val + i.val) + 128 - 64) % 128 = 128 * H.val + (64 * (1 - e.val) + 32 * g.val + 16 * a.val + i.val); omega)
  have c0 := tab_at R e g a i
  have cs := sinT_at R (⟨64 * e.val + 32 * g.val + 16 * a.val + i.val, by omega⟩ : Fin 128)
  have cc : (Host.cos tab : FVec Ideal S2048x128 .f32) (ix2 R (⟨64 * e.val + 32 * g.val + 16 * a.val + i.val, by omega⟩ : Fin 128)) = Ideal.cos (ang a (ix2 R i)) :=
    congrArg Ideal.cos c0
  rw [c0] at cs
  have ej : t.val % 2 = 0 ∨ t.val % 2 = 1 := by omega
  rcases ej with hj | hj
  · refine (parts d0 (((cos_blk m c t R _ 0 hj).trans (two_q _ R _)).trans (congrArg (fun z : EReal => z * qs) cc)) d1
      (((sin_blk m c t R _ 0 hj).trans (two_q _ R _)).trans (congrArg (fun z : EReal => z * qs) cs))).trans ?_
    rw [scaled]
    refine (congrArg (fun z : EReal => z * qs) (turned_eq _ _ (1024 * (t.val % 2)) 0 (by omega) (by omega) (by omega) _ R H e g a i _ rfl)).trans ?_
    refine (Cert.Rope.both_q _ _ _ R H e g a i).symm.trans ?_
    exact congrArg (fun z => Cert.Rope.both (m ((c : Thread nD τ).loc main_arg0)) (m ((c : Thread nD τ).loc main_arg1)) (ix3 (⟨t.val / 2, by omega⟩ : Fin 16) R z)) (Fin.ext (by simp only [hj]; omega))
  · refine (parts d0 (((cos_blk m c t R _ 1 hj).trans (two_k _ R _)).trans cc) d1
      (((sin_blk m c t R _ 1 hj).trans (two_k _ R _)).trans cs)).trans ?_
    refine (turned_eq _ _ (1024 * (t.val % 2)) 1024 (by omega) (by omega) (by omega) _ R H e g a i _ rfl).trans ?_
    refine (Cert.Rope.both_k _ _ _ R H e g a i).symm.trans ?_
    exact congrArg (fun z => Cert.Rope.both (m ((c : Thread nD τ).loc main_arg0)) (m ((c : Thread nD τ).loc main_arg1)) (ix3 (⟨t.val / 2, by omega⟩ : Fin 16) R z)) (Fin.ext (by simp only [hj]))

end Cert.Kernel4Ideal.Turn

end
-- ==== Proof.Ctx.lean ====
module

public import proofs.«01_k».proof.Proof.Scatter
public import proofs.«01_k».proof.Proof.Gen.Kernel5Ideal.Value
public import proofs.«01_k».proof.Proof.Gen.Reference5Ideal.Run
public import Idealize.ShloMosaic.Lib.Pipeline.ValueKit

@[expose] public section

set_option maxRecDepth 16384

/-! # The context's projection

The first block of a row of the grid norms and modulates its tokens into the scratch, the others read them there. -/

noncomputable section

open Idealize.ShloMosaic Idealize.ShloMosaic.TcCoe Idealize.SL.Sem Idealize.ShloMosaic.StableHlo

namespace Cert.Ctx

open Cert.Reference5Ideal Cert.Reference5Ideal.Gen

/-- A token's normed and modulated row. -/
def nrm (v : Fin 1024 → EReal) (w sc sh : EReal) (k : Fin 1024) : EReal :=
  v k * Ideal.rsqrt (Ideal.div (∑ j : Fin 1024, v j * v j) (Ideal.ofBits .f32 0x44800000#32) + Ideal.ofBits .f32 0x358637BD#32) * w * (1 + sc) + sh

/-- The scores' factor. -/
def qs : EReal := Ideal.ofBits .f32 0x3E38AA3B#32

variable (x : FVec Ideal S16x256x1024 .f32) (mod : FVec Ideal S24x3072 .f32) (nw : FVec Ideal S4x1024 .f32) (w : FVec Ideal S4x1024x13312 .f32)

/-- The normed and modulated tokens. -/
def normed : FVec Ideal S16x256x1024 .f32 :=
  addf (mulf (mulf (mulf x (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf x x) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 (shapeCast S1024 (extractStridedSlice S1x1024 ![0, 0] nw slices_S4x1024_S1x1024_0_0) shapeCasts_S1x1024_S1024)))) (broadcastInDim S16x256x1024 ![0, 1, 2] bcast_S1x1x1024_S16x256x1024_0_1_2 (broadcastInDim S1x1x1024 ![2] bcast_S1024_S1x1x1024_2 (addf (broadcastInDim S1024 ![] bcast_S_S1024 (constant S_ .f32 0x3F800000#32)) (extractStridedSlice S1024 ![1024] (shapeCast S3072 (extractStridedSlice S1x3072 ![16, 0] mod slices_S24x3072_S1x3072_16_0) shapeCasts_S1x3072_S3072) slices_S3072_S1024_1024))))) (broadcastInDim S16x256x1024 ![0, 1, 2] bcast_S1x1x1024_S16x256x1024_0_1_2 (broadcastInDim S1x1x1024 ![2] bcast_S1024_S1x1x1024_2 (extractStridedSlice S1024 ![0] (shapeCast S3072 (extractStridedSlice S1x3072 ![16, 0] mod slices_S24x3072_S1x3072_16_0) shapeCasts_S1x3072_S3072) slices_S3072_S1024_0)))

/-- Their projection. -/
def prod : FVec Ideal S16x256x13312 .f32 :=
  Host.dotGeneral dot_S16x256x1024_S1024x13312_S16x256x13312_2_0_01_1_n_n none (φ₁ := .f32) (φ₂ := .f32) (normed x mod nw) (shapeCast S1024x13312 (extractStridedSlice S1x1024x13312 ![0, 0, 0] w slices_S4x1024x13312_S1x1024x13312_0_0_0) shapeCasts_S1x1024x13312_S1024x13312)

/-- The order of a head's dimensions in the result. -/
def lanes (t : FVec Ideal S16x256x1024 .f32) : FVec Ideal S16x256x1024 .f32 :=
  shapeCast S16x256x1024 (transpose S16x256x8x2x2x2x16 [0, 1, 2, 5, 3, 4, 6] (shapeCast S16x256x8x2x2x2x16 t shapeCasts_S16x256x1024_S16x256x8x2x2x2x16) transposes_S16x256x8x2x2x2x16_S16x256x8x2x2x2x16_0_1_2_5_3_4_6) shapeCasts_S16x256x8x2x2x2x16_S16x256x1024

/-- Queries, keys and the other columns. -/
def cols : FVec Ideal S16x256x13312 .f32 :=
  concatenate S16x256x13312 2
    [⟨S16x256x1024, lanes (mulf (extractStridedSlice S16x256x1024 ![0, 0, 0] (prod x mod nw w) slices_S16x256x13312_S16x256x1024_0_0_0) (broadcastInDim S16x256x1024 ![] bcast_S_S16x256x1024 (constant S_ .f32 0x3E38AA3B#32)))⟩,
     ⟨S16x256x1024, lanes (extractStridedSlice S16x256x1024 ![0, 0, 1024] (prod x mod nw w) slices_S16x256x13312_S16x256x1024_0_0_1024)⟩,
     ⟨S16x256x11264, extractStridedSlice S16x256x11264 ![0, 0, 2048] (prod x mod nw w) slices_S16x256x13312_S16x256x11264_0_0_2048⟩]
    concatenates_S16x256x1024_S16x256x1024_S16x256x11264_S16x256x13312_d2

/-- The reference's array. -/
def all : FVec Ideal S1x4096x13312 .bf16 :=
  truncf .bf16 (shapeCast S1x4096x13312 (cols x mod nw w) shapeCasts_S16x256x13312_S1x4096x13312) bitsLt_bf16_f32

theorem res_eq (m : (ℓ : Loc nD τ sig) → Buf (Elt Ideal) ℓ) (c : Dev nD) :
    Cert.Reference5Ideal.Value.res_main_v44 m c = all (m ((c.tc : Thread nD τ).loc main_arg0)) (m ((c.tc : Thread nD τ).loc main_arg1))
      (m ((c.tc : Thread nD τ).loc main_arg2)) (m ((c.tc : Thread nD τ).loc main_arg3)) := rfl

/-- An entry of the normed and modulated tokens. -/
def hid (b : Fin 16) (r : Fin 256) (k : Fin 1024) : EReal :=
  nrm (fun j => x (ix3 b r j)) (nw (ix2 0 k)) (mod (ix2 16 (⟨1024 + k.val, by omega⟩ : Fin 3072))) (mod (ix2 16 (⟨k.val, by omega⟩ : Fin 3072))) k

theorem normed_at (b : Fin 16) (r : Fin 256) (k : Fin 1024) : normed x mod nw (ix3 b r k) = hid x mod nw b r k := by
  pointwise [normed, hid, nrm]

/-- An entry of the projection. -/
def col (b : Fin 16) (r : Fin 256) (X : Fin 13312) : EReal :=
  ∑ k : Fin 1024, hid x mod nw b r k * (show EReal from w (ix3 0 k X))

theorem prod_at (b : Fin 16) (r : Fin 256) (X : Fin 13312) : prod x mod nw w (ix3 b r X) = col x mod nw w b r X := by
  unfold col
  simp only [← normed_at]
  pointwise [prod]

theorem lanes_at (t : FVec Ideal S16x256x1024 .f32) (b : Fin 16) (r : Fin 256) (H : Fin 8) (e g a : Fin 2) (i : Fin 16) :
    lanes t (ix3 b r (⟨128 * H.val + (64 * e.val + 32 * g.val + 16 * a.val + i.val), by omega⟩ : Fin 1024)) =
      t (ix3 b r (⟨128 * H.val + (64 * g.val + 32 * a.val + 16 * e.val + i.val), by omega⟩ : Fin 1024)) := by
  pointwise [lanes]
  blk_ext []

theorem flat_at (t : FVec Ideal S16x256x13312 .f32) (p : Fin 4096) (X : Fin 13312) :
    (truncf .bf16 (shapeCast S1x4096x13312 t shapeCasts_S16x256x13312_S1x4096x13312) bitsLt_bf16_f32 : FVec Ideal S1x4096x13312 .bf16) (ix3 0 p X) =
      t (ix3 (⟨p.val / 256, by omega⟩ : Fin 16) (⟨p.val % 256, by omega⟩ : Fin 256) X) := by
  pointwise
  blk_ext []

theorem all_q (p : Fin 4096) (H : Fin 8) (e g a : Fin 2) (i : Fin 16) :
    all x mod nw w (ix3 0 p (⟨128 * H.val + (64 * e.val + 32 * g.val + 16 * a.val + i.val), by omega⟩ : Fin 13312)) =
      col x mod nw w ⟨p.val / 256, by omega⟩ ⟨p.val % 256, by omega⟩ (⟨128 * H.val + (64 * g.val + 32 * a.val + 16 * e.val + i.val), by omega⟩ : Fin 13312) * qs := by
  refine (flat_at _ p _).trans ?_
  have e1 := lanes_at (mulf (extractStridedSlice S16x256x1024 ![0, 0, 0] (prod x mod nw w) slices_S16x256x13312_S16x256x1024_0_0_0) (broadcastInDim S16x256x1024 ![] bcast_S_S16x256x1024 (constant S_ .f32 0x3E38AA3B#32)))
    ⟨p.val / 256, by omega⟩ ⟨p.val % 256, by omega⟩ H e g a i
  rw [← prod_at]
  pointwise [cols]
  rw [dif_pos (by omega)]
  refine e1.trans ?_
  pointwise [qs]

theorem all_k (p : Fin 4096) (H : Fin 8) (e g a : Fin 2) (i : Fin 16) :
    all x mod nw w (ix3 0 p (⟨1024 + (128 * H.val + (64 * e.val + 32 * g.val + 16 * a.val + i.val)), by omega⟩ : Fin 13312)) =
      col x mod nw w ⟨p.val / 256, by omega⟩ ⟨p.val % 256, by omega⟩ (⟨1024 + (128 * H.val + (64 * g.val + 32 * a.val + 16 * e.val + i.val)), by omega⟩ : Fin 13312) := by
  refine (flat_at _ p _).trans ?_
  have e1 := lanes_at (extractStridedSlice S16x256x1024 ![0, 0, 1024] (prod x mod nw w) slices_S16x256x13312_S16x256x1024_0_0_1024)
    ⟨p.val / 256, by omega⟩ ⟨p.val % 256, by omega⟩ H e g a i
  rw [← prod_at]
  pointwise [cols]
  rw [dif_pos (by omega)]
  refine e1.trans ?_
  pointwise

theorem all_rest (p : Fin 4096) (X : Fin 11264) :
    all x mod nw w (ix3 0 p (⟨2048 + X.val, by omega⟩ : Fin 13312)) =
      col x mod nw w ⟨p.val / 256, by omega⟩ ⟨p.val % 256, by omega⟩ (⟨2048 + X.val, by omega⟩ : Fin 13312) := by
  refine (flat_at _ p _).trans ?_
  rw [← prod_at]
  pointwise [cols]
  rw [dif_neg (by omega), dif_neg (by omega)]
  exact congrArg (fun z => prod x mod nw w (ix3 _ _ z)) (Fin.ext (by simp only []; omega))

end Cert.Ctx

namespace Cert.Kernel5Ideal.Ctx

open Idealize.ShloMosaic.Pipeline (Dat)
open Cert.Kernel5Ideal Cert.Kernel5Ideal.Gen
open Cert.Ctx (nrm hid col qs)

/-! ## The body -/

/-- An entry of the scratch. -/
def kh (x0 : Vec Ideal S1x2048x1024 .f32) (x1 x2 x3 : Vec Ideal S1x1x1024 .f32) (R : Fin 2048) (k : Fin 1024) : EReal :=
  nrm (fun j => x0 (ix3 0 R j)) (x3 (ix3 0 0 k)) (x2 (ix3 0 0 k)) (x1 (ix3 0 0 k)) k

theorem pay1_at (x0 : Vec Ideal S1x2048x1024 .f32) (x1 x2 x3 : Vec Ideal S1x1x1024 .f32) (R : Fin 2048) (k : Fin 1024) :
    k0_pay1 (F := Ideal) x0 x3 x2 x1 (ix2 R k) = kh x0 x1 x2 x3 R k := by
  pointwise [k0_pay1, kh, nrm]

theorem sel (n : ℕ) (hn : n < 13) (a b : EReal) : Scalar.select (Scalar.cmpi .eq (BitVec.ofNat 32 n) 0#32) a b = if n = 0 then a else b := by
  interval_cases n <;> rfl

theorem pay2_at (i : grid0.Coords) (s : Vec Ideal S2048x1024 .bf16) (x4 : Vec Ideal S1x1024x1024 .bf16) (R : Fin 2048) (x : Fin 1024) :
    k0_pay2 (F := Ideal) i s x4 (ix3 0 R x) = (∑ k : Fin 1024, (show EReal from s (ix2 R k)) * (show EReal from x4 (ix3 0 k x))) * (if (i 2).val = 0 then qs else 1) := by
  have e1 := sel (i 2).val (i 2).isLt qs 1
  rw [← e1]
  pointwise [k0_pay2, qs]

theorem sout_A (c : Dev nD) (i : grid0.Coords) (arg3 : Memref sig .tc .vmem S1x2048x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024x1024 .bf16) (harg7 : arg7.IsWhole) (arg8 : Memref sig .tc .vmem S1x2048x1024 .bf16) (harg8 : arg8.IsWhole) (arg9 : Memref sig .tc .vmem S2048x1024 .bf16) (harg9 : arg9.IsWhole) (hc0 : cond0_0 i) (x0 : Vec Ideal S1x2048x1024 .f32) (x1 : Vec Ideal S1x1x1024 .f32) (x2 : Vec Ideal S1x1x1024 .f32) (x3 : Vec Ideal S1x1x1024 .f32) (x4 : Vec Ideal S1x1024x1024 .bf16) (R : Fin 2048) (k : Fin 1024) :
    sout0_A_0 (F := Ideal) c i arg3 harg3 arg4 harg4 arg5 harg5 arg6 harg6 arg7 harg7 arg8 harg8 arg9 harg9 hc0 x0 x1 x2 x3 x4 (ix2 R k) = kh x0 x1 x2 x3 R k := by
  frame_out
  exact pay1_at x0 x1 x2 x3 R k

theorem out_A (c : Dev nD) (i : grid0.Coords) (arg3 : Memref sig .tc .vmem S1x2048x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024x1024 .bf16) (harg7 : arg7.IsWhole) (arg8 : Memref sig .tc .vmem S1x2048x1024 .bf16) (harg8 : arg8.IsWhole) (arg9 : Memref sig .tc .vmem S2048x1024 .bf16) (harg9 : arg9.IsWhole) (hc0 : cond0_0 i) (x0 : Vec Ideal S1x2048x1024 .f32) (x1 : Vec Ideal S1x1x1024 .f32) (x2 : Vec Ideal S1x1x1024 .f32) (x3 : Vec Ideal S1x1x1024 .f32) (x4 : Vec Ideal S1x1024x1024 .bf16) (R : Fin 2048) (x : Fin 1024) :
    out0_A_5 (F := Ideal) c i arg3 harg3 arg4 harg4 arg5 harg5 arg6 harg6 arg7 harg7 arg8 harg8 arg9 harg9 hc0 x0 x1 x2 x3 x4 (ix3 0 R x) = (∑ k : Fin 1024, kh x0 x1 x2 x3 R k * (show EReal from x4 (ix3 0 k x))) * (if (i 2).val = 0 then qs else 1) := by
  simp only [← pay1_at]
  frame_out
  exact pay2_at i _ x4 R x

theorem out_B (c : Dev nD) (i : grid0.Coords) (arg3 : Memref sig .tc .vmem S1x2048x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024x1024 .bf16) (harg7 : arg7.IsWhole) (arg8 : Memref sig .tc .vmem S1x2048x1024 .bf16) (harg8 : arg8.IsWhole) (arg9 : Memref sig .tc .vmem S2048x1024 .bf16) (harg9 : arg9.IsWhole) (hc0 : ¬cond0_0 i) (x0 : Vec Ideal S1x2048x1024 .f32) (x1 : Vec Ideal S1x1x1024 .f32) (x2 : Vec Ideal S1x1x1024 .f32) (x3 : Vec Ideal S1x1x1024 .f32) (x4 : Vec Ideal S1x1024x1024 .bf16) (xs0 : Vec Ideal S2048x1024 .bf16) (R : Fin 2048) (x : Fin 1024) :
    out0_B_5 (F := Ideal) c i arg3 harg3 arg4 harg4 arg5 harg5 arg6 harg6 arg7 harg7 arg8 harg8 arg9 harg9 hc0 x0 x1 x2 x3 x4 xs0 (ix3 0 R x) = (∑ k : Fin 1024, (show EReal from xs0 (ix2 R k)) * (show EReal from x4 (ix3 0 k x))) * (if (i 2).val = 0 then qs else 1) := by
  frame_out
  exact pay2_at i xs0 x4 R x

/-! ## The arrays -/

variable (m : (ℓ : Loc nD τ sig) → Buf (Elt Ideal) ℓ)

theorem idx : ∀ t : Fin cfg0.N, win0_0.index t = ![0, t.val / 13, 0] ∧ win0_1.index t = ![16, 0, 0] ∧ win0_2.index t = ![16, 0, 1] ∧
    win0_3.index t = ![0, 0, 0] ∧ win0_4.index t = ![0, 0, t.val % 13] ∧ win0_5.index t = ![0, t.val / 13, t.val % 13] ∧ ((grid0.coords t) 2).val = t.val % 13 :=
  (by decide +kernel : ∀ t : Fin grid0.N, _)

theorem tlt (t : Fin cfg0.N) : t.val < 26 := t.isLt

theorem read0 (W : Vec Ideal S1x4096x1024 .f32) (t : Fin cfg0.N) (R : Fin 2048) (k : Fin 1024) :
    (win0_0.blk t).view.read (Elt Ideal) W (ix3 0 R k) = W (ix3 0 (⟨2048 * (t.val / 13) + R.val, by have := tlt t; omega⟩ : Fin 4096) k) := by
  blk_ext [idx t]

theorem read1 (W : Vec Ideal S24x1x3072 .f32) (t : Fin cfg0.N) (k : Fin 1024) :
    (win0_1.blk t).view.read (Elt Ideal) W (ix3 0 0 k) = W (ix3 16 0 (⟨k.val, by omega⟩ : Fin 3072)) := by
  blk_ext [idx t]

theorem read2 (W : Vec Ideal S24x1x3072 .f32) (t : Fin cfg0.N) (k : Fin 1024) :
    (win0_2.blk t).view.read (Elt Ideal) W (ix3 0 0 k) = W (ix3 16 0 (⟨1024 + k.val, by omega⟩ : Fin 3072)) := by
  blk_ext [idx t]

theorem read3 (W : Vec Ideal S4x1x1024 .f32) (t : Fin cfg0.N) (k : Fin 1024) :
    (win0_3.blk t).view.read (Elt Ideal) W (ix3 0 0 k) = W (ix3 0 0 k) := by
  blk_ext [idx t]

theorem read4 (W : Vec Ideal S4x1024x13312 .bf16) (t : Fin cfg0.N) (k x : Fin 1024) :
    (win0_4.blk t).view.read (Elt Ideal) W (ix3 0 k x) = W (ix3 0 k (⟨1024 * (t.val % 13) + x.val, by omega⟩ : Fin 13312)) := by
  blk_ext [idx t]

theorem flatx (X : FVec Ideal S16x256x1024 .f32) (p : Fin 4096) (k : Fin 1024) :
    (shapeCast S1x4096x1024 X shapeCasts_S16x256x1024_S1x4096x1024 : FVec Ideal S1x4096x1024 .f32) (ix3 0 p k) = X (ix3 (⟨p.val / 256, by omega⟩ : Fin 16) (⟨p.val % 256, by omega⟩ : Fin 256) k) := by
  pointwise
  blk_ext []

theorem flatm (X : FVec Ideal S24x3072 .f32) (d : Fin 24) (k : Fin 3072) :
    (shapeCast S24x1x3072 X shapeCasts_S24x3072_S24x1x3072 : FVec Ideal S24x1x3072 .f32) (ix3 d 0 k) = X (ix2 d k) := by
  pointwise

theorem flatw (X : FVec Ideal S4x1024 .f32) (d : Fin 4) (k : Fin 1024) :
    (shapeCast S4x1x1024 X shapeCasts_S4x1024_S4x1x1024 : FVec Ideal S4x1x1024 .f32) (ix3 d 0 k) = X (ix2 d k) := by
  pointwise

theorem v9 (c : Dev nD) : V m c main_v9 = shapeCast S1x4096x1024 (m ((c : Thread nD τ).loc main_arg0)) shapeCasts_S16x256x1024_S1x4096x1024 := by
  unfold V
  after_results
  rfl

theorem v0 (c : Dev nD) : V m c main_v0 = shapeCast S24x1x3072 (m ((c : Thread nD τ).loc main_arg1)) shapeCasts_S24x3072_S24x1x3072 := by
  unfold V
  after_results
  rfl

theorem v1 (c : Dev nD) : V m c main_v1 = shapeCast S4x1x1024 (m ((c : Thread nD τ).loc main_arg2)) shapeCasts_S4x1024_S4x1x1024 := by
  unfold V
  after_results
  rfl

theorem b0 (c : Dev nD) (t : Fin cfg0.N) (R : Fin 2048) (k : Fin 1024) :
    iblk m c 0 t (ix3 0 R k) = m ((c : Thread nD τ).loc main_arg0)
      (ix3 (⟨(2048 * (t.val / 13) + R.val) / 256, by have := tlt t; omega⟩ : Fin 16) (⟨(2048 * (t.val / 13) + R.val) % 256, by omega⟩ : Fin 256) k) :=
  (read0 (V m c main_v9) t R k).trans ((congrFun (v9 m c) _).trans (flatx _ _ k))

theorem b1 (c : Dev nD) (t : Fin cfg0.N) (k : Fin 1024) :
    iblk m c 1 t (ix3 0 0 k) = m ((c : Thread nD τ).loc main_arg1) (ix2 16 (⟨k.val, by omega⟩ : Fin 3072)) :=
  (read1 (V m c main_v0) t k).trans ((congrFun (v0 m c) _).trans (flatm _ _ _))

theorem b2 (c : Dev nD) (t : Fin cfg0.N) (k : Fin 1024) :
    iblk m c 2 t (ix3 0 0 k) = m ((c : Thread nD τ).loc main_arg1) (ix2 16 (⟨1024 + k.val, by omega⟩ : Fin 3072)) :=
  (read2 (V m c main_v0) t k).trans ((congrFun (v0 m c) _).trans (flatm _ _ _))

theorem b3 (c : Dev nD) (t : Fin cfg0.N) (k : Fin 1024) :
    iblk m c 3 t (ix3 0 0 k) = m ((c : Thread nD τ).loc main_arg2) (ix2 0 k) :=
  (read3 (V m c main_v1) t k).trans ((congrFun (v1 m c) _).trans (flatw _ _ _))

theorem b4 (c : Dev nD) (t : Fin cfg0.N) (k x : Fin 1024) :
    iblk m c 4 t (ix3 0 k x) = V m c main_v8 (ix3 0 k (⟨1024 * (t.val % 13) + x.val, by omega⟩ : Fin 13312)) :=
  read4 (V m c main_v8) t k x

/-- The head layout of the weights' columns. -/
def layW (X : FVec Ideal S4x1024x2048 .bf16) : FVec Ideal S4x1024x2048 .bf16 :=
  shapeCast S4x1024x2048 (transpose S4x1024x16x2x2x2x16 [0, 1, 2, 5, 3, 4, 6] (shapeCast S4x1024x16x2x2x2x16 X shapeCasts_S4x1024x2048_S4x1024x16x2x2x2x16) transposes_S4x1024x16x2x2x2x16_S4x1024x16x2x2x2x16_0_1_2_5_3_4_6) shapeCasts_S4x1024x16x2x2x2x16_S4x1024x2048

theorem layW_at (X : FVec Ideal S4x1024x2048 .bf16) (d : Fin 4) (k : Fin 1024) (h : Fin 16) (p a e : Fin 2) (i : Fin 16) :
    layW X (ix3 d k (⟨128 * h.val + 64 * p.val + 32 * a.val + 16 * e.val + i.val, by omega⟩ : Fin 2048)) =
      X (ix3 d k (⟨128 * h.val + 64 * a.val + 32 * e.val + 16 * p.val + i.val, by omega⟩ : Fin 2048)) := by
  pointwise [layW]
  blk_ext []

theorem front_at (W : FVec Ideal S4x1024x13312 .f32) (d : Fin 4) (k : Fin 1024) (x : Fin 2048) :
    (extractStridedSlice S4x1024x2048 ![0, 0, 0] (truncf .bf16 W bitsLt_bf16_f32) slices_S4x1024x13312_S4x1024x2048_0_0_0 : FVec Ideal S4x1024x2048 .bf16) (ix3 d k x) =
      W (ix3 d k (⟨x.val, by omega⟩ : Fin 13312)) := by
  pointwise

theorem written (c : Dev nD) (k : Fin 1024) (h : Fin 16) (p a e : Fin 2) (i : Fin 16) :
    V m c main_v8 (ix3 0 k (⟨128 * h.val + 64 * p.val + 32 * a.val + 16 * e.val + i.val, by omega⟩ : Fin 13312)) =
      m ((c : Thread nD τ).loc main_arg3) (ix3 0 k (⟨128 * h.val + 64 * a.val + 32 * e.val + 16 * p.val + i.val, by omega⟩ : Fin 13312)) := by
  refine Eq.trans ?_ ((layW_at (extractStridedSlice S4x1024x2048 ![0, 0, 0] (truncf .bf16 (m ((c : Thread nD τ).loc main_arg3)) bitsLt_bf16_f32) slices_S4x1024x13312_S4x1024x2048_0_0_0) 0 k h p a e i).trans (front_at (m ((c : Thread nD τ).loc main_arg3)) 0 k _))
  unfold V
  after_results
  exact Cert.Scatter.written scatter_S4x1024x13312_S1_S4x1024x2048_012_n_2_0 rfl rfl rfl _ _ (fun _ => rfl) _ _ _ _ _ rfl

theorem kept (c : Dev nD) (k : Fin 1024) (x : Fin 11264) :
    V m c main_v8 (ix3 0 k (⟨2048 + x.val, by omega⟩ : Fin 13312)) = m ((c : Thread nD τ).loc main_arg3) (ix3 0 k (⟨2048 + x.val, by omega⟩ : Fin 13312)) := by
  unfold V
  after_results
  exact Cert.Scatter.kept scatter_S4x1024x13312_S1_S4x1024x2048_012_n_2_0 rfl rfl rfl _ _ (fun _ => rfl) _ _ _ _ (Nat.le_add_right _ _)

/-! ## The scratch, carried along a row of the grid -/

/-- The normed and modulated token of a row of a block. -/
def tok (c : Dev nD) (q : ℕ) (hq : q < 2) (R : Fin 2048) (k : Fin 1024) : EReal :=
  hid (m ((c : Thread nD τ).loc main_arg0)) (m ((c : Thread nD τ).loc main_arg1)) (m ((c : Thread nD τ).loc main_arg2))
    ⟨(2048 * q + R.val) / 256, by omega⟩ ⟨(2048 * q + R.val) % 256, by omega⟩ k

theorem kh_eq (c : Dev nD) (t : Fin cfg0.N) (R : Fin 2048) (k : Fin 1024) :
    kh (iblk m c 0 t) (iblk m c 1 t) (iblk m c 2 t) (iblk m c 3 t) R k = tok m c (t.val / 13) (by have := tlt t; omega) R k := by
  unfold kh tok hid
  rw [b1, b2, b3]
  exact congrArg (fun v => nrm v _ _ _ k) (funext fun j => b0 m c t R j)

theorem first (c : Dev nD) (t : Fin cfg0.N) (h0 : t.val % 13 = 0) (R : Fin 2048) (k : Fin 1024) :
    (outsAt0 m c t.val t.isLt).2 (ix2 R k) = tok m c (t.val / 13) (by have := tlt t; omega) R k := by
  rw [outsAt0_A m c t h0]
  dsimp only
  refine (sout_A _ _ _ _ _ _ _ _ _ _ _ _ _ _ _ _ _ _ _ _ _ _ R k).trans ?_
  exact kh_eq m c t R k

theorem later (c : Dev nD) (t : Fin cfg0.N) (h0 : ¬t.val % 13 = 0) :
    (outsAt0 m c t.val t.isLt).2 = (outsAt0 m c (t.val - 1) (Nat.lt_of_le_of_lt (Nat.sub_le _ _) t.isLt)).2 := by
  rw [outsAt0_B m c t h0]
  rfl

theorem carried (c : Dev nD) (R : Fin 2048) (k : Fin 1024) : ∀ (n : ℕ) (hn : n < cfg0.N),
    (outsAt0 m c n hn).2 (ix2 R k) = tok m c (n / 13) (by have : n < 26 := hn; omega) R k := by
  intro n
  induction n using Nat.strong_induction_on with
  | _ n ih =>
    intro hn
    by_cases h0 : n % 13 = 0
    · exact first m c ⟨n, hn⟩ h0 R k
    · refine (congrFun (later m c ⟨n, hn⟩ h0) (ix2 R k)).trans ?_
      refine (ih (n - 1) (by omega) (by omega)).trans ?_
      have eq : (n - 1) / 13 = n / 13 := by omega
      simp only [eq]

theorem out_at (c : Dev nD) (t : Fin cfg0.N) (R : Fin 2048) (x : Fin 1024) :
    (outsAt0 m c t.val t.isLt).1 (ix3 0 R x) =
      (∑ k : Fin 1024, tok m c (t.val / 13) (by have := tlt t; omega) R k * (show EReal from V m c main_v8 (ix3 0 k (⟨1024 * (t.val % 13) + x.val, by omega⟩ : Fin 13312)))) *
        (if t.val % 13 = 0 then qs else 1) := by
  have ht := tlt t
  have e2 := (idx t).2.2.2.2.2.2
  by_cases h0 : t.val % 13 = 0
  · rw [outsAt0_A m c t h0]
    dsimp only
    refine (out_A _ _ _ _ _ _ _ _ _ _ _ _ _ _ _ _ _ _ _ _ _ _ R x).trans ?_
    exact congrArg₂ (fun p q : EReal => p * q) (Finset.sum_congr rfl fun k _ => congrArg₂ (fun p q : EReal => p * q) (kh_eq m c t R k) (b4 m c t k x)) (by rw [e2])
  · rw [outsAt0_B m c t h0]
    dsimp only
    refine (out_B _ _ _ _ _ _ _ _ _ _ _ _ _ _ _ _ _ _ _ _ _ _ _ R x).trans ?_
    refine congrArg₂ (fun p q : EReal => p * q) (Finset.sum_congr rfl fun k _ => congrArg₂ (fun p q : EReal => p * q) ?_ (b4 m c t k x)) (by rw [e2])
    have eq : (t.val - 1) / 13 = t.val / 13 := by omega
    refine (carried m c R k (t.val - 1) (Nat.lt_of_le_of_lt (Nat.sub_le _ _) t.isLt)).trans ?_
    simp only [eq]

/-! ## The result -/

theorem split (x : Fin 1024) : ∃ (H : Fin 8) (e g a : Fin 2) (i : Fin 16),
    x = ⟨128 * H.val + (64 * e.val + 32 * g.val + 16 * a.val + i.val), by omega⟩ :=
  ⟨⟨x.val / 128, by omega⟩, ⟨x.val / 64 % 2, by omega⟩, ⟨x.val / 32 % 2, by omega⟩, ⟨x.val / 16 % 2, by omega⟩, ⟨x.val % 16, by omega⟩,
    Fin.ext (by show x.val = 128 * (x.val / 128) + (64 * (x.val / 64 % 2) + 32 * (x.val / 32 % 2) + 16 * (x.val / 16 % 2) + x.val % 16); omega)⟩

/-- The reference's array at the kernel's arguments. -/
def arr (c : Dev nD) : FVec Ideal S1x4096x13312 .bf16 :=
  Cert.Ctx.all (m ((c : Thread nD τ).loc main_arg0)) (m ((c : Thread nD τ).loc main_arg1)) (m ((c : Thread nD τ).loc main_arg2)) (m ((c : Thread nD τ).loc main_arg3))

theorem wcol (c : Dev nD) (k : Fin 1024) (X Y : Fin 13312) (h : Fin 16) (e g a : Fin 2) (i : Fin 16)
    (hX : X.val = 128 * h.val + 64 * e.val + 32 * g.val + 16 * a.val + i.val) (hY : Y.val = 128 * h.val + 64 * g.val + 32 * a.val + 16 * e.val + i.val) :
    V m c main_v8 (ix3 0 k X) = m ((c : Thread nD τ).loc main_arg3) (ix3 0 k Y) := by
  have e1 : X = ⟨128 * h.val + 64 * e.val + 32 * g.val + 16 * a.val + i.val, by omega⟩ := Fin.ext hX
  have e2 : Y = ⟨128 * h.val + 64 * g.val + 32 * a.val + 16 * e.val + i.val, by omega⟩ := Fin.ext hY
  exact (congrArg (fun z => V m c main_v8 (ix3 0 k z)) e1).trans ((written m c k h e g a i).trans
    (congrArg (fun z => m ((c : Thread nD τ).loc main_arg3) (ix3 0 k z)) e2.symm))

theorem result_eq (c : Dev nD) : (dats m 0 c).arrAt 5 cfg0.N = arr m c := by
  refine (dats m 0 c).arrAt_eq_of_covers 5 (arr m c) (by decide +kernel) ?_
  intro t hf y
  blk_simp
  rw [after0_5]
  obtain ⟨R, x, rfl⟩ : ∃ (R : Fin 2048) (x : Fin 1024), y = ix3 0 R x := by
    idx_vars y
    obtain rfl : y0 = 0 := Subsingleton.elim _ _
    exact ⟨y1, y2, rfl⟩
  have ht := tlt t
  refine (out_at m c t R x).trans ?_
  have em : (win0_5.blk t).view.emb (ix3 0 R x) =
      ix3 0 (⟨2048 * (t.val / 13) + R.val, by omega⟩ : Fin 4096) (⟨1024 * (t.val % 13) + x.val, by omega⟩ : Fin 13312) := by
    blk_ext [idx t]
  refine Eq.trans ?_ (congrArg (arr m c) em).symm
  by_cases h0 : t.val % 13 = 0
  · obtain ⟨H, e, g, a, i, rfl⟩ := split x
    rw [if_pos h0]
    refine Eq.trans ?_ ((Cert.Ctx.all_q (m ((c : Thread nD τ).loc main_arg0)) (m ((c : Thread nD τ).loc main_arg1)) (m ((c : Thread nD τ).loc main_arg2)) (m ((c : Thread nD τ).loc main_arg3)) (⟨2048 * (t.val / 13) + R.val, by omega⟩ : Fin 4096) H e g a i).symm.trans ?_)
    · refine congrArg (fun z : EReal => z * qs) (Finset.sum_congr rfl fun k _ => congrArg (fun q : EReal => tok m c (t.val / 13) (by omega) R k * q) ?_)
      exact wcol m c k _ _ ⟨H.val, by omega⟩ e g a i (by simp only [h0]; omega) (by simp only []; omega)
    · exact congrArg (fun z => arr m c (ix3 0 (⟨2048 * (t.val / 13) + R.val, by omega⟩ : Fin 4096) z)) (Fin.ext (by simp only [h0]; omega))
  · rw [if_neg h0, mul_one]
    by_cases h1 : t.val % 13 = 1
    · obtain ⟨H, e, g, a, i, rfl⟩ := split x
      refine Eq.trans ?_ ((Cert.Ctx.all_k (m ((c : Thread nD τ).loc main_arg0)) (m ((c : Thread nD τ).loc main_arg1)) (m ((c : Thread nD τ).loc main_arg2)) (m ((c : Thread nD τ).loc main_arg3)) (⟨2048 * (t.val / 13) + R.val, by omega⟩ : Fin 4096) H e g a i).symm.trans ?_)
      · refine Finset.sum_congr rfl fun k _ => congrArg (fun q : EReal => tok m c (t.val / 13) (by omega) R k * q) ?_
        exact wcol m c k _ _ ⟨8 + H.val, by omega⟩ e g a i (by simp only [h1]; omega) (by simp only []; omega)
      · exact congrArg (fun z => arr m c (ix3 0 (⟨2048 * (t.val / 13) + R.val, by omega⟩ : Fin 4096) z)) (Fin.ext (by simp only [h1]))
    · obtain ⟨X, hX⟩ : ∃ X : Fin 11264, 1024 * (t.val % 13) + x.val = 2048 + X.val := ⟨⟨1024 * (t.val % 13) + x.val - 2048, by omega⟩, by simp only []; omega⟩
      simp only [hX]
      refine Eq.trans ?_ (Cert.Ctx.all_rest (m ((c : Thread nD τ).loc main_arg0)) (m ((c : Thread nD τ).loc main_arg1)) (m ((c : Thread nD τ).loc main_arg2)) (m ((c : Thread nD τ).loc main_arg3)) (⟨2048 * (t.val / 13) + R.val, by omega⟩ : Fin 4096) X).symm
      exact Finset.sum_congr rfl fun k _ => congrArg (fun q : EReal => tok m c (t.val / 13) (by omega) R k * q) (kept m c k X)

end Cert.Kernel5Ideal.Ctx

end
-- ==== Proof.lean ====
/- The proof of the certificate's claim: the frames from the generated legs, the value claim from the module that
   joins the kernel's array with the reference's. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel5.Frame
public import proofs.«01_k».proof.Proof.Gen.Kernel4Ideal.Value
public import proofs.«01_k».proof.Proof.Gen.Kernel5Ideal.Value
public import proofs.«01_k».proof.Proof.Gen.Reference4Ideal.Run
public import proofs.«01_k».proof.Proof.Gen.Reference5Ideal.Run
public import proofs.«01_k».proof.Proof.Pre
public import proofs.«01_k».proof.Proof.Meet
public import proofs.«01_k».proof.Proof.Rest
public import proofs.«01_k».proof.Proof.PreGate
public import proofs.«01_k».proof.Proof.Gather
public import proofs.«01_k».proof.Proof.Turn
public import proofs.«01_k».proof.Proof.Ctx
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result as the run states it. -/
theorem kernel_result (m : (ℓ : Loc Cert.KernelIdeal.nD Cert.KernelIdeal.τ Cert.KernelIdeal.sig) → Buf (Elt Ideal) ℓ) (c : Dev Cert.KernelIdeal.nD) :
    Cert.KernelIdeal.Value.G11 m c = Cert.KernelIdeal.Attn.karr m c :=
  (Cert.KernelIdeal.Value.final11 m c).symm.trans (Cert.KernelIdeal.Attn.result_eq m c)

theorem algebraic : algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨a0, a1, a2, a3, a4, a5⟩ := hagree c
  obtain ⟨p0, p1, p2, p3, p4⟩ := Cert.Pre_finite.Read.reals _ _ _ _ _ _ (hpre c)
  rw [(h c).1, Cert.ReferenceIdeal.Attn.result, a0, a1, a2, a3, a4, a5]
  exact ((kernel_result m c).trans (Cert.KernelIdeal.Attn.karr_eq m c p0 p1 p2 p3 p4)).symm

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic2 : algebraic_Kernel2Ideal_Reference2Ideal := by
  intro m ρ m' ρ' hpre hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  obtain ⟨a0, a1⟩ := hagree c
  rw [(h c).1, Cert.Kernel2Ideal.Rest.result_eq]
  funext i
  obtain ⟨b, R, x, rfl⟩ : ∃ (b : Fin 16) (R : Fin 2048) (x : Fin 11264), i = ix3 b R x := by
    idx_vars i
    exact ⟨i0, i1, i2, rfl⟩
  refine (Cert.Kernel2Ideal.Rest.ref_at (m' ((c.tc : Thread Cert.Reference2Ideal.nD Cert.Reference2Ideal.τ).loc Cert.Reference2Ideal.main_arg0))
    (m' ((c.tc : Thread Cert.Reference2Ideal.nD Cert.Reference2Ideal.τ).loc Cert.Reference2Ideal.main_arg1)) b R x).trans ?_
  rw [a0, a1]
  rfl

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic3 : algebraic_Kernel3Ideal_Reference3Ideal_pre_finite_gate := by
  intro m ρ m' ρ' hpre hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  obtain ⟨a0, a1, a2, a3, a4, a5, a6, a7, a8, a9, a10⟩ := hagree c
  rw [(h c).1, Cert.Kernel3Ideal.Merge.result_eq m c (fun b R k => Cert.Pre_finite_gate.Read.reals _ _ _ _ _ _ _ _ _ _ _ (hpre c) b R k),
    Cert.Merge.res_eq, a0, a1, a2, a3, a4, a5, a6, a7, a8, a9, a10]
  funext i
  obtain ⟨b, R, k, rfl⟩ : ∃ (b : Fin 16) (R : Fin 2048) (k : Fin 1024), i = ix3 b R k := by
    idx_vars i
    exact ⟨i0, i1, i2, rfl⟩
  exact Cert.Merge.final_at _ _ _ _ _ _ _ _ _ _ _ b R k

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic4 : algebraic_Kernel4Ideal_Reference4Ideal := by
  intro m ρ m' ρ' hpre hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  obtain ⟨a0, a1⟩ := hagree c
  rw [(h c).1, Cert.Kernel4Ideal.Turn.result_eq, Cert.Rope.res_eq, a0, a1]

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic5 : algebraic_Kernel5Ideal_Reference5Ideal := by
  intro m ρ m' ρ' hpre hagree
  refine ⟨_, Cert.Kernel5Ideal.Value.run_blocks (F := Ideal) m ρ, ?_⟩
  refine (θ_run Cert.Reference5Ideal.defs _ _).mono (fun _ h c => ⟨?_, (h c).2⟩) (Cert.Reference5Ideal.Value.run (F := Ideal) m' ρ')
  obtain ⟨a0, a1, a2, a3⟩ := hagree c
  rw [(h c).1, Cert.Kernel5Ideal.Ctx.result_eq, Cert.Ctx.res_eq, a0, a1, a2, a3]
  rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_finite.Read.facts, Cert.Pre_finite_gate.Read.facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, fun m ρ _ => Cert.Kernel3Ideal.Gen.frame m ρ,
  quiescent_Reference3Ideal, fun m ρ _ => quiescent_Reference3Ideal m ρ trivial,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  (trivial : preserves_Kernel_KernelIdeal), algebraic, (trivial : preserves_Kernel2_Kernel2Ideal), algebraic2,
  (IdealRules.shift_out.by16TwiceStatement _ : preserves_Kernel3_Kernel3Ideal), algebraic3,
  (trivial : preserves_Kernel4_Kernel4Ideal), algebraic4,
  (trivial : preserves_Kernel5_Kernel5Ideal), algebraic5⟩

end Cert.Proof

end
